-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v22)) (v1 : (c : Dev Cert.Kernel4Ideal.nD) → Buf (Elt Ideal) ((c.tc : Thread Cert.Kernel4Ideal.nD Cert.Kernel4Ideal.τ).loc Cert.Kernel4Ideal.main_v23)) (v2 : (c : Dev Cert.Kernel4Ideal.nD) → Buf (Elt Ideal) ((c.tc : Thread Cert.Kernel4Ideal.nD Cert.Kernel4Ideal.τ).loc Cert.Kernel4Ideal.main_v24)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_v23) = v1 c
          ∧ r.2.mem ((c.tc : Thread Cert.Kernel4Ideal.nD Cert.Kernel4Ideal.τ).loc Cert.Kernel4Ideal.main_v24) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v16_0)) (v1 : (c : Dev Cert.Kernel7Ideal.nD) → Buf (Elt Ideal) ((c.tc : Thread Cert.Kernel7Ideal.nD Cert.Kernel7Ideal.τ).loc Cert.Kernel7Ideal.main_v16_1)) (v2 : (c : Dev Cert.Kernel7Ideal.nD) → Buf (Elt Ideal) ((c.tc : Thread Cert.Kernel7Ideal.nD Cert.Kernel7Ideal.τ).loc Cert.Kernel7Ideal.main_v16_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16_0) = v0 c
          ∧ r.2.mem ((c.tc : Thread Cert.Kernel7Ideal.nD Cert.Kernel7Ideal.τ).loc Cert.Kernel7Ideal.main_v16_1) = v1 c
          ∧ r.2.mem ((c.tc : Thread Cert.Kernel7Ideal.nD Cert.Kernel7Ideal.τ).loc Cert.Kernel7Ideal.main_v16_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v40) = v1 c
          ∧ r.2.mem ((c.tc : Thread Cert.Reference7Ideal.nD Cert.Reference7Ideal.τ).loc Cert.Reference7Ideal.main_v39) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v14_0)) (v1 : (c : Dev Cert.Kernel9Ideal.nD) → Buf (Elt Ideal) ((c.tc : Thread Cert.Kernel9Ideal.nD Cert.Kernel9Ideal.τ).loc Cert.Kernel9Ideal.main_v14_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14_0) = v0 c
          ∧ r.2.mem ((c.tc : Thread Cert.Kernel9Ideal.nD Cert.Kernel9Ideal.τ).loc Cert.Kernel9Ideal.main_v14_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S8x2048x2048 : Shape := ⟨3, ![8, 2048, 2048]⟩
abbrev S4x1024 : Shape := ⟨2, ![4, 1024]⟩
abbrev S1024 : Shape := ⟨1, ![1024]⟩
abbrev S8x128x128 : Shape := ⟨3, ![8, 128, 128]⟩
abbrev S16384x2048 : Shape := ⟨2, ![16384, 2048]⟩
abbrev S1x1024 : Shape := ⟨2, ![1, 1024]⟩
abbrev S16384x1024 : Shape := ⟨2, ![16384, 1024]⟩
abbrev S512x1024 : Shape := ⟨2, ![512, 1024]⟩
abbrev S8x1024 : Shape := ⟨2, ![8, 1024]⟩
abbrev S520x1024 : Shape := ⟨2, ![520, 1024]⟩
abbrev S512x128 : Shape := ⟨2, ![512, 128]⟩
abbrev S1x128x128 : Shape := ⟨3, ![1, 128, 128]⟩
abbrev S128x128 : Shape := ⟨2, ![128, 128]⟩
abbrev S64x8x1024 : Shape := ⟨3, ![64, 8, 1024]⟩
abbrev S1x8x1024 : Shape := ⟨3, ![1, 8, 1024]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S16384x2048, .f32⟩
  | .hbm, ⟨10, _⟩ => ⟨S1x1024, .f32⟩
  | .hbm, ⟨11, _⟩ => ⟨S8x128x128, .bf16⟩
  | .hbm, ⟨12, _⟩ => ⟨S1x1024, .f32⟩
  | .hbm, ⟨13, _⟩ => ⟨S8x128x128, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x1024, .f32⟩
  | .local _ .vmem, ⟨5, _⟩ => ⟨S1x1024, .f32⟩
  | .local _ .vmem, ⟨6, _⟩ => ⟨S8x128x128, .bf16⟩
  | .local _ .vmem, ⟨7, _⟩ => ⟨S1x1024, .f32⟩
  | .local _ .vmem, ⟨8, _⟩ => ⟨S8x128x128, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | .local _ .vmem, ⟨15, _⟩ => ⟨S1x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x2048x2048 : Shape := ⟨3, ![8, 2048, 2048]⟩
abbrev S4x1024 : Shape := ⟨2, ![4, 1024]⟩
abbrev S1024 : Shape := ⟨1, ![1024]⟩
abbrev S8x128x128 : Shape := ⟨3, ![8, 128, 128]⟩
abbrev S8x2048x1024 : Shape := ⟨3, ![8, 2048, 1024]⟩
abbrev S_ : Shape := ⟨0, ![]⟩
abbrev S8x2051x1024 : Shape := ⟨3, ![8, 2051, 1024]⟩
abbrev S1x1024 : Shape := ⟨2, ![1, 1024]⟩
abbrev S1x1x1024 : Shape := ⟨3, ![1, 1, 1024]⟩
abbrev S8x2048x8x128 : Shape := ⟨4, ![8, 2048, 8, 128]⟩
abbrev S8x128x8x2048 : Shape := ⟨4, ![8, 128, 8, 2048]⟩
abbrev S8x1024 : Shape := ⟨2, ![8, 1024]⟩
abbrev S2048x8x1024 : Shape := ⟨3, ![2048, 8, 1024]⟩
abbrev S1x8x1024 : Shape := ⟨3, ![1, 8, 1024]⟩
abbrev S8x2048 : Shape := ⟨2, ![8, 2048]⟩
abbrev S8x2048x1 : Shape := ⟨3, ![8, 2048, 1]⟩
abbrev S16384x1024 : Shape := ⟨2, ![16384, 1024]⟩

abbrev nBuf : Space → Nat
  | .hbm => 170
  | .vmem => 0
  | .smem => 0
  | _ => 0

abbrev hbmTy0_0 (i : Nat) : BufTy := match i % 128 with
  | 0 => ⟨S8x2048x2048, .f32⟩
  | 1 => ⟨S4x1024, .f32⟩
  | 2 => ⟨S1024, .f32⟩
  | 3 => ⟨S8x128x128, .f32⟩
  | 4 => ⟨S1024, .f32⟩
  | 5 => ⟨S8x128x128, .f32⟩
  | 6 => ⟨S1024, .f32⟩
  | 7 => ⟨S1024, .f32⟩
  | 8 => ⟨S1024, .f32⟩
  | 9 => ⟨S8x2048x1024, .f32⟩
  | 10 => ⟨S_, .i32⟩
  | 11 => ⟨S_, .f32⟩
  | 12 => ⟨S8x2051x1024, .f32⟩
  | 13 => ⟨S8x2048x1024, .f32⟩
  | 14 => ⟨S1x1024, .f32⟩
  | 15 => ⟨S1024, .f32⟩
  | 16 => ⟨S1x1x1024, .f32⟩
  | 17 => ⟨S8x2048x1024, .f32⟩
  | 18 => ⟨S8x2048x1024, .f32⟩
  | 19 => ⟨S1x1x1024, .f32⟩
  | 20 => ⟨S8x2048x1024, .f32⟩
  | 21 => ⟨S8x2048x1024, .f32⟩
  | 22 => ⟨S8x2048x1024, .f32⟩
  | 23 => ⟨S1x1024, .f32⟩
  | 24 => ⟨S1024, .f32⟩
  | 25 => ⟨S1x1x1024, .f32⟩
  | 26 => ⟨S8x2048x1024, .f32⟩
  | 27 => ⟨S8x2048x1024, .f32⟩
  | 28 => ⟨S8x2048x1024, .f32⟩
  | 29 => ⟨S8x2048x1024, .f32⟩
  | 30 => ⟨S1x1024, .f32⟩
  | 31 => ⟨S1024, .f32⟩
  | 32 => ⟨S1x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S1x1024, .f32⟩
  | 38 => ⟨S1024, .f32⟩
  | 39 => ⟨S1x1x1024, .f32⟩
  | 40 => ⟨S8x2048x1024, .f32⟩
  | 41 => ⟨S8x2048x1024, .f32⟩
  | 42 => ⟨S8x2048x1024, .f32⟩
  | 43 => ⟨S8x2048x8x128, .f32⟩
  | 44 => ⟨S8x128x8x2048, .f32⟩
  | 45 => ⟨S8x2048x8x128, .f32⟩
  | 46 => ⟨S8x2048x1024, .f32⟩
  | 47 => ⟨S1x1x1024, .f32⟩
  | 48 => ⟨S8x2048x1024, .f32⟩
  | 49 => ⟨S8x2048x1024, .f32⟩
  | 50 => ⟨S8x2048x1024, .f32⟩
  | 51 => ⟨S8x2048x1024, .f32⟩
  | 52 => ⟨S_, .f32⟩
  | 53 => ⟨S8x2048x1024, .f32⟩
  | 54 => ⟨S8x2048x1024, .f32⟩
  | 55 => ⟨S_, .f32⟩
  | 56 => ⟨S8x2048x1024, .f32⟩
  | 57 => ⟨S8x2048x1024, .f32⟩
  | 58 => ⟨S8x128x8x2048, .f32⟩
  | 59 => ⟨S8x2048x8x128, .f32⟩
  | 60 => ⟨S8x2048x1024, .f32⟩
  | 61 => ⟨S1x1x1024, .f32⟩
  | 62 => ⟨S8x2048x1024, .f32⟩
  | 63 => ⟨S8x2048x1024, .f32⟩
  | 64 => ⟨S8x2048x1024, .f32⟩
  | 65 => ⟨S8x2048x1024, .f32⟩
  | 66 => ⟨S_, .f32⟩
  | 67 => ⟨S8x2048x1024, .f32⟩
  | 68 => ⟨S8x2048x1024, .f32⟩
  | 69 => ⟨S_, .f32⟩
  | 70 => ⟨S8x2048x1024, .f32⟩
  | 71 => ⟨S8x2048x1024, .f32⟩
  | 72 => ⟨S_, .f32⟩
  | 73 => ⟨S8x2048x1024, .f32⟩
  | 74 => ⟨S8x2048x1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S1024, .f32⟩
  | 81 => ⟨S1024, .i1⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1x1x1024, .f32⟩
  | 91 => ⟨S8x2048x1024, .f32⟩
  | 92 => ⟨S8x2048x1024, .f32⟩
  | 93 => ⟨S8x2048x1024, .f32⟩
  | 94 => ⟨S_, .f32⟩
  | 95 => ⟨S8x2048x1024, .f32⟩
  | 96 => ⟨S8x2048x1024, .f32⟩
  | 97 => ⟨S8x2048x1024, .f32⟩
  | 98 => ⟨S8x2048x1024, .f32⟩
  | 99 => ⟨S8x2048x1024, .f32⟩
  | 100 => ⟨S8x2048x1024, .f32⟩
  | 101 => ⟨S8x2048x1024, .f32⟩
  | 102 => ⟨S_, .f32⟩
  | 103 => ⟨S8x1024, .f32⟩
  | 104 => ⟨S2048x8x1024, .f32⟩
  | 105 => ⟨S2048x8x1024, .f32⟩
  | 106 => ⟨S_, .f32⟩
  | 107 => ⟨S2048x8x1024, .f32⟩
  | 108 => ⟨S_, .i32⟩
  | 109 => ⟨S2048x8x1024, .f32⟩
  | 110 => ⟨S2048x8x1024, .f32⟩
  | 111 => ⟨S_, .i32⟩
  | 112 => ⟨S8x1024, .f32⟩
  | 113 => ⟨S2048x8x1024, .f32⟩
  | 114 => ⟨S_, .i32⟩
  | 115 => ⟨S_, .i1⟩
  | 116 => ⟨S_, .i32⟩
  | 117 => ⟨S_, .i32⟩
  | 118 => ⟨S1x8x1024, .f32⟩
  | 119 => ⟨S8x1024, .f32⟩
  | 120 => ⟨S_, .i32⟩
  | 121 => ⟨S_, .i32⟩
  | 122 => ⟨S1x8x1024, .f32⟩
  | 123 => ⟨S8x1024, .f32⟩
  | 124 => ⟨S8x1024, .f32⟩
  | 125 => ⟨S8x1024, .f32⟩
  | 126 => ⟨S1x8x1024, .f32⟩
  | 127 => ⟨S_, .i32⟩
  | _ => ⟨S8x2048x2048, .f32⟩

abbrev hbmTy0_1 (i : Nat) : BufTy := match i % 128 with
  | 0 => ⟨S_, .i32⟩
  | 1 => ⟨S2048x8x1024, .f32⟩
  | 2 => ⟨S_, .i32⟩
  | 3 => ⟨S_, .i32⟩
  | 4 => ⟨S8x2048x1024, .f32⟩
  | 5 => ⟨S8x2048x1024, .f32⟩
  | 6 => ⟨S8x2048x1024, .f32⟩
  | 7 => ⟨S8x2048x1024, .f32⟩
  | 8 => ⟨S_, .f32⟩
  | 9 => ⟨S8x2048x1024, .f32⟩
  | 10 => ⟨S8x2048x1024, .f32⟩
  | 11 => ⟨S8x2048x1024, .f32⟩
  | 12 => ⟨S_, .f32⟩
  | 13 => ⟨S8x2048x1024, .f32⟩
  | 14 => ⟨S8x2048x1024, .f32⟩
  | 15 => ⟨S8x2048x1024, .f32⟩
  | 16 => ⟨S_, .f32⟩
  | 17 => ⟨S8x2048x1024, .f32⟩
  | 18 => ⟨S8x2048x1024, .f32⟩
  | 19 => ⟨S_, .f32⟩
  | 20 => ⟨S8x2048x1024, .f32⟩
  | 21 => ⟨S8x2048x1024, .f32⟩
  | 22 => ⟨S8x2048x1024, .f32⟩
  | 23 => ⟨S8x2048x1024, .f32⟩
  | 24 => ⟨S8x2048x1024, .f32⟩
  | 25 => ⟨S_, .f32⟩
  | 26 => ⟨S8x2048, .f32⟩
  | 27 => ⟨S8x2048x1, .f32⟩
  | 28 => ⟨S_, .f32⟩
  | 29 => ⟨S8x2048x1, .f32⟩
  | 30 => ⟨S8x2048x1, .f32⟩
  | 31 => ⟨S_, .f32⟩
  | 32 => ⟨S8x2048x1, .f32⟩
  | 33 => ⟨S8x2048x1, .f32⟩
  | 34 => ⟨S8x2048x1, .f32⟩
  | 35 => ⟨S8x2048x1024, .f32⟩
  | 36 => ⟨S8x2048x1024, .f32⟩
  | 37 => ⟨S1x1x1024, .f32⟩
  | 38 => ⟨S8x2048x1024, .f32⟩
  | 39 => ⟨S8x2048x1024, .f32⟩
  | 40 => ⟨S8x2048x1024, .bf16⟩
  | 41 => ⟨S16384x1024, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_v41 : Ref sig .tc := ⟨.hbm, 53, rfl⟩
abbrev main_v42 : Ref sig .tc := ⟨.hbm, 54, rfl⟩
abbrev main_cst_0 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_1 : Ref sig .tc := ⟨.hbm, 66, rfl⟩
abbrev main_v53 : Ref sig .tc := ⟨.hbm, 67, rfl⟩
abbrev main_v54 : Ref sig .tc := ⟨.hbm, 68, rfl⟩
abbrev main_cst_2 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_4 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_5 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_6 : Ref sig .tc := ⟨.hbm, 106, rfl⟩
abbrev main_v75 : Ref sig .tc := ⟨.hbm, 107, rfl⟩
abbrev main_c_7 : Ref sig .tc := ⟨.hbm, 108, rfl⟩
abbrev main_v76_0 : Ref sig .tc := ⟨.hbm, 109, rfl⟩
abbrev main_v76_1 : Ref sig .tc := ⟨.hbm, 110, rfl⟩
abbrev main_v76_2 : Ref sig .tc := ⟨.hbm, 111, rfl⟩
abbrev main_v76_3 : Ref sig .tc := ⟨.hbm, 112, rfl⟩
abbrev main_v76_4 : Ref sig .tc := ⟨.hbm, 113, rfl⟩
abbrev main_while0c_c_19 : Ref sig .tc := ⟨.hbm, 114, rfl⟩
abbrev main_while0c_v108 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_v0 : Ref sig .tc := ⟨.hbm, 118, rfl⟩
abbrev main_while0b_v108 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_v0 : Ref sig .tc := ⟨.hbm, 122, rfl⟩
abbrev main_while0b_v109 : Ref sig .tc := ⟨.hbm, 123, rfl⟩
abbrev main_while0b_v110 : Ref sig .tc := ⟨.hbm, 124, rfl⟩
abbrev main_while0b_v111 : Ref sig .tc := ⟨.hbm, 125, rfl⟩
abbrev main_while0b_call4_v0 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_v112 : Ref sig .tc := ⟨.hbm, 129, rfl⟩
abbrev main_while0b_c_19 : Ref sig .tc := ⟨.hbm, 130, rfl⟩
abbrev main_while0b_v113 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_8 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_cst_9 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_10 : Ref sig .tc := ⟨.hbm, 144, rfl⟩
abbrev main_v87 : Ref sig .tc := ⟨.hbm, 145, rfl⟩
abbrev main_v88 : Ref sig .tc := ⟨.hbm, 146, rfl⟩
abbrev main_cst_11 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_12 : Ref sig .tc := ⟨.hbm, 153, rfl⟩
abbrev main_v94 : Ref sig .tc := ⟨.hbm, 154, rfl⟩
abbrev main_v95 : Ref sig .tc := ⟨.hbm, 155, rfl⟩
abbrev main_cst_13 : Ref sig .tc := ⟨.hbm, 156, rfl⟩
abbrev main_v96 : Ref sig .tc := ⟨.hbm, 157, rfl⟩
abbrev main_v97 : Ref sig .tc := ⟨.hbm, 158, rfl⟩
abbrev main_cst_14 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8x2048x4096 : Shape := ⟨3, ![8, 2048, 4096]⟩
abbrev S2x4096 : Shape := ⟨2, ![2, 4096]⟩
abbrev S2x4096x22016 : Shape := ⟨3, ![2, 4096, 22016]⟩
abbrev S2x11008x4096 : Shape := ⟨3, ![2, 11008, 4096]⟩
abbrev S16384x4096 : Shape := ⟨2, ![16384, 4096]⟩
abbrev S1x16384x128 : Shape := ⟨3, ![1, 16384, 128]⟩
abbrev S512x4096 : Shape := ⟨2, ![512, 4096]⟩
abbrev S1x512x128 : Shape := ⟨3, ![1, 512, 128]⟩
abbrev S512x128 : Shape := ⟨2, ![512, 128]⟩
abbrev S1x4096 : Shape := ⟨2, ![1, 4096]⟩
abbrev S4096 : Shape := ⟨1, ![4096]⟩
abbrev S4096x1 : Shape := ⟨2, ![4096, 1]⟩
abbrev S4096x128 : Shape := ⟨2, ![4096, 128]⟩
abbrev S16384x11008 : Shape := ⟨2, ![16384, 11008]⟩
abbrev S11008x4096 : Shape := ⟨2, ![11008, 4096]⟩
abbrev S2048x4096 : Shape := ⟨2, ![2048, 4096]⟩
abbrev S1x2048x128 : Shape := ⟨3, ![1, 2048, 128]⟩
abbrev S1x4096x256 : Shape := ⟨3, ![1, 4096, 256]⟩
abbrev S1x32x4096 : Shape := ⟨3, ![1, 32, 4096]⟩
abbrev S2048x256 : Shape := ⟨2, ![2048, 256]⟩
abbrev S32x4096 : Shape := ⟨2, ![32, 4096]⟩
abbrev S4096x256 : Shape := ⟨2, ![4096, 256]⟩
abbrev S256x4096 : Shape := ⟨2, ![256, 4096]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 13
  | .vmem => 21
  | .smem => 0
  | _ => 0

abbrev bufTy : (tb : Table) → Fin (tcTables nBuf tb) → BufTy
  | .hbm, ⟨0, _⟩ => ⟨S8x2048x4096, .f32⟩
  | .hbm, ⟨1, _⟩ => ⟨S2x4096, .f32⟩
  | .hbm, ⟨2, _⟩ => ⟨S2x4096x22016, .f32⟩
  | .hbm, ⟨3, _⟩ => ⟨S2x11008x4096, .f32⟩
  | .hbm, ⟨4, _⟩ => ⟨S16384x4096, .f32⟩
  | .hbm, ⟨5, _⟩ => ⟨S16384x4096, .bf16⟩
  | .hbm, ⟨6, _⟩ => ⟨S1x16384x128, .f32⟩
  | .hbm, ⟨7, _⟩ => ⟨S1x4096, .f32⟩
  | .hbm, ⟨8, _⟩ => ⟨S4096, .f32⟩
  | .hbm, ⟨9, _⟩ => ⟨S4096x1, .f32⟩
  | .hbm, ⟨10, _⟩ => ⟨S4096x128, .f32⟩
  | .hbm, ⟨11, _⟩ => ⟨S16384x11008, .bf16⟩
  | .hbm, ⟨12, _⟩ => ⟨S11008x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x512x128, .f32⟩
  | .local _ .vmem, ⟨5, _⟩ => ⟨S1x512x128, .f32⟩
  | .local _ .vmem, ⟨6, _⟩ => ⟨S2048x4096, .bf16⟩
  | .local _ .vmem, ⟨7, _⟩ => ⟨S2048x4096, .bf16⟩
  | .local _ .vmem, ⟨8, _⟩ => ⟨S1x2048x128, .f32⟩
  | .local _ .vmem, ⟨9, _⟩ => ⟨S1x2048x128, .f32⟩
  | .local _ .vmem, ⟨10, _⟩ => ⟨S4096x128, .f32⟩
  | .local _ .vmem, ⟨11, _⟩ => ⟨S1x4096x256, .f32⟩
  | .local _ .vmem, ⟨12, _⟩ => ⟨S1x4096x256, .f32⟩
  | .local _ .vmem, ⟨13, _⟩ => ⟨S1x4096x256, .f32⟩
  | .local _ .vmem, ⟨14, _⟩ => ⟨S1x4096x256, .f32⟩
  | .local _ .vmem, ⟨15, _⟩ => ⟨S1x32x4096, .f32⟩
  | .local _ .vmem, ⟨16, _⟩ => ⟨S1x32x4096, .f32⟩
  | .local _ .vmem, ⟨17, _⟩ => ⟨S2048x256, .bf16⟩
  | .local _ .vmem, ⟨18, _⟩ => ⟨S2048x256, .bf16⟩
  | .local _ .vmem, ⟨19, _⟩ => ⟨S32x4096, .bf16⟩
  | .local _ .vmem, ⟨20, _⟩ => ⟨S32x4096, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_4 (i : grid1.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc1_transform_5 (i : grid1.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x32x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S32x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== Reference2Ideal.lean ====
abbrev S8x2048x4096 : Shape := ⟨3, ![8, 2048, 4096]⟩
abbrev S2x4096 : Shape := ⟨2, ![2, 4096]⟩
abbrev S2x4096x22016 : Shape := ⟨3, ![2, 4096, 22016]⟩
abbrev S2x11008x4096 : Shape := ⟨3, ![2, 11008, 4096]⟩
abbrev S1x4096 : Shape := ⟨2, ![1, 4096]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S1x4096x22016 : Shape := ⟨3, ![1, 4096, 22016]⟩
abbrev S4096x22016 : Shape := ⟨2, ![4096, 22016]⟩
abbrev S8x2048x22016 : Shape := ⟨3, ![8, 2048, 22016]⟩
abbrev S8x2048x11008 : Shape := ⟨3, ![8, 2048, 11008]⟩
abbrev S16384x11008 : Shape := ⟨2, ![16384, 11008]⟩
abbrev S1x11008x4096 : Shape := ⟨3, ![1, 11008, 4096]⟩
abbrev S11008x4096 : Shape := ⟨2, ![11008, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S2x4096, .f32⟩
  | .hbm, ⟨2, _⟩ => ⟨S2x4096x22016, .f32⟩
  | .hbm, ⟨3, _⟩ => ⟨S2x11008x4096, .f32⟩
  | .hbm, ⟨4, _⟩ => ⟨S1x4096, .f32⟩
  | .hbm, ⟨5, _⟩ => ⟨S4096, .f32⟩
  | .hbm, ⟨6, _⟩ => ⟨S8x2048x4096, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x4096, .f32⟩
  | .hbm, ⟨18, _⟩ => ⟨S8x2048x4096, .f32⟩
  | .hbm, ⟨19, _⟩ => ⟨S1x1x4096, .f32⟩
  | .hbm, ⟨20, _⟩ => ⟨S8x2048x4096, .f32⟩
  | .hbm, ⟨21, _⟩ => ⟨S8x2048x4096, .f32⟩
  | .hbm, ⟨22, _⟩ => ⟨S1x4096x22016, .f32⟩
  | .hbm, ⟨23, _⟩ => ⟨S4096x22016, .f32⟩
  | .hbm, ⟨24, _⟩ => ⟨S8x2048x22016, .f32⟩
  | .hbm, ⟨25, _⟩ => ⟨S8x2048x11008, .f32⟩
  | .hbm, ⟨26, _⟩ => ⟨S8x2048x11008, .f32⟩
  | .hbm, ⟨27, _⟩ => ⟨S8x2048x11008, .f32⟩
  | .hbm, ⟨28, _⟩ => ⟨S8x2048x11008, .f32⟩
  | .hbm, ⟨29, _⟩ => ⟨S_, .f32⟩
  | .hbm, ⟨30, _⟩ => ⟨S8x2048x11008, .f32⟩
  | .hbm, ⟨31, _⟩ => ⟨S8x2048x11008, .f32⟩
  | .hbm, ⟨32, _⟩ => ⟨S_, .f32⟩
  | .hbm, ⟨33, _⟩ => ⟨S8x2048x11008, .f32⟩
  | .hbm, ⟨34, _⟩ => ⟨S8x2048x11008, .f32⟩
  | .hbm, ⟨35, _⟩ => ⟨S8x2048x11008, .f32⟩
  | .hbm, ⟨36, _⟩ => ⟨S8x2048x11008, .f32⟩
  | .hbm, ⟨37, _⟩ => ⟨S16384x11008, .f32⟩
  | .hbm, ⟨38, _⟩ => ⟨S16384x11008, .bf16⟩
  | .hbm, ⟨39, _⟩ => ⟨S1x11008x4096, .f32⟩
  | .hbm, ⟨40, _⟩ => ⟨S11008x4096, .f32⟩
  | .hbm, ⟨41, _⟩ => ⟨S11008x4096, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel3.lean ====
abbrev S8x2048x11008 : Shape := ⟨3, ![8, 2048, 11008]⟩
abbrev S11008x4096 : Shape := ⟨2, ![11008, 4096]⟩
abbrev S8x2048x4096 : Shape := ⟨3, ![8, 2048, 4096]⟩
abbrev S16384x11008 : Shape := ⟨2, ![16384, 11008]⟩
abbrev S16384x4096 : Shape := ⟨2, ![16384, 4096]⟩
abbrev S4x16384x128 : Shape := ⟨3, ![4, 16384, 128]⟩
abbrev S512x11008 : Shape := ⟨2, ![512, 11008]⟩
abbrev S5632x1024 : Shape := ⟨2, ![5632, 1024]⟩
abbrev S5376x1024 : Shape := ⟨2, ![5376, 1024]⟩
abbrev S512x1024 : Shape := ⟨2, ![512, 1024]⟩
abbrev S1x512x128 : Shape := ⟨3, ![1, 512, 128]⟩
abbrev S512x5632 : Shape := ⟨2, ![512, 5632]⟩
abbrev S512x5376 : Shape := ⟨2, ![512, 5376]⟩
abbrev S512x128 : Shape := ⟨2, ![512, 128]⟩

abbrev nBuf : Space → Nat
  | .hbm => 10
  | .vmem => 12
  | .smem => 0
  | _ => 0

abbrev bufTy : (tb : Table) → Fin (tcTables nBuf tb) → BufTy
  | .hbm, ⟨0, _⟩ => ⟨S8x2048x11008, .f32⟩
  | .hbm, ⟨1, _⟩ => ⟨S11008x4096, .f32⟩
  | .hbm, ⟨2, _⟩ => ⟨S8x2048x4096, .f32⟩
  | .hbm, ⟨3, _⟩ => ⟨S16384x11008, .f32⟩
  | .hbm, ⟨4, _⟩ => ⟨S16384x11008, .bf16⟩
  | .hbm, ⟨5, _⟩ => ⟨S11008x4096, .bf16⟩
  | .hbm, ⟨6, _⟩ => ⟨S16384x4096, .f32⟩
  | .hbm, ⟨7, _⟩ => ⟨S16384x4096, .f32⟩
  | .hbm, ⟨8, _⟩ => ⟨S16384x4096, .bf16⟩
  | .hbm, ⟨9, _⟩ => ⟨S4x16384x128, .f32⟩
  | .local _ .vmem, ⟨0, _⟩ => ⟨S512x11008, .bf16⟩
  | .local _ .vmem, ⟨1, _⟩ => ⟨S512x11008, .bf16⟩
  | .local _ .vmem, ⟨2, _⟩ => ⟨S5632x1024, .bf16⟩
  | .local _ .vmem, ⟨3, _⟩ => ⟨S5376x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x512x128, .f32⟩
  | .local _ .vmem, ⟨11, _⟩ => ⟨S1x512x128, .f32⟩
  | _, _ => ⟨S8x2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c5632_i32 : BitVec 32 := 5632#32
  let c0_i32 : BitVec 32 := 0#32
  ![c5632_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S5376x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x2048x11008 : Shape := ⟨3, ![8, 2048, 11008]⟩
abbrev S11008x4096 : Shape := ⟨2, ![11008, 4096]⟩
abbrev S8x2048x4096 : Shape := ⟨3, ![8, 2048, 4096]⟩
abbrev S_ : Shape := ⟨0, ![]⟩
abbrev S16384x4096 : Shape := ⟨2, ![16384, 4096]⟩
abbrev S16384x4x8x128 : Shape := ⟨4, ![16384, 4, 8, 128]⟩
abbrev S16384x4x128 : Shape := ⟨3, ![16384, 4, 128]⟩
abbrev S4x16384x128 : Shape := ⟨3, ![4, 16384, 128]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x11008, .f32⟩
  | .hbm, ⟨1, _⟩ => ⟨S11008x4096, .f32⟩
  | .hbm, ⟨2, _⟩ => ⟨S8x2048x4096, .f32⟩
  | .hbm, ⟨3, _⟩ => ⟨S8x2048x4096, .f32⟩
  | .hbm, ⟨4, _⟩ => ⟨S_, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S16384x4096, .f32⟩
  | .hbm, ⟨9, _⟩ => ⟨S16384x4096, .f32⟩
  | .hbm, ⟨10, _⟩ => ⟨S16384x4x8x128, .f32⟩
  | .hbm, ⟨11, _⟩ => ⟨S_, .f32⟩
  | .hbm, ⟨12, _⟩ => ⟨S16384x4x128, .f32⟩
  | .hbm, ⟨13, _⟩ => ⟨S4x16384x128, .f32⟩
  | .hbm, ⟨14, _⟩ => ⟨S16384x4096, .bf16⟩
  | _, _ => ⟨S8x2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S8x2048x4096 : Shape := ⟨3, ![8, 2048, 4096]⟩
abbrev S2x4096 : Shape := ⟨2, ![2, 4096]⟩
abbrev S2x4096x11272 : Shape := ⟨3, ![2, 4096, 11272]⟩
abbrev S16384x4096 : Shape := ⟨2, ![16384, 4096]⟩
abbrev S16384x4x8x128 : Shape := ⟨4, ![16384, 4, 8, 128]⟩
abbrev S_ : Shape := ⟨0, ![]⟩
abbrev S16384x4x128 : Shape := ⟨3, ![16384, 4, 128]⟩
abbrev S4x16384x128 : Shape := ⟨3, ![4, 16384, 128]⟩
abbrev S2x4096x1 : Shape := ⟨3, ![2, 4096, 1]⟩
abbrev S2x4096x2048 : Shape := ⟨3, ![2, 4096, 2048]⟩
abbrev S2x4096x1024 : Shape := ⟨3, ![2, 4096, 1024]⟩
abbrev S2x4096x5120 : Shape := ⟨3, ![2, 4096, 5120]⟩
abbrev S2x4096x4096 : Shape := ⟨3, ![2, 4096, 4096]⟩
abbrev S2x4096x6144 : Shape := ⟨3, ![2, 4096, 6144]⟩
abbrev S16384x2048 : Shape := ⟨2, ![16384, 2048]⟩
abbrev S1024x4096 : Shape := ⟨2, ![1024, 4096]⟩
abbrev S4x1024x128 : Shape := ⟨3, ![4, 1024, 128]⟩
abbrev S1x4096x1024 : Shape := ⟨3, ![1, 4096, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S4096x1024 : Shape := ⟨2, ![4096, 1024]⟩
abbrev S16384x3072 : Shape := ⟨2, ![16384, 3072]⟩
abbrev S16384x6144 : Shape := ⟨2, ![16384, 6144]⟩

abbrev nBuf : Space → Nat
  | .hbm => 31
  | .vmem => 24
  | .smem => 0
  | _ => 0

abbrev bufTy : (tb : Table) → Fin (tcTables nBuf tb) → BufTy
  | .hbm, ⟨0, _⟩ => ⟨S8x2048x4096, .f32⟩
  | .hbm, ⟨1, _⟩ => ⟨S2x4096, .f32⟩
  | .hbm, ⟨2, _⟩ => ⟨S2x4096x11272, .f32⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S16384x4x8x128, .f32⟩
  | .hbm, ⟨7, _⟩ => ⟨S_, .f32⟩
  | .hbm, ⟨8, _⟩ => ⟨S16384x4x128, .f32⟩
  | .hbm, ⟨9, _⟩ => ⟨S4x16384x128, .f32⟩
  | .hbm, ⟨10, _⟩ => ⟨S2x4096x1, .f32⟩
  | .hbm, ⟨11, _⟩ => ⟨S2x4096x11272, .f32⟩
  | .hbm, ⟨12, _⟩ => ⟨S2x4096x11272, .f32⟩
  | .hbm, ⟨13, _⟩ => ⟨S2x4096x2048, .f32⟩
  | .hbm, ⟨14, _⟩ => ⟨S2x4096x1024, .f32⟩
  | .hbm, ⟨15, _⟩ => ⟨S_, .f32⟩
  | .hbm, ⟨16, _⟩ => ⟨S2x4096x1024, .f32⟩
  | .hbm, ⟨17, _⟩ => ⟨S2x4096x1024, .f32⟩
  | .hbm, ⟨18, _⟩ => ⟨S2x4096x2048, .f32⟩
  | .hbm, ⟨19, _⟩ => ⟨S2x4096x5120, .f32⟩
  | .hbm, ⟨20, _⟩ => ⟨S2x4096x5120, .bf16⟩
  | .hbm, ⟨21, _⟩ => ⟨S2x4096x2048, .f32⟩
  | .hbm, ⟨22, _⟩ => ⟨S_, .f32⟩
  | .hbm, ⟨23, _⟩ => ⟨S2x4096x2048, .f32⟩
  | .hbm, ⟨24, _⟩ => ⟨S2x4096x2048, .f32⟩
  | .hbm, ⟨25, _⟩ => ⟨S2x4096x4096, .f32⟩
  | .hbm, ⟨26, _⟩ => ⟨S2x4096x6144, .f32⟩
  | .hbm, ⟨27, _⟩ => ⟨S2x4096x6144, .bf16⟩
  | .hbm, ⟨28, _⟩ => ⟨S16384x2048, .f32⟩
  | .hbm, ⟨29, _⟩ => ⟨S16384x3072, .bf16⟩
  | .hbm, ⟨30, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4x1024x128, .f32⟩
  | .local _ .vmem, ⟨3, _⟩ => ⟨S4x1024x128, .f32⟩
  | .local _ .vmem, ⟨4, _⟩ => ⟨S1x4096x1024, .bf16⟩
  | .local _ .vmem, ⟨5, _⟩ => ⟨S1x4096x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x4096, .bf16⟩
  | .local _ .vmem, ⟨9, _⟩ => ⟨S1024x4096, .bf16⟩
  | .local _ .vmem, ⟨10, _⟩ => ⟨S4x1024x128, .f32⟩
  | .local _ .vmem, ⟨11, _⟩ => ⟨S4x1024x128, .f32⟩
  | .local _ .vmem, ⟨12, _⟩ => ⟨S1x4096x1024, .bf16⟩
  | .local _ .vmem, ⟨13, _⟩ => ⟨S1x4096x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x4096, .bf16⟩
  | .local _ .vmem, ⟨17, _⟩ => ⟨S1024x4096, .bf16⟩
  | .local _ .vmem, ⟨18, _⟩ => ⟨S4x1024x128, .f32⟩
  | .local _ .vmem, ⟨19, _⟩ => ⟨S4x1024x128, .f32⟩
  | .local _ .vmem, ⟨20, _⟩ => ⟨S1x4096x1024, .bf16⟩
  | .local _ .vmem, ⟨21, _⟩ => ⟨S1x4096x1024, .bf16⟩
  | .local _ .vmem, ⟨22, _⟩ => ⟨S1024x1024, .bf16⟩
  | .local _ .vmem, ⟨23, _⟩ => ⟨S1024x1024, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 6], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4x1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x4096x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== Reference4Ideal.lean ====
abbrev S8x2048x4096 : Shape := ⟨3, ![8, 2048, 4096]⟩
abbrev S2x4096 : Shape := ⟨2, ![2, 4096]⟩
abbrev S2x4096x11272 : Shape := ⟨3, ![2, 4096, 11272]⟩
abbrev S1x4096 : Shape := ⟨2, ![1, 4096]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S1x4096x11272 : Shape := ⟨3, ![1, 4096, 11272]⟩
abbrev S4096x11272 : Shape := ⟨2, ![4096, 11272]⟩
abbrev S8x2048x11272 : Shape := ⟨3, ![8, 2048, 11272]⟩
abbrev S16384x11272 : Shape := ⟨2, ![16384, 11272]⟩
abbrev S16384x2048 : Shape := ⟨2, ![16384, 2048]⟩
abbrev S16384x3072 : Shape := ⟨2, ![16384, 3072]⟩
abbrev S16384x6144 : Shape := ⟨2, ![16384, 6144]⟩
abbrev S16384x1024 : Shape := ⟨2, ![16384, 1024]⟩
abbrev S16384x4096 : Shape := ⟨2, ![16384, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S2x4096, .f32⟩
  | .hbm, ⟨2, _⟩ => ⟨S2x4096x11272, .f32⟩
  | .hbm, ⟨3, _⟩ => ⟨S1x4096, .f32⟩
  | .hbm, ⟨4, _⟩ => ⟨S4096, .f32⟩
  | .hbm, ⟨5, _⟩ => ⟨S8x2048x4096, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x4096, .f32⟩
  | .hbm, ⟨17, _⟩ => ⟨S8x2048x4096, .f32⟩
  | .hbm, ⟨18, _⟩ => ⟨S1x1x4096, .f32⟩
  | .hbm, ⟨19, _⟩ => ⟨S8x2048x4096, .f32⟩
  | .hbm, ⟨20, _⟩ => ⟨S8x2048x4096, .f32⟩
  | .hbm, ⟨21, _⟩ => ⟨S1x4096x11272, .f32⟩
  | .hbm, ⟨22, _⟩ => ⟨S4096x11272, .f32⟩
  | .hbm, ⟨23, _⟩ => ⟨S8x2048x11272, .f32⟩
  | .hbm, ⟨24, _⟩ => ⟨S16384x11272, .f32⟩
  | .hbm, ⟨25, _⟩ => ⟨S16384x2048, .f32⟩
  | .hbm, ⟨26, _⟩ => ⟨S16384x3072, .f32⟩
  | .hbm, ⟨27, _⟩ => ⟨S16384x6144, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x2048, .f32⟩
  | .hbm, ⟨33, _⟩ => ⟨S16384x3072, .f32⟩
  | .hbm, ⟨34, _⟩ => ⟨S16384x3072, .bf16⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x4096, .f32⟩
  | .hbm, ⟨40, _⟩ => ⟨S16384x6144, .f32⟩
  | .hbm, ⟨41, _⟩ => ⟨S16384x6144, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Kernel5.lean ====
abbrev S2x4096 : Shape := ⟨2, ![2, 4096]⟩
abbrev S2x4096x11272 : Shape := ⟨3, ![2, 4096, 11272]⟩
abbrev S2x11272x4096 : Shape := ⟨3, ![2, 11272, 4096]⟩
abbrev S22544x4096 : Shape := ⟨2, ![22544, 4096]⟩
abbrev S2x1x4096 : Shape := ⟨3, ![2, 1, 4096]⟩
abbrev S2x4096x5120 : Shape := ⟨3, ![2, 4096, 5120]⟩
abbrev S256x4096 : Shape := ⟨2, ![256, 4096]⟩
abbrev S1x1x4096 : Shape := ⟨3, ![1, 1, 4096]⟩
abbrev S1x4096x256 : Shape := ⟨3, ![1, 4096, 256]⟩
abbrev S1x4096 : Shape := ⟨2, ![1, 4096]⟩
abbrev S4096x256 : Shape := ⟨2, ![4096, 256]⟩

abbrev nBuf : Space → Nat
  | .hbm => 6
  | .vmem => 6
  | .smem => 0
  | _ => 0

abbrev bufTy : (tb : Table) → Fin (tcTables nBuf tb) → BufTy
  | .hbm, ⟨0, _⟩ => ⟨S2x4096, .f32⟩
  | .hbm, ⟨1, _⟩ => ⟨S2x4096x11272, .f32⟩
  | .hbm, ⟨2, _⟩ => ⟨S2x11272x4096, .f32⟩
  | .hbm, ⟨3, _⟩ => ⟨S22544x4096, .f32⟩
  | .hbm, ⟨4, _⟩ => ⟨S2x1x4096, .f32⟩
  | .hbm, ⟨5, _⟩ => ⟨S2x4096x5120, .bf16⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x4096x256, .bf16⟩
  | .local _ .vmem, ⟨5, _⟩ => ⟨S1x4096x256, .bf16⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 20], ![false, false]⟩

def k0_mult1 (i : grid0.Coords) : BitVec 32 :=
  let arg0 : BitVec 32 := BitVec.ofNat 32 (i 0).val
  let c11272_i32 : BitVec 32 := 11272#32
  let v0 : BitVec 32 := Scalar.muli arg0 c11272_i32
  let c0_i32 : BitVec 32 := 0#32
  let v1 : BitVec 32 := Scalar.addi v0 c0_i32
  let arg1 : BitVec 32 := BitVec.ofNat 32 (i 1).val
  let c256_i32 : BitVec 32 := 256#32
  let v2 : BitVec 32 := Scalar.muli arg1 c256_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c11272_i32 : BitVec 32 := 11272#32
  let v0 : BitVec 32 := Scalar.muli arg0 c11272_i32
  let c0_i32 : BitVec 32 := 0#32
  let v1 : BitVec 32 := Scalar.addi v0 c0_i32
  let c256_i32 : BitVec 32 := 256#32
  let v2 : BitVec 32 := Scalar.muli arg1 c256_i32
  let v3 : BitVec 32 := Scalar.addi v1 v2
  let v4 : BitVec 32 := v3
  let c0_i32_0 : BitVec 32 := 0#32
  let c0_i32_1 : BitVec 32 := 0#32
  ![v4.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x4096 : Shape := ⟨2, ![2, 4096]⟩
abbrev S2x4096x11272 : Shape := ⟨3, ![2, 4096, 11272]⟩
abbrev S2x4096x1 : Shape := ⟨3, ![2, 4096, 1]⟩
abbrev S2x4096x2048 : Shape := ⟨3, ![2, 4096, 2048]⟩
abbrev S2x4096x1024 : Shape := ⟨3, ![2, 4096, 1024]⟩
abbrev S_ : Shape := ⟨0, ![]⟩
abbrev S2x4096x5120 : Shape := ⟨3, ![2, 4096, 5120]⟩

abbrev nBuf : Space → Nat
  | .hbm => 13
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S2x4096x11272, .f32⟩
  | .hbm, ⟨2, _⟩ => ⟨S2x4096x1, .f32⟩
  | .hbm, ⟨3, _⟩ => ⟨S2x4096x11272, .f32⟩
  | .hbm, ⟨4, _⟩ => ⟨S2x4096x11272, .f32⟩
  | .hbm, ⟨5, _⟩ => ⟨S2x4096x2048, .f32⟩
  | .hbm, ⟨6, _⟩ => ⟨S2x4096x1024, .f32⟩
  | .hbm, ⟨7, _⟩ => ⟨S_, .f32⟩
  | .hbm, ⟨8, _⟩ => ⟨S2x4096x1024, .f32⟩
  | .hbm, ⟨9, _⟩ => ⟨S2x4096x1024, .f32⟩
  | .hbm, ⟨10, _⟩ => ⟨S2x4096x2048, .f32⟩
  | .hbm, ⟨11, _⟩ => ⟨S2x4096x5120, .f32⟩
  | .hbm, ⟨12, _⟩ => ⟨S2x4096x5120, .bf16⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S2x4096 : Shape := ⟨2, ![2, 4096]⟩
abbrev S2x4096x11272 : Shape := ⟨3, ![2, 4096, 11272]⟩
abbrev S2x11272x4096 : Shape := ⟨3, ![2, 11272, 4096]⟩
abbrev S22544x4096 : Shape := ⟨2, ![22544, 4096]⟩
abbrev S2x1x4096 : Shape := ⟨3, ![2, 1, 4096]⟩
abbrev S2x4096x6144 : Shape := ⟨3, ![2, 4096, 6144]⟩
abbrev S256x4096 : Shape := ⟨2, ![256, 4096]⟩
abbrev S1x1x4096 : Shape := ⟨3, ![1, 1, 4096]⟩
abbrev S1x4096x256 : Shape := ⟨3, ![1, 4096, 256]⟩
abbrev S1x4096 : Shape := ⟨2, ![1, 4096]⟩
abbrev S4096x256 : Shape := ⟨2, ![4096, 256]⟩

abbrev nBuf : Space → Nat
  | .hbm => 6
  | .vmem => 6
  | .smem => 0
  | _ => 0

abbrev bufTy : (tb : Table) → Fin (tcTables nBuf tb) → BufTy
  | .hbm, ⟨0, _⟩ => ⟨S2x4096, .f32⟩
  | .hbm, ⟨1, _⟩ => ⟨S2x4096x11272, .f32⟩
  | .hbm, ⟨2, _⟩ => ⟨S2x11272x4096, .f32⟩
  | .hbm, ⟨3, _⟩ => ⟨S22544x4096, .f32⟩
  | .hbm, ⟨4, _⟩ => ⟨S2x1x4096, .f32⟩
  | .hbm, ⟨5, _⟩ => ⟨S2x4096x6144, .bf16⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x4096x256, .bf16⟩
  | .local _ .vmem, ⟨5, _⟩ => ⟨S1x4096x256, .bf16⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

def k0_mult1 (i : grid0.Coords) : BitVec 32 :=
  let arg0 : BitVec 32 := BitVec.ofNat 32 (i 0).val
  let c11272_i32 : BitVec 32 := 11272#32
  let v0 : BitVec 32 := Scalar.muli arg0 c11272_i32
  let c5128_i32 : BitVec 32 := 5128#32
  let v1 : BitVec 32 := Scalar.addi v0 c5128_i32
  let arg1 : BitVec 32 := BitVec.ofNat 32 (i 1).val
  let c256_i32 : BitVec 32 := 256#32
  let v2 : BitVec 32 := Scalar.muli arg1 c256_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c11272_i32 : BitVec 32 := 11272#32
  let v0 : BitVec 32 := Scalar.muli arg0 c11272_i32
  let c5128_i32 : BitVec 32 := 5128#32
  let v1 : BitVec 32 := Scalar.addi v0 c5128_i32
  let c256_i32 : BitVec 32 := 256#32
  let v2 : BitVec 32 := Scalar.muli arg1 c256_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x4096 : Shape := ⟨2, ![2, 4096]⟩
abbrev S2x4096x11272 : Shape := ⟨3, ![2, 4096, 11272]⟩
abbrev S2x4096x1 : Shape := ⟨3, ![2, 4096, 1]⟩
abbrev S2x4096x2048 : Shape := ⟨3, ![2, 4096, 2048]⟩
abbrev S_ : Shape := ⟨0, ![]⟩
abbrev S2x4096x4096 : Shape := ⟨3, ![2, 4096, 4096]⟩
abbrev S2x4096x6144 : Shape := ⟨3, ![2, 4096, 6144]⟩

abbrev nBuf : Space → Nat
  | .hbm => 12
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S2x4096x11272, .f32⟩
  | .hbm, ⟨2, _⟩ => ⟨S2x4096x1, .f32⟩
  | .hbm, ⟨3, _⟩ => ⟨S2x4096x11272, .f32⟩
  | .hbm, ⟨4, _⟩ => ⟨S2x4096x11272, .f32⟩
  | .hbm, ⟨5, _⟩ => ⟨S2x4096x2048, .f32⟩
  | .hbm, ⟨6, _⟩ => ⟨S_, .f32⟩
  | .hbm, ⟨7, _⟩ => ⟨S2x4096x2048, .f32⟩
  | .hbm, ⟨8, _⟩ => ⟨S2x4096x2048, .f32⟩
  | .hbm, ⟨9, _⟩ => ⟨S2x4096x4096, .f32⟩
  | .hbm, ⟨10, _⟩ => ⟨S2x4096x6144, .f32⟩
  | .hbm, ⟨11, _⟩ => ⟨S2x4096x6144, .bf16⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8x2048x1024 : Shape := ⟨3, ![8, 2048, 1024]⟩
abbrev S8x2048x2048 : Shape := ⟨3, ![8, 2048, 2048]⟩
abbrev S2x1024 : Shape := ⟨2, ![2, 1024]⟩
abbrev S2x2048 : Shape := ⟨2, ![2, 2048]⟩
abbrev S2x4096x4096 : Shape := ⟨3, ![2, 4096, 4096]⟩
abbrev S8x2048x4096 : Shape := ⟨3, ![8, 2048, 4096]⟩
abbrev S16384x1024 : Shape := ⟨2, ![16384, 1024]⟩
abbrev S16384x2048 : Shape := ⟨2, ![16384, 2048]⟩
abbrev S1x1024 : Shape := ⟨2, ![1, 1024]⟩
abbrev S1024 : Shape := ⟨1, ![1024]⟩
abbrev S1x2048 : Shape := ⟨2, ![1, 2048]⟩
abbrev S2048 : Shape := ⟨1, ![2048]⟩
abbrev S1x4096x4096 : Shape := ⟨3, ![1, 4096, 4096]⟩
abbrev S4096x4096 : Shape := ⟨2, ![4096, 4096]⟩
abbrev S16384x4096 : Shape := ⟨2, ![16384, 4096]⟩
abbrev S1x16384x128 : Shape := ⟨3, ![1, 16384, 128]⟩
abbrev S1024x1024 : Shape := ⟨2, ![1024, 1024]⟩
abbrev S1024x2048 : Shape := ⟨2, ![1024, 2048]⟩
abbrev S4096x512 : Shape := ⟨2, ![4096, 512]⟩
abbrev S1024x512 : Shape := ⟨2, ![1024, 512]⟩
abbrev S1x1024x128 : Shape := ⟨3, ![1, 1024, 128]⟩
abbrev S1024x4096 : Shape := ⟨2, ![1024, 4096]⟩
abbrev S1024x1 : Shape := ⟨2, ![1024, 1]⟩
abbrev S1024x128 : Shape := ⟨2, ![1024, 128]⟩

abbrev nBuf : Space → Nat
  | .hbm => 26
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S2x1024, .f32⟩
  | .hbm, ⟨4, _⟩ => ⟨S2x2048, .f32⟩
  | .hbm, ⟨5, _⟩ => ⟨S2x4096x4096, .f32⟩
  | .hbm, ⟨6, _⟩ => ⟨S8x2048x4096, .f32⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S16384x2048, .f32⟩
  | .hbm, ⟨12, _⟩ => ⟨S16384x2048, .bf16⟩
  | .hbm, ⟨13, _⟩ => ⟨S1x1024, .f32⟩
  | .hbm, ⟨14, _⟩ => ⟨S1024, .f32⟩
  | .hbm, ⟨15, _⟩ => ⟨S1x2048, .f32⟩
  | .hbm, ⟨16, _⟩ => ⟨S2048, .f32⟩
  | .hbm, ⟨17, _⟩ => ⟨S1x4096x4096, .f32⟩
  | .hbm, ⟨18, _⟩ => ⟨S4096x4096, .f32⟩
  | .hbm, ⟨19, _⟩ => ⟨S4096x4096, .bf16⟩
  | .hbm, ⟨20, _⟩ => ⟨S16384x4096, .f32⟩
  | .hbm, ⟨21, _⟩ => ⟨S1x1024, .f32⟩
  | .hbm, ⟨22, _⟩ => ⟨S1x2048, .f32⟩
  | .hbm, ⟨23, _⟩ => ⟨S16384x4096, .f32⟩
  | .hbm, ⟨24, _⟩ => ⟨S16384x4096, .bf16⟩
  | .hbm, ⟨25, _⟩ => ⟨S1x16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x1024, .f32⟩
  | .local _ .vmem, ⟨7, _⟩ => ⟨S1x2048, .f32⟩
  | .local _ .vmem, ⟨8, _⟩ => ⟨S4096x512, .bf16⟩
  | .local _ .vmem, ⟨9, _⟩ => ⟨S4096x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1x1024x128, .f32⟩
  | .local _ .vmem, ⟨17, _⟩ => ⟨S1x1024x128, .f32⟩
  | .local _ .vmem, ⟨18, _⟩ => ⟨S1024x4096, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c0_i32_10 : BitVec 32 := 0#32
  let v21 : BitVec 1 := Scalar.cmpi .eq arg1 c0_i32_10
  let v22 : BitVec 32 := Scalar.extui v21
  let c0_i32_11 : BitVec 32 := 0#32
  let v23 : BitVec 1 := Scalar.cmpi .ne v22 c0_i32_11
  v23

def k0_cond3 (i : grid0.Coords) : BitVec 1 :=
  let arg1 : BitVec 32 := BitVec.ofNat 32 (i 1).val
  let c0_i32_12 : BitVec 32 := 0#32
  let v24 : BitVec 1 := Scalar.cmpi .ne arg1 c0_i32_12
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference7Ideal.lean ====
abbrev S8x2048x1024 : Shape := ⟨3, ![8, 2048, 1024]⟩
abbrev S8x2048x2048 : Shape := ⟨3, ![8, 2048, 2048]⟩
abbrev S2x1024 : Shape := ⟨2, ![2, 1024]⟩
abbrev S2x2048 : Shape := ⟨2, ![2, 2048]⟩
abbrev S2x4096x4096 : Shape := ⟨3, ![2, 4096, 4096]⟩
abbrev S8x2048x4096 : Shape := ⟨3, ![8, 2048, 4096]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x2048 : Shape := ⟨2, ![1, 2048]⟩
abbrev S2048 : Shape := ⟨1, ![2048]⟩
abbrev S1x1x2048 : Shape := ⟨3, ![1, 1, 2048]⟩
abbrev S1x4096x4096 : Shape := ⟨3, ![1, 4096, 4096]⟩
abbrev S4096x4096 : Shape := ⟨2, ![4096, 4096]⟩
abbrev S16384x4096 : Shape := ⟨2, ![16384, 4096]⟩
abbrev S16384x32x128 : Shape := ⟨3, ![16384, 32, 128]⟩
abbrev S16384x128 : Shape := ⟨2, ![16384, 128]⟩
abbrev S1x16384x128 : Shape := ⟨3, ![1, 16384, 128]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S2x1024, .f32⟩
  | .hbm, ⟨4, _⟩ => ⟨S2x2048, .f32⟩
  | .hbm, ⟨5, _⟩ => ⟨S2x4096x4096, .f32⟩
  | .hbm, ⟨6, _⟩ => ⟨S8x2048x4096, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x2048, .f32⟩
  | .hbm, ⟨26, _⟩ => ⟨S2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S1x1x2048, .f32⟩
  | .hbm, ⟨41, _⟩ => ⟨S8x2048x2048, .f32⟩
  | .hbm, ⟨42, _⟩ => ⟨S8x2048x2048, .f32⟩
  | .hbm, ⟨43, _⟩ => ⟨S8x2048x4096, .f32⟩
  | .hbm, ⟨44, _⟩ => ⟨S1x4096x4096, .f32⟩
  | .hbm, ⟨45, _⟩ => ⟨S4096x4096, .f32⟩
  | .hbm, ⟨46, _⟩ => ⟨S8x2048x4096, .f32⟩
  | .hbm, ⟨47, _⟩ => ⟨S8x2048x4096, .f32⟩
  | .hbm, ⟨48, _⟩ => ⟨S16384x4096, .f32⟩
  | .hbm, ⟨49, _⟩ => ⟨S16384x4096, .f32⟩
  | .hbm, ⟨50, _⟩ => ⟨S16384x32x128, .f32⟩
  | .hbm, ⟨51, _⟩ => ⟨S_, .f32⟩
  | .hbm, ⟨52, _⟩ => ⟨S16384x128, .f32⟩
  | .hbm, ⟨53, _⟩ => ⟨S1x16384x128, .f32⟩
  | .hbm, ⟨54, _⟩ => ⟨S16384x4096, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel8.lean ====
abbrev S8x2048x4096 : Shape := ⟨3, ![8, 2048, 4096]⟩
abbrev S4096 : Shape := ⟨1, ![4096]⟩
abbrev S16384x4096 : Shape := ⟨2, ![16384, 4096]⟩
abbrev S16384x4x8x128 : Shape := ⟨4, ![16384, 4, 8, 128]⟩
abbrev S_ : Shape := ⟨0, ![]⟩
abbrev S16384x4x128 : Shape := ⟨3, ![16384, 4, 128]⟩
abbrev S4x16384x128 : Shape := ⟨3, ![4, 16384, 128]⟩
abbrev S1x4096 : Shape := ⟨2, ![1, 4096]⟩
abbrev S512x4096 : Shape := ⟨2, ![512, 4096]⟩
abbrev S4x512x128 : Shape := ⟨3, ![4, 512, 128]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 7
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S16384x4x8x128, .f32⟩
  | .hbm, ⟨5, _⟩ => ⟨S_, .f32⟩
  | .hbm, ⟨6, _⟩ => ⟨S16384x4x128, .f32⟩
  | .hbm, ⟨7, _⟩ => ⟨S4x16384x128, .f32⟩
  | .hbm, ⟨8, _⟩ => ⟨S1x4096, .f32⟩
  | .hbm, ⟨9, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S4x512x128, .f32⟩
  | .local _ .vmem, ⟨3, _⟩ => ⟨S4x512x128, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8x2048x4096 : Shape := ⟨3, ![8, 2048, 4096]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S8x2048x4096, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x4096, .f32⟩
  | .hbm, ⟨14, _⟩ => ⟨S8x2048x4096, .f32⟩
  | .hbm, ⟨15, _⟩ => ⟨S1x1x4096, .f32⟩
  | .hbm, ⟨16, _⟩ => ⟨S8x2048x4096, .f32⟩
  | .hbm, ⟨17, _⟩ => ⟨S8x2048x4096, .f32⟩
  | .hbm, ⟨18, _⟩ => ⟨S16384x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S8x2048x4096 : Shape := ⟨3, ![8, 2048, 4096]⟩
abbrev S2x4096 : Shape := ⟨2, ![2, 4096]⟩
abbrev S2x4096x11272 : Shape := ⟨3, ![2, 4096, 11272]⟩
abbrev S2x8 : Shape := ⟨2, ![2, 8]⟩
abbrev S16384x4096 : Shape := ⟨2, ![16384, 4096]⟩
abbrev S16384x4x8x128 : Shape := ⟨4, ![16384, 4, 8, 128]⟩
abbrev S_ : Shape := ⟨0, ![]⟩
abbrev S16384x4x128 : Shape := ⟨3, ![16384, 4, 128]⟩
abbrev S4x16384x128 : Shape := ⟨3, ![4, 16384, 128]⟩
abbrev S2x11272x4096 : Shape := ⟨3, ![2, 11272, 4096]⟩
abbrev S2x128x4096 : Shape := ⟨3, ![2, 128, 4096]⟩
abbrev S2x1x4096 : Shape := ⟨3, ![2, 1, 4096]⟩
abbrev S2x128 : Shape := ⟨2, ![2, 128]⟩
abbrev S2x1x128 : Shape := ⟨3, ![2, 1, 128]⟩
abbrev S16384x128 : Shape := ⟨2, ![16384, 128]⟩
abbrev S8x128x2048 : Shape := ⟨3, ![8, 128, 2048]⟩
abbrev S512x4096 : Shape := ⟨2, ![512, 4096]⟩
abbrev S4x512x128 : Shape := ⟨3, ![4, 512, 128]⟩
abbrev S1x128x4096 : Shape := ⟨3, ![1, 128, 4096]⟩
abbrev S1x1x128 : Shape := ⟨3, ![1, 1, 128]⟩
abbrev S512x128 : Shape := ⟨2, ![512, 128]⟩
abbrev S1x128x512 : Shape := ⟨3, ![1, 128, 512]⟩
abbrev S1x128 : Shape := ⟨2, ![1, 128]⟩
abbrev S512 : Shape := ⟨1, ![512]⟩
abbrev S512x1 : Shape := ⟨2, ![512, 1]⟩
abbrev S128x4096 : Shape := ⟨2, ![128, 4096]⟩
abbrev S128x512 : Shape := ⟨2, ![128, 512]⟩

abbrev nBuf : Space → Nat
  | .hbm => 23
  | .vmem => 11
  | .smem => 0
  | _ => 0

abbrev bufTy : (tb : Table) → Fin (tcTables nBuf tb) → BufTy
  | .hbm, ⟨0, _⟩ => ⟨S8x2048x4096, .f32⟩
  | .hbm, ⟨1, _⟩ => ⟨S2x4096, .f32⟩
  | .hbm, ⟨2, _⟩ => ⟨S2x4096x11272, .f32⟩
  | .hbm, ⟨3, _⟩ => ⟨S2x8, .f32⟩
  | .hbm, ⟨4, _⟩ => ⟨S16384x4096, .f32⟩
  | .hbm, ⟨5, _⟩ => ⟨S16384x4096, .bf16⟩
  | .hbm, ⟨6, _⟩ => ⟨S16384x4096, .f32⟩
  | .hbm, ⟨7, _⟩ => ⟨S16384x4x8x128, .f32⟩
  | .hbm, ⟨8, _⟩ => ⟨S_, .f32⟩
  | .hbm, ⟨9, _⟩ => ⟨S16384x4x128, .f32⟩
  | .hbm, ⟨10, _⟩ => ⟨S4x16384x128, .f32⟩
  | .hbm, ⟨11, _⟩ => ⟨S2x11272x4096, .f32⟩
  | .hbm, ⟨12, _⟩ => ⟨S2x128x4096, .f32⟩
  | .hbm, ⟨13, _⟩ => ⟨S2x1x4096, .f32⟩
  | .hbm, ⟨14, _⟩ => ⟨S2x128x4096, .f32⟩
  | .hbm, ⟨15, _⟩ => ⟨S2x128x4096, .f32⟩
  | .hbm, ⟨16, _⟩ => ⟨S2x128x4096, .bf16⟩
  | .hbm, ⟨17, _⟩ => ⟨S_, .i32⟩
  | .hbm, ⟨18, _⟩ => ⟨S_, .f32⟩
  | .hbm, ⟨19, _⟩ => ⟨S2x128, .f32⟩
  | .hbm, ⟨20, _⟩ => ⟨S2x1x128, .f32⟩
  | .hbm, ⟨21, _⟩ => ⟨S16384x128, .f32⟩
  | .hbm, ⟨22, _⟩ => ⟨S8x128x2048, .f32⟩
  | .local _ .vmem, ⟨0, _⟩ => ⟨S512x4096, .bf16⟩
  | .local _ .vmem, ⟨1, _⟩ => ⟨S512x4096, .bf16⟩
  | .local _ .vmem, ⟨2, _⟩ => ⟨S4x512x128, .f32⟩
  | .local _ .vmem, ⟨3, _⟩ => ⟨S4x512x128, .f32⟩
  | .local _ .vmem, ⟨4, _⟩ => ⟨S1x128x4096, .bf16⟩
  | .local _ .vmem, ⟨5, _⟩ => ⟨S1x1x128, .f32⟩
  | .local _ .vmem, ⟨6, _⟩ => ⟨S512x128, .f32⟩
  | .local _ .vmem, ⟨7, _⟩ => ⟨S512x128, .f32⟩
  | .local _ .vmem, ⟨8, _⟩ => ⟨S1x128x512, .f32⟩
  | .local _ .vmem, ⟨9, _⟩ => ⟨S1x128x512, .f32⟩
  | .local _ .vmem, ⟨10, _⟩ => ⟨S1x128, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8x2048x4096 : Shape := ⟨3, ![8, 2048, 4096]⟩
abbrev S2x4096 : Shape := ⟨2, ![2, 4096]⟩
abbrev S2x4096x11272 : Shape := ⟨3, ![2, 4096, 11272]⟩
abbrev S2x8 : Shape := ⟨2, ![2, 8]⟩
abbrev S1x4096 : Shape := ⟨2, ![1, 4096]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S1x4096x11272 : Shape := ⟨3, ![1, 4096, 11272]⟩
abbrev S4096x11272 : Shape := ⟨2, ![4096, 11272]⟩
abbrev S4096x128 : Shape := ⟨2, ![4096, 128]⟩
abbrev S8x2048x128 : Shape := ⟨3, ![8, 2048, 128]⟩
abbrev S1x8 : Shape := ⟨2, ![1, 8]⟩
abbrev S8 : Shape := ⟨1, ![8]⟩
abbrev S128 : Shape := ⟨1, ![128]⟩
abbrev S1x1x128 : Shape := ⟨3, ![1, 1, 128]⟩
abbrev S16384x128 : Shape := ⟨2, ![16384, 128]⟩
abbrev S8x128x2048 : Shape := ⟨3, ![8, 128, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S2x4096, .f32⟩
  | .hbm, ⟨2, _⟩ => ⟨S2x4096x11272, .f32⟩
  | .hbm, ⟨3, _⟩ => ⟨S2x8, .f32⟩
  | .hbm, ⟨4, _⟩ => ⟨S1x4096, .f32⟩
  | .hbm, ⟨5, _⟩ => ⟨S4096, .f32⟩
  | .hbm, ⟨6, _⟩ => ⟨S8x2048x4096, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x4096, .f32⟩
  | .hbm, ⟨18, _⟩ => ⟨S8x2048x4096, .f32⟩
  | .hbm, ⟨19, _⟩ => ⟨S1x1x4096, .f32⟩
  | .hbm, ⟨20, _⟩ => ⟨S8x2048x4096, .f32⟩
  | .hbm, ⟨21, _⟩ => ⟨S8x2048x4096, .f32⟩
  | .hbm, ⟨22, _⟩ => ⟨S1x4096x11272, .f32⟩
  | .hbm, ⟨23, _⟩ => ⟨S4096x11272, .f32⟩
  | .hbm, ⟨24, _⟩ => ⟨S4096x128, .f32⟩
  | .hbm, ⟨25, _⟩ => ⟨S8x2048x128, .f32⟩
  | .hbm, ⟨26, _⟩ => ⟨S1x8, .f32⟩
  | .hbm, ⟨27, _⟩ => ⟨S8, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x1x128, .f32⟩
  | .hbm, ⟨32, _⟩ => ⟨S8x2048x128, .f32⟩
  | .hbm, ⟨33, _⟩ => ⟨S8x2048x128, .f32⟩
  | .hbm, ⟨34, _⟩ => ⟨S8x2048x128, .f32⟩
  | .hbm, ⟨35, _⟩ => ⟨S_, .f32⟩
  | .hbm, ⟨36, _⟩ => ⟨S8x2048x128, .f32⟩
  | .hbm, ⟨37, _⟩ => ⟨S8x2048x128, .f32⟩
  | .hbm, ⟨38, _⟩ => ⟨S8x2048x128, .f32⟩
  | .hbm, ⟨39, _⟩ => ⟨S8x2048x128, .f32⟩
  | .hbm, ⟨40, _⟩ => ⟨S8x2048x128, .i1⟩
  | .hbm, ⟨41, _⟩ => ⟨S8x2048x128, .f32⟩
  | .hbm, ⟨42, _⟩ => ⟨S8x2048x128, .f32⟩
  | .hbm, ⟨43, _⟩ => ⟨S8x2048x128, .f32⟩
  | .hbm, ⟨44, _⟩ => ⟨S8x2048x128, .f32⟩
  | .hbm, ⟨45, _⟩ => ⟨S8x2048x128, .f32⟩
  | .hbm, ⟨46, _⟩ => ⟨S8x2048x128, .f32⟩
  | .hbm, ⟨47, _⟩ => ⟨S8x2048x128, .f32⟩
  | .hbm, ⟨48, _⟩ => ⟨S8x2048x128, .f32⟩
  | .hbm, ⟨49, _⟩ => ⟨S8x2048x128, .f32⟩
  | .hbm, ⟨50, _⟩ => ⟨S_, .f32⟩
  | .hbm, ⟨51, _⟩ => ⟨S_, .f32⟩
  | .hbm, ⟨52, _⟩ => ⟨S8x2048x128, .f32⟩
  | .hbm, ⟨53, _⟩ => ⟨S16384x128, .f32⟩
  | .hbm, ⟨54, _⟩ => ⟨S8x128x2048, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v25 : Ref sig .tc := ⟨.hbm, 49, rfl⟩
abbrev main_call2_call0_cst : Ref sig .tc := ⟨.hbm, 50, rfl⟩
abbrev main_call2_call0_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩

abbrev nD : Nat := 1
abbrev τ : Topo := Topo.v7x

variable {F : FTy → Type} [FloatOps F]
-- ==== Kernel10.lean ====
abbrev S2x4096 : Shape := ⟨2, ![2, 4096]⟩
abbrev S2x4096x11272 : Shape := ⟨3, ![2, 4096, 11272]⟩
abbrev S2x11272x4096 : Shape := ⟨3, ![2, 11272, 4096]⟩
abbrev S22544x4096 : Shape := ⟨2, ![22544, 4096]⟩
abbrev S2x1x4096 : Shape := ⟨3, ![2, 1, 4096]⟩
abbrev S2x128x4096 : Shape := ⟨3, ![2, 128, 4096]⟩
abbrev S128x4096 : Shape := ⟨2, ![128, 4096]⟩
abbrev S1x1x4096 : Shape := ⟨3, ![1, 1, 4096]⟩
abbrev S1x128x4096 : Shape := ⟨3, ![1, 128, 4096]⟩
abbrev S1x4096 : Shape := ⟨2, ![1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S2x4096, .f32⟩
  | .hbm, ⟨1, _⟩ => ⟨S2x4096x11272, .f32⟩
  | .hbm, ⟨2, _⟩ => ⟨S2x11272x4096, .f32⟩
  | .hbm, ⟨3, _⟩ => ⟨S22544x4096, .f32⟩
  | .hbm, ⟨4, _⟩ => ⟨S2x1x4096, .f32⟩
  | .hbm, ⟨5, _⟩ => ⟨S2x128x4096, .bf16⟩
  | .local _ .vmem, ⟨0, _⟩ => ⟨S128x4096, .f32⟩
  | .local _ .vmem, ⟨1, _⟩ => ⟨S128x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x128x4096, .bf16⟩
  | .local _ .vmem, ⟨5, _⟩ => ⟨S1x128x4096, .bf16⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_mult1 (i : grid0.Coords) : BitVec 32 :=
  let arg0 : BitVec 32 := BitVec.ofNat 32 (i 0).val
  let c11272_i32 : BitVec 32 := 11272#32
  let v0 : BitVec 32 := Scalar.muli arg0 c11272_i32
  let c5120_i32 : BitVec 32 := 5120#32
  let v1 : BitVec 32 := Scalar.addi v0 c5120_i32
  let arg1 : BitVec 32 := BitVec.ofNat 32 (i 1).val
  let c128_i32 : BitVec 32 := 128#32
  let v2 : BitVec 32 := Scalar.muli arg1 c128_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c11272_i32 : BitVec 32 := 11272#32
  let v0 : BitVec 32 := Scalar.muli arg0 c11272_i32
  let c5120_i32 : BitVec 32 := 5120#32
  let v1 : BitVec 32 := Scalar.addi v0 c5120_i32
  let c128_i32 : BitVec 32 := 128#32
  let v2 : BitVec 32 := Scalar.muli arg1 c128_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2x4096 : Shape := ⟨2, ![2, 4096]⟩
abbrev S2x4096x11272 : Shape := ⟨3, ![2, 4096, 11272]⟩
abbrev S2x4096x1 : Shape := ⟨3, ![2, 4096, 1]⟩
abbrev S2x4096x128 : Shape := ⟨3, ![2, 4096, 128]⟩
abbrev S2x128x4096 : Shape := ⟨3, ![2, 128, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S2x4096x11272, .f32⟩
  | .hbm, ⟨2, _⟩ => ⟨S2x4096x1, .f32⟩
  | .hbm, ⟨3, _⟩ => ⟨S2x4096x11272, .f32⟩
  | .hbm, ⟨4, _⟩ => ⟨S2x4096x11272, .f32⟩
  | .hbm, ⟨5, _⟩ => ⟨S2x4096x128, .f32⟩
  | .hbm, ⟨6, _⟩ => ⟨S2x128x4096, .f32⟩
  | .hbm, ⟨7, _⟩ => ⟨S2x128x4096, .bf16⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Chain.lean ====
/- The chain of the 64 groups of eight rows of one block: the state that enters a group is the last row of the group before,
   the group's rows are A·(that row) + U. `enter` is that chain by recursion on the group, and each of the body's own
   intermediate values is identified with it, one equation each, in the order the body computes them. -/
module

public import proofs.«01_k».proof.Proof.Gen.KernelIdeal.Frame
public import Idealize.ShloMosaic.Lib.Pipeline.Value
public import Idealize.ShloMosaic.Lib.ValueIdx
public import Idealize.ShloMosaic.Lib.Pointwise

@[expose] public section

set_option maxRecDepth 16384

noncomputable section

namespace Cert.Lru

open Cert.KernelIdeal Cert.KernelIdeal.Gen Idealize.ShloMosaic Idealize.ShloMosaic.TcCoe Idealize.SL.Sem

variable {F : FTy → Type} [FloatOps F]

/-- Group `k` of a block read as 64 groups of eight rows. -/
def slab (A : FVec F S64x8x1024 .f32) (k : ℕ) : FVec F S8x1024 .f32 :=
  fun i => A (ix3 ⟨k % 64, Nat.mod_lt _ (by decide)⟩ (i 0) (i 1))

/-- Slicing group `k` out and dropping its unit axis reads that group. -/
theorem slab_eq (A : FVec F S64x8x1024 .f32) (k : ℕ) (h : S64x8x1024.Slices ![k, 0, 0] S1x8x1024)
    (h' : Shape.ShapeCasts S1x8x1024 S8x1024) :
    shapeCast S8x1024 (extractStridedSlice S1x8x1024 ![k, 0, 0] A h) h' = slab A k := by
  have hk : k < 64 := by have := h.2 0; simpa [S64x8x1024, S1x8x1024] using this
  funext i
  idx_vars i
  pointwise
  exact congrArg A (congrArg (fun j => ix3 j i0 i1) (Fin.ext (Nat.mod_eq_of_lt hk).symm))

/-- The last row of a group. -/
def lastRow (g : FVec F S8x1024 .f32) : FVec F S1x1024 .f32 :=
  extractStridedSlice S1x1024 ![7, 0] g slices_S8x1024_o7_0_S1x1024

/-- What a group makes of the row that enters it, before U is added. -/
def carried (A : FVec F S64x8x1024 .f32) (k : ℕ) (h : FVec F S1x1024 .f32) : FVec F S8x1024 .f32 :=
  mulf (slab A k) (broadcastTo S8x1024 h broadcasts_S1x1024_S8x1024)

/-- The row that enters group `k`. -/
def enter (A U : FVec F S64x8x1024 .f32) (h0 : FVec F S1x1024 .f32) : ℕ → FVec F S1x1024 .f32
  | 0 => h0
  | k + 1 => lastRow (addf (carried A k (enter A U h0 k)) (slab U k))

/-- The rows of group `k`. -/
def grp (A U : FVec F S64x8x1024 .f32) (h0 : FVec F S1x1024 .f32) (k : ℕ) : FVec F S8x1024 .f32 :=
  addf (carried A k (enter A U h0 k)) (slab U k)

variable (A U : FVec F S64x8x1024 .f32) (h0 : FVec F S1x1024 .f32) (a u : FVec F S512x1024 .f32)

/-- What enters the first group, carried through it. -/
theorem p41 : k0_pay41 a h0 = carried (k0_pay40 a) 0 h0 := by
  simp only [k0_pay41, slab_eq]
  rfl

/-- U of the first group. -/
theorem p42 : k0_pay42 a u = slab (k0_pay39 a u) 0 := by
  simp only [k0_pay42, slab_eq]

/-- Group 0. -/
theorem g43 : k0_pay43 (carried A 0 h0) (slab U 0) = grp A U h0 0 := rfl

/-- Group 1. -/
theorem g44 : k0_pay44 U A (carried A 0 h0) (slab U 0) = grp A U h0 1 := by
  simp only [k0_pay44, slab_eq, g43]
  rfl

/-- Group 2. -/
theorem g45 : k0_pay45 U A (carried A 0 h0) (slab U 0) = grp A U h0 2 := by
  simp only [k0_pay45, slab_eq, g44]
  rfl

/-- Group 3. -/
theorem g46 : k0_pay46 U A (carried A 0 h0) (slab U 0) = grp A U h0 3 := by
  simp only [k0_pay46, slab_eq, g45]
  rfl

/-- Group 4. -/
theorem g47 : k0_pay47 U A (carried A 0 h0) (slab U 0) = grp A U h0 4 := by
  simp only [k0_pay47, slab_eq, g46]
  rfl

/-- Group 5. -/
theorem g48 : k0_pay48 U A (carried A 0 h0) (slab U 0) = grp A U h0 5 := by
  simp only [k0_pay48, slab_eq, g47]
  rfl

/-- Group 6. -/
theorem g49 : k0_pay49 U A (carried A 0 h0) (slab U 0) = grp A U h0 6 := by
  simp only [k0_pay49, slab_eq, g48]
  rfl

/-- Group 7. -/
theorem g50 : k0_pay50 U A (carried A 0 h0) (slab U 0) = grp A U h0 7 := by
  simp only [k0_pay50, slab_eq, g49]
  rfl

/-- The row that enters group 8. -/
theorem p51 : k0_pay51 U A (carried A 0 h0) (slab U 0) = enter A U h0 8 := by
  simp only [k0_pay51, g50]
  rfl

/-- A of group 8. -/
theorem p52 : k0_pay52 A = slab A 8 := by
  simp only [k0_pay52, slab_eq]

/-- Group 8. -/
theorem g53 : k0_pay53 U (enter A U h0 8) (slab A 8) = grp A U h0 8 := by
  simp only [k0_pay53, slab_eq]
  rfl

/-- Group 9. -/
theorem g54 : k0_pay54 U A (enter A U h0 8) (slab A 8) = grp A U h0 9 := by
  simp only [k0_pay54, slab_eq, g53]
  rfl

/-- Group 10. -/
theorem g55 : k0_pay55 U A (enter A U h0 8) (slab A 8) = grp A U h0 10 := by
  simp only [k0_pay55, slab_eq, g54]
  rfl

/-- Group 11. -/
theorem g56 : k0_pay56 U A (enter A U h0 8) (slab A 8) = grp A U h0 11 := by
  simp only [k0_pay56, slab_eq, g55]
  rfl

/-- Group 12. -/
theorem g57 : k0_pay57 U A (enter A U h0 8) (slab A 8) = grp A U h0 12 := by
  simp only [k0_pay57, slab_eq, g56]
  rfl

/-- Group 13. -/
theorem g58 : k0_pay58 U A (enter A U h0 8) (slab A 8) = grp A U h0 13 := by
  simp only [k0_pay58, slab_eq, g57]
  rfl

/-- Group 14. -/
theorem g59 : k0_pay59 U A (enter A U h0 8) (slab A 8) = grp A U h0 14 := by
  simp only [k0_pay59, slab_eq, g58]
  rfl

/-- The row that enters group 15, carried through it. -/
theorem p60 : k0_pay60 U A (enter A U h0 8) (slab A 8) = carried A 15 (enter A U h0 15) := by
  simp only [k0_pay60, slab_eq, g59]
  rfl

/-- U of group 15. -/
theorem p61 : k0_pay61 U = slab U 15 := by
  simp only [k0_pay61, slab_eq]

/-- Group 15. -/
theorem g62 : k0_pay62 (carried A 15 (enter A U h0 15)) (slab U 15) = grp A U h0 15 := rfl

/-- Group 16. -/
theorem g63 : k0_pay63 U A (carried A 15 (enter A U h0 15)) (slab U 15) = grp A U h0 16 := by
  simp only [k0_pay63, slab_eq, g62]
  rfl

/-- Group 17. -/
theorem g64 : k0_pay64 U A (carried A 15 (enter A U h0 15)) (slab U 15) = grp A U h0 17 := by
  simp only [k0_pay64, slab_eq, g63]
  rfl

/-- Group 18. -/
theorem g65 : k0_pay65 U A (carried A 15 (enter A U h0 15)) (slab U 15) = grp A U h0 18 := by
  simp only [k0_pay65, slab_eq, g64]
  rfl

/-- Group 19. -/
theorem g66 : k0_pay66 U A (carried A 15 (enter A U h0 15)) (slab U 15) = grp A U h0 19 := by
  simp only [k0_pay66, slab_eq, g65]
  rfl

/-- Group 20. -/
theorem g67 : k0_pay67 U A (carried A 15 (enter A U h0 15)) (slab U 15) = grp A U h0 20 := by
  simp only [k0_pay67, slab_eq, g66]
  rfl

/-- Group 21. -/
theorem g68 : k0_pay68 U A (carried A 15 (enter A U h0 15)) (slab U 15) = grp A U h0 21 := by
  simp only [k0_pay68, slab_eq, g67]
  rfl

/-- Group 22. -/
theorem g69 : k0_pay69 U A (carried A 15 (enter A U h0 15)) (slab U 15) = grp A U h0 22 := by
  simp only [k0_pay69, slab_eq, g68]
  rfl

/-- The row that enters group 23. -/
theorem p70 : k0_pay70 U A (carried A 15 (enter A U h0 15)) (slab U 15) = enter A U h0 23 := by
  simp only [k0_pay70, g69]
  rfl

/-- A of group 23. -/
theorem p71 : k0_pay71 A = slab A 23 := by
  simp only [k0_pay71, slab_eq]

/-- Group 23. -/
theorem g72 : k0_pay72 U (enter A U h0 23) (slab A 23) = grp A U h0 23 := by
  simp only [k0_pay72, slab_eq]
  rfl

/-- Group 24. -/
theorem g73 : k0_pay73 U A (enter A U h0 23) (slab A 23) = grp A U h0 24 := by
  simp only [k0_pay73, slab_eq, g72]
  rfl

/-- Group 25. -/
theorem g74 : k0_pay74 U A (enter A U h0 23) (slab A 23) = grp A U h0 25 := by
  simp only [k0_pay74, slab_eq, g73]
  rfl

/-- Group 26. -/
theorem g75 : k0_pay75 U A (enter A U h0 23) (slab A 23) = grp A U h0 26 := by
  simp only [k0_pay75, slab_eq, g74]
  rfl

/-- Group 27. -/
theorem g76 : k0_pay76 U A (enter A U h0 23) (slab A 23) = grp A U h0 27 := by
  simp only [k0_pay76, slab_eq, g75]
  rfl

/-- Group 28. -/
theorem g77 : k0_pay77 U A (enter A U h0 23) (slab A 23) = grp A U h0 28 := by
  simp only [k0_pay77, slab_eq, g76]
  rfl

/-- Group 29. -/
theorem g78 : k0_pay78 U A (enter A U h0 23) (slab A 23) = grp A U h0 29 := by
  simp only [k0_pay78, slab_eq, g77]
  rfl

/-- The row that enters group 30, carried through it. -/
theorem p79 : k0_pay79 U A (enter A U h0 23) (slab A 23) = carried A 30 (enter A U h0 30) := by
  simp only [k0_pay79, slab_eq, g78]
  rfl

/-- U of group 30. -/
theorem p80 : k0_pay80 U = slab U 30 := by
  simp only [k0_pay80, slab_eq]

/-- Group 30. -/
theorem g81 : k0_pay81 (carried A 30 (enter A U h0 30)) (slab U 30) = grp A U h0 30 := rfl

/-- Group 31. -/
theorem g82 : k0_pay82 U A (carried A 30 (enter A U h0 30)) (slab U 30) = grp A U h0 31 := by
  simp only [k0_pay82, slab_eq, g81]
  rfl

/-- Group 32. -/
theorem g83 : k0_pay83 U A (carried A 30 (enter A U h0 30)) (slab U 30) = grp A U h0 32 := by
  simp only [k0_pay83, slab_eq, g82]
  rfl

/-- Group 33. -/
theorem g84 : k0_pay84 U A (carried A 30 (enter A U h0 30)) (slab U 30) = grp A U h0 33 := by
  simp only [k0_pay84, slab_eq, g83]
  rfl

/-- Group 34. -/
theorem g85 : k0_pay85 U A (carried A 30 (enter A U h0 30)) (slab U 30) = grp A U h0 34 := by
  simp only [k0_pay85, slab_eq, g84]
  rfl

/-- Group 35. -/
theorem g86 : k0_pay86 U A (carried A 30 (enter A U h0 30)) (slab U 30) = grp A U h0 35 := by
  simp only [k0_pay86, slab_eq, g85]
  rfl

/-- Group 36. -/
theorem g87 : k0_pay87 U A (carried A 30 (enter A U h0 30)) (slab U 30) = grp A U h0 36 := by
  simp only [k0_pay87, slab_eq, g86]
  rfl

/-- Group 37. -/
theorem g88 : k0_pay88 U A (carried A 30 (enter A U h0 30)) (slab U 30) = grp A U h0 37 := by
  simp only [k0_pay88, slab_eq, g87]
  rfl

/-- The row that enters group 38. -/
theorem p89 : k0_pay89 U A (carried A 30 (enter A U h0 30)) (slab U 30) = enter A U h0 38 := by
  simp only [k0_pay89, g88]
  rfl

/-- A of group 38. -/
theorem p90 : k0_pay90 A = slab A 38 := by
  simp only [k0_pay90, slab_eq]

/-- Group 38. -/
theorem g91 : k0_pay91 U (enter A U h0 38) (slab A 38) = grp A U h0 38 := by
  simp only [k0_pay91, slab_eq]
  rfl

/-- Group 39. -/
theorem g92 : k0_pay92 U A (enter A U h0 38) (slab A 38) = grp A U h0 39 := by
  simp only [k0_pay92, slab_eq, g91]
  rfl

/-- Group 40. -/
theorem g93 : k0_pay93 U A (enter A U h0 38) (slab A 38) = grp A U h0 40 := by
  simp only [k0_pay93, slab_eq, g92]
  rfl

/-- Group 41. -/
theorem g94 : k0_pay94 U A (enter A U h0 38) (slab A 38) = grp A U h0 41 := by
  simp only [k0_pay94, slab_eq, g93]
  rfl

/-- Group 42. -/
theorem g95 : k0_pay95 U A (enter A U h0 38) (slab A 38) = grp A U h0 42 := by
  simp only [k0_pay95, slab_eq, g94]
  rfl

/-- Group 43. -/
theorem g96 : k0_pay96 U A (enter A U h0 38) (slab A 38) = grp A U h0 43 := by
  simp only [k0_pay96, slab_eq, g95]
  rfl

/-- Group 44. -/
theorem g97 : k0_pay97 U A (enter A U h0 38) (slab A 38) = grp A U h0 44 := by
  simp only [k0_pay97, slab_eq, g96]
  rfl

/-- The row that enters group 45, carried through it. -/
theorem p98 : k0_pay98 U A (enter A U h0 38) (slab A 38) = carried A 45 (enter A U h0 45) := by
  simp only [k0_pay98, slab_eq, g97]
  rfl

/-- U of group 45. -/
theorem p99 : k0_pay99 U = slab U 45 := by
  simp only [k0_pay99, slab_eq]

/-- Group 45. -/
theorem g100 : k0_pay100 (carried A 45 (enter A U h0 45)) (slab U 45) = grp A U h0 45 := rfl

/-- Group 46. -/
theorem g101 : k0_pay101 U A (carried A 45 (enter A U h0 45)) (slab U 45) = grp A U h0 46 := by
  simp only [k0_pay101, slab_eq, g100]
  rfl

/-- Group 47. -/
theorem g102 : k0_pay102 U A (carried A 45 (enter A U h0 45)) (slab U 45) = grp A U h0 47 := by
  simp only [k0_pay102, slab_eq, g101]
  rfl

/-- Group 48. -/
theorem g103 : k0_pay103 U A (carried A 45 (enter A U h0 45)) (slab U 45) = grp A U h0 48 := by
  simp only [k0_pay103, slab_eq, g102]
  rfl

/-- Group 49. -/
theorem g104 : k0_pay104 U A (carried A 45 (enter A U h0 45)) (slab U 45) = grp A U h0 49 := by
  simp only [k0_pay104, slab_eq, g103]
  rfl

/-- Group 50. -/
theorem g105 : k0_pay105 U A (carried A 45 (enter A U h0 45)) (slab U 45) = grp A U h0 50 := by
  simp only [k0_pay105, slab_eq, g104]
  rfl

/-- Group 51. -/
theorem g106 : k0_pay106 U A (carried A 45 (enter A U h0 45)) (slab U 45) = grp A U h0 51 := by
  simp only [k0_pay106, slab_eq, g105]
  rfl

/-- Group 52. -/
theorem g107 : k0_pay107 U A (carried A 45 (enter A U h0 45)) (slab U 45) = grp A U h0 52 := by
  simp only [k0_pay107, slab_eq, g106]
  rfl

/-- The row that enters group 53. -/
theorem p108 : k0_pay108 U A (carried A 45 (enter A U h0 45)) (slab U 45) = enter A U h0 53 := by
  simp only [k0_pay108, g107]
  rfl

/-- A of group 53. -/
theorem p109 : k0_pay109 A = slab A 53 := by
  simp only [k0_pay109, slab_eq]

/-- Group 53. -/
theorem g110 : k0_pay110 U (enter A U h0 53) (slab A 53) = grp A U h0 53 := by
  simp only [k0_pay110, slab_eq]
  rfl

/-- Group 54. -/
theorem g111 : k0_pay111 U A (enter A U h0 53) (slab A 53) = grp A U h0 54 := by
  simp only [k0_pay111, slab_eq, g110]
  rfl

/-- Group 55. -/
theorem g112 : k0_pay112 U A (enter A U h0 53) (slab A 53) = grp A U h0 55 := by
  simp only [k0_pay112, slab_eq, g111]
  rfl

/-- Group 56. -/
theorem g113 : k0_pay113 U A (enter A U h0 53) (slab A 53) = grp A U h0 56 := by
  simp only [k0_pay113, slab_eq, g112]
  rfl

/-- Group 57. -/
theorem g114 : k0_pay114 U A (enter A U h0 53) (slab A 53) = grp A U h0 57 := by
  simp only [k0_pay114, slab_eq, g113]
  rfl

/-- Group 58. -/
theorem g115 : k0_pay115 U A (enter A U h0 53) (slab A 53) = grp A U h0 58 := by
  simp only [k0_pay115, slab_eq, g114]
  rfl

/-- Group 59. -/
theorem g116 : k0_pay116 U A (enter A U h0 53) (slab A 53) = grp A U h0 59 := by
  simp only [k0_pay116, slab_eq, g115]
  rfl

/-- The row that enters group 60, carried through it. -/
theorem p117 : k0_pay117 U A (enter A U h0 53) (slab A 53) = carried A 60 (enter A U h0 60) := by
  simp only [k0_pay117, slab_eq, g116]
  rfl

/-- U of group 60. -/
theorem p118 : k0_pay118 U = slab U 60 := by
  simp only [k0_pay118, slab_eq]

/-- Group 60. -/
theorem g119 : k0_pay119 (carried A 60 (enter A U h0 60)) (slab U 60) = grp A U h0 60 := rfl

/-- Group 61. -/
theorem g120 : k0_pay120 U A (carried A 60 (enter A U h0 60)) (slab U 60) = grp A U h0 61 := by
  simp only [k0_pay120, slab_eq, g119]
  rfl

/-- Group 62. -/
theorem g121 : k0_pay121 U A (carried A 60 (enter A U h0 60)) (slab U 60) = grp A U h0 62 := by
  simp only [k0_pay121, slab_eq, g120]
  rfl

/-- Group 63. -/
theorem g122 : k0_pay122 U A (carried A 60 (enter A U h0 60)) (slab U 60) = grp A U h0 63 := by
  simp only [k0_pay122, slab_eq, g121]
  rfl

/-- The row the block hands the next one. -/
theorem p123 : k0_pay123 U A (carried A 60 (enter A U h0 60)) (slab U 60) = shapeCast S1x1024 (enter A U h0 64) shapeCasts_S1x1024_S1x1024 := by
  simp only [k0_pay123, g122]
  rfl

/-- The 64 groups stacked into the block's 512 rows. -/
def stack (f : ℕ → FVec F S8x1024 .f32) : FVec F S512x1024 .f32 :=
  fun i => f ((i 0).val / 8) (ix2 ⟨(i 0).val % 8, Nat.mod_lt _ (by decide)⟩ (i 1))

/-- A concatenation of 64 pieces of eight rows reads, at a row, the piece and the row within it. -/
theorem stack_eq (f : ℕ → FVec F S8x1024 .f32) (h) :
    concatenate S512x1024 0 (List.ofFn fun n : Fin 64 => (⟨S8x1024, f n.val⟩ : (s : Shape) × (s.Idx → F .f32))) h = stack f := by
  funext i
  idx_vars i
  refine concatenate_ofFn_apply 0 (fun n : Fin 64 => f n.val) h rfl 8 rfl _ ⟨i0.val / 8, by omega⟩ rfl
    (ix2 ⟨i0.val % 8, Nat.mod_lt _ (by decide)⟩ i1) rfl ?_
  intro b hb
  fin_cases b
  · exact absurd rfl hb
  · rfl

/-- The same of a list written out. -/
theorem stack_list (f : ℕ → FVec F S8x1024 .f32) (l : List ((s : Shape) × (s.Idx → F .f32))) (h)
    (e : l = List.ofFn fun n : Fin 64 => (⟨S8x1024, f n.val⟩ : (s : Shape) × (s.Idx → F .f32))) :
    concatenate S512x1024 0 l h = stack f := by
  subst e
  exact stack_eq f h

/-- The gelu of a block, in the form with the hyperbolic tangent. -/
def geluBlock (x : FVec F S512x1024 .f32) : FVec F S512x1024 .f32 :=
  mulf x (mulf (broadcast S512x1024 (Scalar.ofBits .f32 0x3F000000#32)) (addf (broadcast S512x1024 (Scalar.ofBits .f32 0x3F800000#32))
    (tanh (mulf (broadcast S512x1024 (Scalar.ofBits .f32 0x3F4C422A#32))
      (addf x (mulf (broadcast S512x1024 (Scalar.ofBits .f32 0x3D372713#32)) (mulf x (mulf x x))))))))

/-- The stacked states times the gelu of the gate. -/
theorem z124 (x : FVec F S512x1024 .f32) :
    k0_pay124 U A (grp A U h0 0) (grp A U h0 1) (grp A U h0 2) (grp A U h0 3) (grp A U h0 4) (grp A U h0 5) (grp A U h0 6) (grp A U h0 7) (grp A U h0 8) (grp A U h0 9) (grp A U h0 10) (grp A U h0 11) (grp A U h0 12) (grp A U h0 13) (grp A U h0 14) (grp A U h0 15) (grp A U h0 16) (grp A U h0 17) (grp A U h0 18) (grp A U h0 19) (grp A U h0 20) (grp A U h0 21) (grp A U h0 22) (grp A U h0 23) (grp A U h0 24) (grp A U h0 25) (grp A U h0 26) (grp A U h0 27) (grp A U h0 28) (grp A U h0 29) (grp A U h0 30) (grp A U h0 31) (grp A U h0 32) (grp A U h0 33) (grp A U h0 34) (grp A U h0 35) (grp A U h0 36) (grp A U h0 37) (grp A U h0 38) (grp A U h0 39) (grp A U h0 40) (grp A U h0 41) (grp A U h0 42) (grp A U h0 43) (grp A U h0 44) (grp A U h0 45) (grp A U h0 46) (grp A U h0 47) (grp A U h0 48) (grp A U h0 49) (grp A U h0 50) (grp A U h0 51) (grp A U h0 52) (grp A U h0 53) (grp A U h0 54) (grp A U h0 55) (grp A U h0 56) (grp A U h0 57) (grp A U h0 58) (grp A U h0 59) (carried A 60 (enter A U h0 60)) (slab U 60) x
      = mulf (stack (grp A U h0)) (geluBlock (shapeCast S512x1024 x shapeCasts_S512x1024_S512x1024)) := by
  simp only [k0_pay124]
  exact congrArg₂ mulf (stack_list (grp A U h0) _ _ (by simp only [List.ofFn_succ, List.ofFn_zero, Fin.val_succ, Fin.val_zero, zero_add, Nat.reduceAdd, g119, g120, g121, g122])) rfl

/-- The sums of squares of the stacked states times the gelu of the gate. -/
theorem p125 (x : FVec F S512x1024 .f32) :
    k0_pay125 U A (grp A U h0 0) (grp A U h0 1) (grp A U h0 2) (grp A U h0 3) (grp A U h0 4) (grp A U h0 5) (grp A U h0 6) (grp A U h0 7) (grp A U h0 8) (grp A U h0 9) (grp A U h0 10) (grp A U h0 11) (grp A U h0 12) (grp A U h0 13) (grp A U h0 14) (grp A U h0 15) (grp A U h0 16) (grp A U h0 17) (grp A U h0 18) (grp A U h0 19) (grp A U h0 20) (grp A U h0 21) (grp A U h0 22) (grp A U h0 23) (grp A U h0 24) (grp A U h0 25) (grp A U h0 26) (grp A U h0 27) (grp A U h0 28) (grp A U h0 29) (grp A U h0 30) (grp A U h0 31) (grp A U h0 32) (grp A U h0 33) (grp A U h0 34) (grp A U h0 35) (grp A U h0 36) (grp A U h0 37) (grp A U h0 38) (grp A U h0 39) (grp A U h0 40) (grp A U h0 41) (grp A U h0 42) (grp A U h0 43) (grp A U h0 44) (grp A U h0 45) (grp A U h0 46) (grp A U h0 47) (grp A U h0 48) (grp A U h0 49) (grp A U h0 50) (grp A U h0 51) (grp A U h0 52) (grp A U h0 53) (grp A U h0 54) (grp A U h0 55) (grp A U h0 56) (grp A U h0 57) (grp A U h0 58) (grp A U h0 59) (carried A 60 (enter A U h0 60)) (slab U 60) x
      = shapeCast S512x1 (multiReduction .add [1] S512
          (mulf (mulf (stack (grp A U h0)) (geluBlock (shapeCast S512x1024 x shapeCasts_S512x1024_S512x1024)))
            (mulf (stack (grp A U h0)) (geluBlock (shapeCast S512x1024 x shapeCasts_S512x1024_S512x1024))))
          0x00000000#32 reduces_S512x1024_S512 (.inl rfl) rfl) shapeCasts_S512_S512x1 := by
  simp only [k0_pay125, z124]

end Cert.Lru

end
-- ==== Proof.Scan.lean ====
/- The recurrence h ↦ a·h + u over the extended reals, and the three doublings that compute eight of its steps at once.
   No program is mentioned here: `a` and `u` are sequences, `comp` is the composition of consecutive steps, and a
   pair (A, U) STANDS FOR a stretch of steps when A·h + U is what those steps make of every h. -/
module

public import Idealize.ShloMosaic.Lib.ValueIdx

@[expose] public section

noncomputable section

namespace Cert.Lru

/-- A finite nonnegative number. -/
def Fin0 (x : EReal) : Prop := 0 ≤ x ∧ x ≠ ⊤

/-- One is finite and nonnegative. -/
theorem Fin0.one : Fin0 1 := ⟨zero_le_one, EReal.coe_ne_top 1⟩

/-- A product of finite nonnegative numbers is one. -/
theorem Fin0.mul {x y : EReal} (hx : Fin0 x) (hy : Fin0 y) : Fin0 (x * y) := by
  obtain ⟨hx0, hx1⟩ := hx
  obtain ⟨hy0, hy1⟩ := hy
  refine ⟨mul_nonneg hx0 hy0, ?_⟩
  lift x to ℝ using ⟨hx1, fun h => by simp [h] at hx0⟩
  lift y to ℝ using ⟨hy1, fun h => by simp [h] at hy0⟩
  rw [← EReal.coe_mul]
  exact EReal.coe_ne_top _

/-- A finite nonnegative factor distributes over every sum. -/
theorem Fin0.mul_add {x : EReal} (hx : Fin0 x) (y z : EReal) : x * (y + z) = x * y + x * z :=
  EReal.left_distrib_of_nonneg_of_ne_top hx.1 hx.2 y z

variable (a u : ℕ → EReal)

/-- `n` consecutive steps of the recurrence, from step `lo`, applied to `h`. -/
def comp (lo : ℕ) : ℕ → EReal → EReal
  | 0, h => h
  | n + 1, h => a (lo + n) * comp lo n h + u (lo + n)

/-- Steps `lo … lo+m+n-1` are steps `lo … lo+m-1` followed by the `n` after them. -/
theorem comp_add (lo m n : ℕ) (h : EReal) : comp a u lo (m + n) h = comp a u (lo + m) n (comp a u lo m h) := by
  induction n with
  | zero => rfl
  | succ n ih => rw [← Nat.add_assoc, comp, comp, ih, Nat.add_assoc]

/-- The pairs after the doublings that reach back `w` positions: what position `s` of a window stands for, all the
    steps up to `s` of the last `w`. -/
structure Stands (w : ℕ) (A U : ℕ → EReal) (base : ℕ) : Prop where
  fin : ∀ s, s < 8 → Fin0 (A s)
  eq : ∀ s, s < 8 → ∀ h, A s * h + U s = comp a u (base + (s + 1 - w)) (min w (s + 1)) h

/-- Before the first doubling a position stands for its own step. -/
theorem Stands.start (base : ℕ) (ha : ∀ t, Fin0 (a t)) :
    Stands a u 1 (fun s => a (base + s)) (fun s => u (base + s)) base where
  fin := fun s _ => ha _
  eq := fun s _ h => by
    have h1 : min 1 (s + 1) = 1 := by omega
    have h2 : s + 1 - 1 = s := by omega
    rw [h1, h2]
    rfl

/-- One doubling: position `s` takes over position `s - w`, or the pair (1, 0) where there is none. -/
theorem Stands.double {w : ℕ} {A U : ℕ → EReal} {base : ℕ} (hw : 0 < w) (hS : Stands a u w A U base)
    {A' U' : ℕ → EReal} (hA : ∀ s, s < 8 → A' s = A s * (if w ≤ s then A (s - w) else 1))
    (hU : ∀ s, s < 8 → U' s = A s * (if w ≤ s then U (s - w) else 0) + U s) : Stands a u (2 * w) A' U' base where
  fin := fun s hs => by
    rw [hA s hs]
    refine (hS.fin s hs).mul ?_
    split
    · exact hS.fin _ (by omega)
    · exact Fin0.one
  eq := fun s hs h => by
    rw [hA s hs, hU s hs]
    by_cases hws : w ≤ s
    · rw [if_pos hws, if_pos hws, mul_assoc, ← add_assoc, ← (hS.fin s hs).mul_add, hS.eq s hs, hS.eq (s - w) (by omega)]
      have e1 : min (2 * w) (s + 1) = min w (s - w + 1) + w := by omega
      have e2 : base + (s + 1 - w) = base + (s + 1 - 2 * w) + min w (s - w + 1) := by omega
      have e3 : s - w + 1 - w = s + 1 - 2 * w := by omega
      have e4 : min w (s + 1) = w := by omega
      rw [e1, comp_add, e2, e3, e4]
    · rw [if_neg hws, if_neg hws, mul_one, mul_zero, zero_add, hS.eq _ hs]
      have e1 : min (2 * w) (s + 1) = min w (s + 1) := by omega
      have e2 : s + 1 - 2 * w = s + 1 - w := by omega
      rw [e1, e2]

/-- After the doublings by 1, 2 and 4 a position stands for all the steps up to it in its window. -/
theorem Stands.full {A U : ℕ → EReal} {base : ℕ} (hS : Stands a u 8 A U base) (s : ℕ) (hs : s < 8) (h : EReal) :
    A s * h + U s = comp a u base (s + 1) h := by
  rw [hS.eq s hs]
  have e1 : min 8 (s + 1) = s + 1 := by omega
  have e2 : s + 1 - 8 = 0 := by omega
  rw [e1, e2, Nat.add_zero]

/-- The recurrence from zero: what it holds before step `t`. -/
def state (t : ℕ) : EReal := comp a u 0 t 0

/-- `n` steps from step `t`, applied to what the recurrence holds before it. -/
theorem comp_state (t n : ℕ) : comp a u t n (state a u t) = state a u (t + n) := by
  unfold state
  rw [comp_add, Nat.zero_add]

end Cert.Lru

end
-- ==== Proof.Gates.lean ====
/- The scalar functions of the branch over the extended reals: the logistic and the softplus as the two programs spell them,
   and the kernel's form of the input's scale against the reference's. -/
module

public import proofs.«01_k».proof.Proof.Scan
public import Idealize.ShloMosaic.PureOps.Ideal

@[expose] public section

noncomputable section

namespace Cert.Lru

open Idealize.ShloMosaic

/-- The number a single-precision word denotes. -/
abbrev f32 (b : BitVec 32) : EReal := Ideal.ofBits .f32 b

/-- The word of 0. -/
theorem f32_zero : f32 0x00000000#32 = 0 := by simp [f32, Ideal.ofBits, Ideal.ieee]

/-- The word of 1. -/
theorem f32_one : f32 0x3F800000#32 = 1 := by
  simp [f32, Ideal.ofBits, Ideal.ieee]
  norm_cast
  norm_num

/-- The word of 2. -/
theorem f32_two : f32 0x40000000#32 = ((2 : ℝ) : EReal) := by
  simp [f32, Ideal.ofBits, Ideal.ieee]
  norm_cast
  norm_num

/-- The word of -8. -/
theorem f32_neg8 : f32 0xC1000000#32 = ((-8 : ℝ) : EReal) := by
  simp [f32, Ideal.ofBits, Ideal.ieee]
  norm_cast
  norm_num

/-- The exponential at minus infinity. -/
theorem exp_bot : Ideal.exp ⊥ = 0 := rfl

/-- The exponential at plus infinity. -/
theorem exp_top : Ideal.exp ⊤ = ⊤ := rfl

/-- The logistic function is a number from 0 to 1. -/
theorem logistic_real (x : EReal) : ∃ r : ℝ, 0 ≤ r ∧ Ideal.logistic x = r := by
  induction x with
  | bot =>
    refine ⟨0, le_rfl, ?_⟩
    have e : (1 : EReal) + Ideal.exp (-⊥) = ⊤ := by rw [EReal.neg_bot, exp_top]; rfl
    rw [Ideal.logistic, e, Ideal.div, if_neg EReal.top_ne_zero, EReal.inv_top, mul_zero, EReal.coe_zero]
  | top =>
    refine ⟨1, zero_le_one, ?_⟩
    rw [Ideal.logistic, EReal.neg_top, exp_bot, add_zero, ← EReal.coe_one, Ideal.div_coe one_ne_zero, ← EReal.coe_mul]
    norm_num
  | coe r =>
    have h : (0 : ℝ) < 1 + Real.exp (-r) := by positivity
    refine ⟨1 / (1 + Real.exp (-r)), by positivity, ?_⟩
    have e : (1 : EReal) + Ideal.exp (-(r : EReal)) = ((1 + Real.exp (-r) : ℝ) : EReal) := by
      rw [← EReal.coe_neg]; rfl
    rw [Ideal.logistic, e, Ideal.div_coe h.ne', one_mul]

/-- The logarithm of 1. -/
theorem log_one : Ideal.log 1 = 0 := by
  show (if (1 : ℝ) ≤ 0 then ⊥ else ((Real.log 1 : ℝ) : EReal)) = 0
  rw [if_neg (by norm_num), Real.log_one, EReal.coe_zero]

/-- The softplus of `x`, `max x 0 + log (1 + e^(-|x|))`. -/
def softplus (x : EReal) : EReal := max x 0 + Ideal.log1p (Ideal.exp (-(max x (-x))))

/-- The softplus is never negative. -/
theorem softplus_nonneg (x : EReal) : 0 ≤ softplus x := by
  refine add_nonneg (le_max_right _ _) ?_
  induction x with
  | bot =>
    have e : -(max (⊥ : EReal) (-⊥)) = ⊥ := by simp
    rw [e, exp_bot, Ideal.log1p, add_zero]
    exact log_one.ge
  | top =>
    have e : -(max (⊤ : EReal) (-⊤)) = ⊥ := by simp
    rw [e, exp_bot, Ideal.log1p, add_zero]
    exact log_one.ge
  | coe r =>
    have h : (0 : EReal) ≤ Ideal.exp (-(max (r : EReal) (-(r : EReal)))) := by
      have e : -(max (r : EReal) (-(r : EReal))) = ((-(max r (-r)) : ℝ) : EReal) := by
        rw [EReal.coe_neg, EReal.coe_strictMono.monotone.map_max, EReal.coe_neg]
      rw [e]
      show (0 : EReal) ≤ ((Real.exp _ : ℝ) : EReal)
      exact_mod_cast (Real.exp_pos _).le
    have e : -(max (r : EReal) (-(r : EReal))) = ((-(max r (-r)) : ℝ) : EReal) := by
      rw [EReal.coe_neg, EReal.coe_strictMono.monotone.map_max, EReal.coe_neg]
    have hp : (0 : ℝ) < Real.exp (-(max r (-r))) := Real.exp_pos _
    have e2 : (1 : EReal) + Ideal.exp ((-(max r (-r)) : ℝ) : EReal) = ((1 + Real.exp (-(max r (-r))) : ℝ) : EReal) := rfl
    rw [e, Ideal.log1p, e2]
    show (0 : EReal) ≤ if 1 + Real.exp (-(max r (-r))) ≤ 0 then ⊥ else ((Real.log (1 + Real.exp (-(max r (-r)))) : ℝ) : EReal)
    rw [if_neg (by linarith)]
    exact_mod_cast Real.log_nonneg (by linarith)

/-- The logarithm of the decay: -8 times a logistic times a softplus. -/
def logDecay (g l : EReal) : EReal := f32 0xC1000000#32 * Ideal.logistic g * softplus l

/-- It is at most 0. -/
theorem logDecay_nonpos (g l : EReal) : logDecay g l ≤ 0 := by
  obtain ⟨r, hr, e⟩ := logistic_real g
  unfold logDecay
  rw [f32_neg8, e, ← EReal.coe_mul]
  have h8 : (-8 : ℝ) * r ≤ 0 := by linarith
  exact mul_nonpos_of_nonpos_of_nonneg (EReal.coe_nonpos.mpr h8) (softplus_nonneg l)

/-- The decay is a finite nonnegative number. -/
theorem decay_fin {x : EReal} (hx : x ≤ 0) : Fin0 (Ideal.exp x) := by
  induction x with
  | bot => exact ⟨le_rfl, EReal.zero_ne_top⟩
  | top => simp at hx
  | coe r => exact ⟨by show (0 : EReal) ≤ ((Real.exp r : ℝ) : EReal); exact_mod_cast (Real.exp_pos r).le, EReal.coe_ne_top _⟩

/-- For `x ≤ 0` and `t = |tanh x|`, `2t / (1 + t)` is `1 - e^(2x)`: the kernel's form of the input's scale and the
    reference's, under the square root. -/
theorem scale_eq {x : EReal} (hx : x ≤ 0) :
    Ideal.div (f32 0x40000000#32 * max (Ideal.tanh x) (-Ideal.tanh x)) (f32 0x3F800000#32 + max (Ideal.tanh x) (-Ideal.tanh x))
      = -Ideal.expm1 (f32 0x40000000#32 * x) := by
  rw [f32_one, f32_two]
  induction x with
  | top => simp at hx
  | bot =>
    have e : max (Ideal.tanh ⊥) (-Ideal.tanh ⊥) = 1 := by
      show max (-1 : EReal) (- -1) = 1
      rw [neg_neg]
      exact max_eq_right (by rw [← EReal.coe_one, ← EReal.coe_neg]; exact EReal.coe_le_coe_iff.mpr (by norm_num))
    have e2 : (1 : EReal) + 1 = ((2 : ℝ) : EReal) := by
      rw [← EReal.coe_one, ← EReal.coe_add]
      norm_num
    rw [e, e2, mul_one, Ideal.div_coe (by norm_num), ← EReal.coe_mul, EReal.coe_mul_bot_of_pos (by norm_num)]
    show _ = -((0 : EReal) - 1)
    norm_num
  | coe r =>
    have hr : r ≤ 0 := by exact_mod_cast hx
    have hp := Real.exp_pos (2 * r)
    have ht : Real.tanh r = (Real.exp (2 * r) - 1) / (Real.exp (2 * r) + 1) := by
      rw [Real.tanh_eq_sinh_div_cosh, Real.sinh_eq, Real.cosh_eq, two_mul, Real.exp_add, Real.exp_neg]
      have := Real.exp_pos r
      field_simp
    have h1 : Real.exp (2 * r) ≤ 1 := Real.exp_le_one_iff.mpr (by linarith)
    have hn : Real.tanh r ≤ 0 := by
      rw [ht]
      exact div_nonpos_of_nonpos_of_nonneg (by linarith) (by linarith)
    have e : max (Ideal.tanh (r : EReal)) (-Ideal.tanh (r : EReal)) = ((-Real.tanh r : ℝ) : EReal) := by
      show max ((Real.tanh r : ℝ) : EReal) (-((Real.tanh r : ℝ) : EReal)) = _
      rw [← EReal.coe_neg]
      exact max_eq_right (by exact_mod_cast (by linarith))
    have e2 : (1 : EReal) + ((-Real.tanh r : ℝ) : EReal) = ((1 + -Real.tanh r : ℝ) : EReal) := rfl
    have e3 : -Ideal.expm1 (((2 : ℝ) : EReal) * (r : EReal)) = ((-(Real.exp (2 * r) - 1) : ℝ) : EReal) := rfl
    have hd : (1 : ℝ) + -Real.tanh r ≠ 0 := by linarith
    rw [e, e2, Ideal.div_coe hd, e3, ← EReal.coe_mul, ← EReal.coe_mul]
    congr 1
    rw [ht] at hd ⊢
    have : Real.exp (2 * r) + 1 ≠ 0 := by linarith
    field_simp at hd ⊢
    ring

end Cert.Lru

end
-- ==== Proof.Spec.lean ====
/- The branch as mathematics, one token and one channel at a time: the causal convolution over four tokens, the two gates
   block diagonal over eight blocks of 128 channels, the decay and the input of the recurrence, the recurrence's state, and
   the gated, normalised output. The tokens of a sequence are preceded by eight zero rows. -/
module

public import proofs.«01_k».proof.Proof.Gates

@[expose] public section

noncomputable section

namespace Cert.Lru

open Idealize.ShloMosaic

/-- The weights of the branch. -/
structure Par where
  /-- the convolution's four taps, the last one that of the token itself -/
  cw : Fin 4 → Fin 1024 → EReal
  /-- its bias -/
  cb : Fin 1024 → EReal
  /-- the recurrence gate's blocks -/
  wa : Fin 8 → Fin 128 → Fin 128 → EReal
  /-- its bias -/
  ba : Fin 1024 → EReal
  /-- the input gate's blocks -/
  wx : Fin 8 → Fin 128 → Fin 128 → EReal
  /-- its bias -/
  bx : Fin 1024 → EReal
  /-- the decay's parameter -/
  lam : Fin 1024 → EReal
  /-- the norm's gain -/
  gn : Fin 1024 → EReal

variable (P : Par) (z : ℕ → Fin 1024 → EReal)

/-- The convolution at token `t`; token `t` is row `t + 8` of the padded sequence. -/
def conv (t : ℕ) (c : Fin 1024) : EReal :=
  (((P.cb c + P.cw 3 c * z (t + 8) c) + P.cw 2 c * z (t + 7) c) + P.cw 1 c * z (t + 6) c) + P.cw 0 c * z (t + 5) c

/-- A block-diagonal matrix over the channels applied to a row, at a channel. -/
def blockDot (y : Fin 1024 → EReal) (w : Fin 8 → Fin 128 → Fin 128 → EReal) (c : Fin 1024) : EReal :=
  ∑ k : Fin 128, y ⟨128 * (c.val / 128) + k.val, by omega⟩ * w ⟨c.val / 128, by omega⟩ k ⟨c.val % 128, by omega⟩

/-- The logarithm of the decay at token `t`. -/
def logA (c : Fin 1024) (t : ℕ) : EReal := logDecay (blockDot (conv P z t) P.wa c + P.ba c) (-(P.lam c))

/-- The decay. -/
def decay (c : Fin 1024) (t : ℕ) : EReal := Ideal.exp (logA P z c t)

/-- What enters the recurrence. -/
def input (c : Fin 1024) (t : ℕ) : EReal :=
  Ideal.sqrt (-Ideal.expm1 (f32 0x40000000#32 * logA P z c t))
    * (Ideal.logistic (blockDot (conv P z t) P.wx c + P.bx c) * conv P z t c)

/-- The state before token `t`. -/
def hid (c : Fin 1024) (t : ℕ) : EReal := state (decay P z c) (input P z c) t

/-- The gelu, in the form with the hyperbolic tangent. -/
def gelu (x : EReal) : EReal :=
  x * (f32 0x3F000000#32 * (f32 0x3F800000#32 + Ideal.tanh (f32 0x3F4C422A#32 * (x + f32 0x3D372713#32 * (x * (x * x))))))

/-- The state after token `t` times the gelu of the gate's row. -/
def gated (g : Fin 1024 → EReal) (t : ℕ) (c : Fin 1024) : EReal := hid P z c (t + 1) * gelu (g c)

/-- The branch's output at token `t`: the gated state over its root mean square, times the gain. -/
def branch (g : Fin 1024 → EReal) (t : ℕ) (c : Fin 1024) : EReal :=
  gated P z g t c
    * Ideal.rsqrt (Ideal.div (∑ j, gated P z g t j * gated P z g t j) (f32 0x44800000#32) + f32 0x358637BD#32) * P.gn c

/-- The decay is a finite nonnegative number. -/
theorem decay_fin0 (c : Fin 1024) (t : ℕ) : Fin0 (decay P z c t) := decay_fin (logDecay_nonpos _ _)

/-- One step of the state. -/
theorem hid_succ (c : Fin 1024) (t : ℕ) : hid P z c (t + 1) = decay P z c t * hid P z c t + input P z c t := by
  have h := comp_state (decay P z c) (input P z c) t 1
  exact h.symm

/-- The state before the first token is zero. -/
theorem hid_zero (c : Fin 1024) : hid P z c 0 = 0 := rfl

end Cert.Lru

end
-- ==== Proof.Tile.lean ====
/- One block of 512 tokens against the mathematics: with the block's rows, the eight rows before it and the state before it,
   the body's convolution, gates, decays, inputs, doublings, chain and output are those of `Spec` at the block's tokens. -/
module

public import proofs.«01_k».proof.Proof.Gen.KernelIdeal.Frame
public import Idealize.ShloMosaic.Lib.Pipeline.Value
public import Idealize.ShloMosaic.Lib.ValueIdx
public import Idealize.ShloMosaic.Lib.Pointwise
public import proofs.«01_k».proof.Proof.Chain
public import proofs.«01_k».proof.Proof.Spec

@[expose] public section

set_option maxRecDepth 16384

noncomputable section

namespace Cert.Lru

open Cert.KernelIdeal Cert.KernelIdeal.Gen Idealize.ShloMosaic Idealize.ShloMosaic.TcCoe Idealize.SL.Sem

/-- The weights the body's blocks hold. -/
def parOf (x2 : Vec Ideal S4x1024 .f32) (x3 : Vec Ideal S1x1024 .f32) (x4 : Vec Ideal S8x128x128 .bf16) (x5 : Vec Ideal S1x1024 .f32)
    (x6 : Vec Ideal S8x128x128 .bf16) (x7 x8 x9 : Vec Ideal S1x1024 .f32) : Par where
  cw k c := x2 (ix2 k c)
  cb c := x3 (ix2 0 c)
  wa b k j := x4 (ix3 b k j)
  ba c := x5 (ix2 0 c)
  wx b k j := x6 (ix3 b k j)
  bx c := x7 (ix2 0 c)
  lam c := x8 (ix2 0 c)
  gn c := x9 (ix2 0 c)

/-- Tap `k` of the convolution as the body loads it. -/
def tap (x2 : Vec Ideal S4x1024 .f32) (k : Fin 4) : Vec Ideal S1x1024 .f32 := fun i => x2 (ix2 k (i 1))

/-- Block `k` of a gate's weights as the body loads it. -/
def wblk (x4 : Vec Ideal S8x128x128 .bf16) (k : Fin 8) : Vec Ideal S1x128x128 .bf16 := fun i => x4 (ix3 k (i 1) (i 2))

/-- What one block of 128 channels gives: its columns of the rows times its weights. -/
def piece (Y : FVec Ideal S512x1024 .f32) (w : Vec Ideal S8x128x128 .bf16) (k : ℕ) : FVec Ideal S512x128 .f32 :=
  fun i => ∑ x : Fin 128, Y (ix2 (i 0) ⟨(128 * k + x.val) % 1024, by omega⟩) * w (ix3 ⟨k % 8, by omega⟩ x (i 1))

/-- The eight pieces side by side. -/
def preact (Y : FVec Ideal S512x1024 .f32) (w : Vec Ideal S8x128x128 .bf16) : FVec Ideal S512x1024 .f32 :=
  fun i => ∑ x : Fin 128, Y (ix2 (i 0) ⟨128 * ((i 1).val / 128) + x.val, by have := (i 1).isLt; have e : S512x1024.size 1 = 1024 := rfl; omega⟩)
    * w (ix3 ⟨(i 1).val / 128, by have := (i 1).isLt; have e : S512x1024.size 1 = 1024 := rfl; omega⟩ x ⟨(i 1).val % 128, by omega⟩)

/-- Eight pieces concatenated along the channels read, at a channel, the piece and the channel within it. -/
theorem preact_list (Y : FVec Ideal S512x1024 .f32) (w : Vec Ideal S8x128x128 .bf16) (l : List ((s : Shape) × (s.Idx → Ideal .f32))) (h)
    (e : l = List.ofFn fun n : Fin 8 => (⟨S512x128, piece Y w n.val⟩ : (s : Shape) × (s.Idx → Ideal .f32))) :
    concatenate S512x1024 1 l h = preact Y w := by
  subst e
  funext i
  idx_vars i
  refine (concatenate_ofFn_apply 1 (fun n : Fin 8 => piece Y w n.val) h rfl 128 rfl _ ⟨i1.val / 128, by omega⟩ rfl
    (ix2 i0 ⟨i1.val % 128, Nat.mod_lt _ (by decide)⟩) rfl ?_).trans ?_
  · intro b hb
    fin_cases b
    · rfl
    · exact absurd rfl hb
  · refine Finset.sum_congr rfl fun x _ => ?_
    have e1 : (128 * (i1.val / 128) + x.val) % 1024 = 128 * (i1.val / 128) + x.val := by omega
    have e2 : i1.val / 128 % 8 = i1.val / 128 := by omega
    exact congrArg₂ (· * ·) (congrArg Y (congrArg (ix2 i0) (Fin.ext e1))) (congrArg w (congrArg (fun b => ix3 b x _) (Fin.ext e2)))

variable (Y : FVec Ideal S512x1024 .f32) (w : Vec Ideal S8x128x128 .bf16)

/-- A sum over a block's columns, however the columns are named, is the piece. -/
theorem piece_sum (k : ℕ) (hk : k < 8) (r : Fin 512) (c : Fin 128) (j : Fin 128 → Fin 1024) (hj : ∀ x, (j x).val = 128 * k + x.val) :
    ∑ x : Fin 128, Y (ix2 r (j x)) * w (ix3 ⟨k, hk⟩ x c) = piece Y w k (ix2 r c) := by
  refine Finset.sum_congr rfl fun x _ => ?_
  have e1 : (j x).val = (128 * k + x.val) % 1024 := by have := hj x; omega
  have e2 : k = k % 8 := by omega
  exact congrArg₂ (· * ·) (congrArg Y (congrArg (ix2 r) (Fin.ext e1))) (congrArg w (congrArg (fun b => ix3 b x c) (Fin.ext e2)))

/-- The load of tap 0. -/
theorem tap0 (x2 : Vec Ideal S4x1024 .f32) : View.ld x2 (Rect.unit (s := S4x1024) ![0, 0] ![1, 1024] inb_S4x1024_S1x1024_0_0) = tap x2 0 := by
  funext i
  idx_vars i
  unfold tap
  pointwise

/-- The load of tap 1. -/
theorem tap1 (x2 : Vec Ideal S4x1024 .f32) : View.ld x2 (Rect.unit (s := S4x1024) ![1, 0] ![1, 1024] inb_S4x1024_S1x1024_1_0) = tap x2 1 := by
  funext i
  idx_vars i
  unfold tap
  pointwise

/-- The load of tap 2. -/
theorem tap2 (x2 : Vec Ideal S4x1024 .f32) : View.ld x2 (Rect.unit (s := S4x1024) ![2, 0] ![1, 1024] inb_S4x1024_S1x1024_2_0) = tap x2 2 := by
  funext i
  idx_vars i
  unfold tap
  pointwise

/-- The load of tap 3. -/
theorem tap3 (x2 : Vec Ideal S4x1024 .f32) : View.ld x2 (Rect.unit (s := S4x1024) ![3, 0] ![1, 1024] inb_S4x1024_S1x1024_3_0) = tap x2 3 := by
  funext i
  idx_vars i
  unfold tap
  pointwise

/-- The load of weight block 0. -/
theorem wblk0 : View.ld w (Rect.unit (s := S8x128x128) ![0, 0, 0] ![1, 128, 128] inb_S8x128x128_S1x128x128_0_0_0) = wblk w 0 := by
  funext i
  idx_vars i
  unfold wblk
  pointwise

/-- The load of weight block 1. -/
theorem wblk1 : View.ld w (Rect.unit (s := S8x128x128) ![1, 0, 0] ![1, 128, 128] inb_S8x128x128_S1x128x128_1_0_0) = wblk w 1 := by
  funext i
  idx_vars i
  unfold wblk
  pointwise

/-- The load of weight block 2. -/
theorem wblk2 : View.ld w (Rect.unit (s := S8x128x128) ![2, 0, 0] ![1, 128, 128] inb_S8x128x128_S1x128x128_2_0_0) = wblk w 2 := by
  funext i
  idx_vars i
  unfold wblk
  pointwise

/-- The load of weight block 3. -/
theorem wblk3 : View.ld w (Rect.unit (s := S8x128x128) ![3, 0, 0] ![1, 128, 128] inb_S8x128x128_S1x128x128_3_0_0) = wblk w 3 := by
  funext i
  idx_vars i
  unfold wblk
  pointwise

/-- The load of weight block 4. -/
theorem wblk4 : View.ld w (Rect.unit (s := S8x128x128) ![4, 0, 0] ![1, 128, 128] inb_S8x128x128_S1x128x128_4_0_0) = wblk w 4 := by
  funext i
  idx_vars i
  unfold wblk
  pointwise

/-- The load of weight block 5. -/
theorem wblk5 : View.ld w (Rect.unit (s := S8x128x128) ![5, 0, 0] ![1, 128, 128] inb_S8x128x128_S1x128x128_5_0_0) = wblk w 5 := by
  funext i
  idx_vars i
  unfold wblk
  pointwise

/-- The load of weight block 6. -/
theorem wblk6 : View.ld w (Rect.unit (s := S8x128x128) ![6, 0, 0] ![1, 128, 128] inb_S8x128x128_S1x128x128_6_0_0) = wblk w 6 := by
  funext i
  idx_vars i
  unfold wblk
  pointwise

/-- The load of weight block 7. -/
theorem wblk7 : View.ld w (Rect.unit (s := S8x128x128) ![7, 0, 0] ![1, 128, 128] inb_S8x128x128_S1x128x128_7_0_0) = wblk w 7 := by
  funext i
  idx_vars i
  unfold wblk
  pointwise

/-- Piece 0 of the recurrence gate. -/
theorem piece_a0 : k0_pay8 (F := Ideal) Y (wblk w 0) = piece Y w 0 := by
  funext i
  idx_vars i
  unfold k0_pay8 k0_pay7 wblk
  pointwise
  exact piece_sum Y w 0 (by decide) i0 i1 _ (fun x => (Nat.zero_add _).symm)

/-- Piece 1 of the recurrence gate. -/
theorem piece_a1 : k0_pay11 (F := Ideal) Y (wblk w 1) = piece Y w 1 := by
  funext i
  idx_vars i
  unfold k0_pay11 k0_pay10 wblk
  pointwise
  exact piece_sum Y w 1 (by decide) i0 i1 _ (fun x => rfl)

/-- Piece 2 of the recurrence gate. -/
theorem piece_a2 : k0_pay14 (F := Ideal) Y (wblk w 2) = piece Y w 2 := by
  funext i
  idx_vars i
  unfold k0_pay14 k0_pay13 wblk
  pointwise
  exact piece_sum Y w 2 (by decide) i0 i1 _ (fun x => rfl)

/-- Piece 3 of the recurrence gate. -/
theorem piece_a3 : k0_pay17 (F := Ideal) Y (wblk w 3) = piece Y w 3 := by
  funext i
  idx_vars i
  unfold k0_pay17 k0_pay16 wblk
  pointwise
  exact piece_sum Y w 3 (by decide) i0 i1 _ (fun x => rfl)

/-- Piece 4 of the recurrence gate. -/
theorem piece_a4 : k0_pay20 (F := Ideal) Y (wblk w 4) = piece Y w 4 := by
  funext i
  idx_vars i
  unfold k0_pay20 k0_pay19 wblk
  pointwise
  exact piece_sum Y w 4 (by decide) i0 i1 _ (fun x => rfl)

/-- Piece 5 of the recurrence gate. -/
theorem piece_a5 : k0_pay23 (F := Ideal) Y (wblk w 5) = piece Y w 5 := by
  funext i
  idx_vars i
  unfold k0_pay23 k0_pay22 wblk
  pointwise
  exact piece_sum Y w 5 (by decide) i0 i1 _ (fun x => rfl)

/-- Piece 6 of the recurrence gate. -/
theorem piece_a6 : k0_pay26 (F := Ideal) Y (wblk w 6) = piece Y w 6 := by
  funext i
  idx_vars i
  unfold k0_pay26 k0_pay25 wblk
  pointwise
  exact piece_sum Y w 6 (by decide) i0 i1 _ (fun x => rfl)

/-- Piece 0 of the input gate. -/
theorem piece_x0 : k0_pay9 (F := Ideal) Y (wblk w 0) = piece Y w 0 := by
  funext i
  idx_vars i
  unfold k0_pay9 k0_pay7 wblk
  pointwise
  exact piece_sum Y w 0 (by decide) i0 i1 _ (fun x => (Nat.zero_add _).symm)

/-- Piece 1 of the input gate. -/
theorem piece_x1 : k0_pay12 (F := Ideal) Y (wblk w 1) = piece Y w 1 := by
  funext i
  idx_vars i
  unfold k0_pay12 k0_pay10 wblk
  pointwise
  exact piece_sum Y w 1 (by decide) i0 i1 _ (fun x => rfl)

/-- Piece 2 of the input gate. -/
theorem piece_x2 : k0_pay15 (F := Ideal) Y (wblk w 2) = piece Y w 2 := by
  funext i
  idx_vars i
  unfold k0_pay15 k0_pay13 wblk
  pointwise
  exact piece_sum Y w 2 (by decide) i0 i1 _ (fun x => rfl)

/-- Piece 3 of the input gate. -/
theorem piece_x3 : k0_pay18 (F := Ideal) (k0_pay16 Y) (wblk w 3) = piece Y w 3 := by
  funext i
  idx_vars i
  unfold k0_pay18 k0_pay16 wblk
  pointwise
  exact piece_sum Y w 3 (by decide) i0 i1 _ (fun x => rfl)

/-- Piece 4 of the input gate. -/
theorem piece_x4 : k0_pay21 (F := Ideal) Y (wblk w 4) = piece Y w 4 := by
  funext i
  idx_vars i
  unfold k0_pay21 k0_pay19 wblk
  pointwise
  exact piece_sum Y w 4 (by decide) i0 i1 _ (fun x => rfl)

/-- Piece 5 of the input gate. -/
theorem piece_x5 : k0_pay24 (F := Ideal) Y (wblk w 5) = piece Y w 5 := by
  funext i
  idx_vars i
  unfold k0_pay24 k0_pay22 wblk
  pointwise
  exact piece_sum Y w 5 (by decide) i0 i1 _ (fun x => rfl)

/-- Piece 6 of the input gate. -/
theorem piece_x6 : k0_pay27 (F := Ideal) Y (wblk w 6) = piece Y w 6 := by
  funext i
  idx_vars i
  unfold k0_pay27 k0_pay25 wblk
  pointwise
  exact piece_sum Y w 6 (by decide) i0 i1 _ (fun x => rfl)

/-- Piece 7 of either gate. -/
theorem piece_7 : matmul dot_S512x128_S128x128_S512x128_1_0_0_1_n_n none (k0_pay28 (F := Ideal) Y) (k0_pay29 (wblk w 7)) (constant S512x128 .f32 0x00000000#32)
    = piece Y w 7 := by
  funext i
  idx_vars i
  unfold k0_pay28 k0_pay29 wblk
  pointwise
  exact piece_sum Y w 7 (by decide) i0 i1 _ (fun x => rfl)

/-- Piece 7 as the second gate spells it. -/
theorem piece_7' : matmul dot_S512x128_S128x128_S512x128_1_0_0_1_n_n none (k0_pay28 (F := Ideal) Y) (shapeCast S128x128 (wblk w 7) shapeCasts_S1x128x128_S128x128 : FVec Ideal S128x128 .bf16) (constant S512x128 .f32 0x00000000#32)
    = piece Y w 7 := piece_7 Y w

/-- The logarithm of the decay over the block. -/
theorem logA_blk (b l : Vec Ideal S1x1024 .f32) (r : Fin 512) (c : Fin 1024) :
    k0_pay30 (F := Ideal) (piece Y w 0) (piece Y w 1) (piece Y w 2) (piece Y w 3) (piece Y w 4) (piece Y w 5) (piece Y w 6) (k0_pay28 Y) (k0_pay29 (wblk w 7)) b l (ix2 r c)
      = logDecay (preact Y w (ix2 r c) + b (ix2 0 c)) (-(l (ix2 0 c))) := by
  unfold k0_pay30
  rw [piece_7, preact_list Y w _ _ (by simp only [List.ofFn_succ, List.ofFn_zero, Fin.val_succ, Fin.val_zero, zero_add, Nat.reduceAdd])]
  unfold logDecay softplus
  generalize preact Y w = p
  pointwise
  simp only [zero_sub]
  rfl

variable (x0 : Vec Ideal S512x1024 .f32) (x2 : Vec Ideal S4x1024 .f32) (x3 : Vec Ideal S1x1024 .f32) (x4 : Vec Ideal S8x128x128 .bf16)
  (x5 : Vec Ideal S1x1024 .f32) (x6 : Vec Ideal S8x128x128 .bf16) (x7 x8 x9 : Vec Ideal S1x1024 .f32) (xs0 : Vec Ideal S8x1024 .f32)

/-- The block's convolution. -/
def convBlk : FVec Ideal S512x1024 .f32 := k0_pay5 x0 xs0 x3 (tap x2 3) (tap x2 2) (tap x2 1) (tap x2 0)

/-- The block's decays. -/
def aBlk : FVec Ideal S512x1024 .f32 :=
  k0_pay31 (k0_pay8 (F := Ideal) Y (wblk x4 0)) (k0_pay11 (F := Ideal) Y (wblk x4 1)) (k0_pay14 (F := Ideal) Y (wblk x4 2)) (k0_pay17 (F := Ideal) Y (wblk x4 3)) (k0_pay20 (F := Ideal) Y (wblk x4 4)) (k0_pay23 (F := Ideal) Y (wblk x4 5)) (k0_pay26 (F := Ideal) Y (wblk x4 6)) (k0_pay28 Y) (k0_pay29 (wblk x4 7)) x5 x8

/-- The block's inputs. -/
def uBlk : FVec Ideal S512x1024 .f32 :=
  k0_pay32 Y (k0_pay8 (F := Ideal) Y (wblk x4 0)) (k0_pay9 (F := Ideal) Y (wblk x6 0)) (k0_pay11 (F := Ideal) Y (wblk x4 1)) (k0_pay12 (F := Ideal) Y (wblk x6 1)) (k0_pay14 (F := Ideal) Y (wblk x4 2)) (k0_pay15 (F := Ideal) Y (wblk x6 2)) (k0_pay17 (F := Ideal) Y (wblk x4 3)) (k0_pay18 (F := Ideal) (k0_pay16 Y) (wblk x6 3)) (k0_pay20 (F := Ideal) Y (wblk x4 4)) (k0_pay21 (F := Ideal) Y (wblk x6 4)) (k0_pay23 (F := Ideal) Y (wblk x4 5)) (k0_pay24 (F := Ideal) Y (wblk x6 5)) (k0_pay26 (F := Ideal) Y (wblk x4 6)) (k0_pay27 (F := Ideal) Y (wblk x6 6)) (k0_pay28 Y) (k0_pay29 (wblk x4 7)) (wblk x6 7) x5 x7 x8

variable (z : ℕ → Fin 1024 → EReal) (o : ℕ)

/-- The convolution of a row is that of its token. -/
theorem conv_at (hx : ∀ r c, x0 (ix2 r c) = z (o + r.val + 8) c) (ht : ∀ s c, xs0 (ix2 s c) = z (o + s.val) c) (r : Fin 512) (c : Fin 1024) :
    convBlk x0 x2 x3 xs0 (ix2 r c) = conv (parOf x2 x3 x4 x5 x6 x7 x8 x9) z (o + r.val) c := by
  have back : ∀ w : ℕ, 0 < w → w < 8 →
      (if h : (8 + r.val + 520 - w) % 520 < 8 then xs0 (ix2 ⟨(8 + r.val + 520 - w) % 520, h⟩ c)
        else x0 (ix2 ⟨(8 + r.val + 520 - w) % 520 - 8, by omega⟩ c)) = z (o + r.val + (8 - w)) c := by
    intro w hw hw8
    split
    · rw [ht]
      exact congrArg (fun n => z n c) (by simp only; omega)
    · rw [hx]
      exact congrArg (fun n => z n c) (by simp only; omega)
  unfold convBlk k0_pay5 k0_pay4 tap
  pointwise
  rw [back 1 (by decide) (by decide), back 2 (by decide) (by decide), back 3 (by decide) (by decide), hx]
  rfl

variable (P : Par)

/-- A gate's blocks applied to a row. -/
theorem preact_at (y : Fin 1024 → EReal) (W : Fin 8 → Fin 128 → Fin 128 → EReal) (hw : ∀ b k j, w (ix3 b k j) = W b k j) (r : Fin 512)
    (hy : ∀ c, Y (ix2 r c) = y c) (c : Fin 1024) : preact Y w (ix2 r c) = blockDot y W c :=
  Finset.sum_congr rfl fun x _ => congrArg₂ (· * ·) (hy _) (hw _ _ _)

/-- The logarithm of the decay of a row is that of its token. -/
theorem logA_at (hY : ∀ r c, Y (ix2 r c) = conv (parOf x2 x3 x4 x5 x6 x7 x8 x9) z (o + r.val) c) (r : Fin 512) (c : Fin 1024) :
    k0_pay30 (F := Ideal) (piece Y x4 0) (piece Y x4 1) (piece Y x4 2) (piece Y x4 3) (piece Y x4 4) (piece Y x4 5) (piece Y x4 6) (k0_pay28 Y) (k0_pay29 (wblk x4 7)) x5 x8 (ix2 r c)
      = logA (parOf x2 x3 x4 x5 x6 x7 x8 x9) z c (o + r.val) := by
  rw [logA_blk, preact_at Y x4 _ (parOf x2 x3 x4 x5 x6 x7 x8 x9).wa (fun _ _ _ => rfl) r (hY r)]
  rfl

/-- The decay of a row is that of its token. -/
theorem a_at (hY : ∀ r c, Y (ix2 r c) = conv (parOf x2 x3 x4 x5 x6 x7 x8 x9) z (o + r.val) c) (r : Fin 512) (c : Fin 1024) :
    aBlk Y x4 x5 x8 (ix2 r c) = decay (parOf x2 x3 x4 x5 x6 x7 x8 x9) z c (o + r.val) := by
  unfold aBlk k0_pay31
  rw [piece_a0, piece_a1, piece_a2, piece_a3, piece_a4, piece_a5, piece_a6]
  exact congrArg Ideal.exp (logA_at Y x2 x3 x4 x5 x6 x7 x8 x9 z o hY r c)

/-- The input of a row is that of its token. -/
theorem u_at (hY : ∀ r c, Y (ix2 r c) = conv (parOf x2 x3 x4 x5 x6 x7 x8 x9) z (o + r.val) c) (r : Fin 512) (c : Fin 1024) :
    uBlk Y x4 x5 x6 x7 x8 (ix2 r c) = input (parOf x2 x3 x4 x5 x6 x7 x8 x9) z c (o + r.val) := by
  unfold uBlk k0_pay32
  rw [piece_a0, piece_a1, piece_a2, piece_a3, piece_a4, piece_a5, piece_a6, piece_x0, piece_x1, piece_x2, piece_x3, piece_x4, piece_x5, piece_x6, piece_7', preact_list Y x6 _ _ (by simp only [List.ofFn_succ, List.ofFn_zero, Fin.val_succ, Fin.val_zero, zero_add, Nat.reduceAdd])]
  have hl := logA_at Y x2 x3 x4 x5 x6 x7 x8 x9 z o hY r c
  have hp := preact_at Y x6 _ (parOf x2 x3 x4 x5 x6 x7 x8 x9).wx (fun _ _ _ => rfl) r (hY r) c
  have hy := hY r c
  revert hl hp
  generalize k0_pay30 (F := Ideal) _ _ _ _ _ _ _ _ _ _ _ = L
  generalize preact Y x6 = p
  intro hl hp
  pointwise
  rw [hl, hp, hy]
  have hs := scale_eq (x := logA (parOf x2 x3 x4 x5 x6 x7 x8 x9) z c (o + r.val)) (logDecay_nonpos _ _)
  unfold input
  rw [← hs, f32_one]
  rfl

/-- A pair of sequences that agrees with one that stands for the recurrence, on a window's eight positions, stands for it. -/
theorem Stands.congr {a u : ℕ → EReal} {n base : ℕ} {A U A' U' : ℕ → EReal} (h : Stands a u n A U base) (hA : ∀ s, s < 8 → A' s = A s)
    (hU : ∀ s, s < 8 → U' s = U s) : Stands a u n A' U' base where
  fin s hs := by rw [hA s hs]; exact h.fin s hs
  eq s hs k := by rw [hA s hs, hU s hs]; exact h.eq s hs k

/-- Group `g`, channel `c` of a block of 64 groups, as a sequence. -/
def col (X : FVec Ideal S64x8x1024 .f32) (g : Fin 64) (c : Fin 1024) (s : ℕ) : EReal := X (ix3 g ⟨s % 8, by omega⟩ c)

/-- What the body multiplies by in the doubling that reaches back 1: the position 1 before, or `v` where there is none. -/
def shift1 (X : FVec Ideal S64x8x1024 .f32) (v : Ideal .f32) : FVec Ideal S64x8x1024 .f32 :=
  select k0_pay34 (dynamicRotate 1 1#32 none X rotates_S64x8x1024_d1) (broadcast S64x8x1024 v)

/-- It as a sequence. -/
theorem shift1_at (X : FVec Ideal S64x8x1024 .f32) (v : Ideal .f32) (g : Fin 64) (c : Fin 1024) (s : ℕ) (hs : s < 8) :
    col (shift1 X v) g c s = if 1 ≤ s then col X g c (s - 1) else v := by
  unfold col shift1 k0_pay34
  pointwise
  interval_cases s <;> rfl

/-- What the body multiplies by in the doubling that reaches back 2: the position 2 before, or `v` where there is none. -/
def shift2 (X : FVec Ideal S64x8x1024 .f32) (v : Ideal .f32) : FVec Ideal S64x8x1024 .f32 :=
  select k0_pay36 (dynamicRotate 1 2#32 none X rotates_S64x8x1024_d1) (broadcast S64x8x1024 v)

/-- It as a sequence. -/
theorem shift2_at (X : FVec Ideal S64x8x1024 .f32) (v : Ideal .f32) (g : Fin 64) (c : Fin 1024) (s : ℕ) (hs : s < 8) :
    col (shift2 X v) g c s = if 2 ≤ s then col X g c (s - 2) else v := by
  unfold col shift2 k0_pay36
  pointwise
  interval_cases s <;> rfl

/-- What the body multiplies by in the doubling that reaches back 4: the position 4 before, or `v` where there is none. -/
def shift4 (X : FVec Ideal S64x8x1024 .f32) (v : Ideal .f32) : FVec Ideal S64x8x1024 .f32 :=
  select k0_pay38 (dynamicRotate 1 4#32 none X rotates_S64x8x1024_d1) (broadcast S64x8x1024 v)

/-- It as a sequence. -/
theorem shift4_at (X : FVec Ideal S64x8x1024 .f32) (v : Ideal .f32) (g : Fin 64) (c : Fin 1024) (s : ℕ) (hs : s < 8) :
    col (shift4 X v) g c s = if 4 ≤ s then col X g c (s - 4) else v := by
  unfold col shift4 k0_pay38
  pointwise
  interval_cases s <;> rfl

variable (a u : FVec Ideal S512x1024 .f32)

/-- The value of one in single precision. -/
abbrev one32 : Ideal .f32 := Scalar.ofBits .f32 0x3F800000#32

/-- The value of zero in single precision. -/
abbrev zero32 : Ideal .f32 := Scalar.ofBits .f32 0x00000000#32

/-- U before the doublings. -/
def U0 : FVec Ideal S64x8x1024 .f32 := shapeCast S64x8x1024 u shapeCasts_S512x1024_S64x8x1024

/-- U after the first doubling. -/
def U1 : FVec Ideal S64x8x1024 .f32 := addf (mulf (k0_pay33 a) (shift1 (U0 u) zero32)) (U0 u)

/-- U after the second doubling. -/
def U2 : FVec Ideal S64x8x1024 .f32 := addf (mulf (k0_pay35 a) (shift2 (U1 a u) zero32)) (U1 a u)

/-- U after the third doubling. -/
theorem pay39 : k0_pay39 (F := Ideal) a u = addf (mulf (k0_pay37 a) (shift4 (U2 a u) zero32)) (U2 a u) := rfl

/-- A after the first doubling. -/
theorem pay35 : k0_pay35 (F := Ideal) a = mulf (k0_pay33 a) (shift1 (k0_pay33 a) one32) := rfl

/-- A after the second doubling. -/
theorem pay37 : k0_pay37 (F := Ideal) a = mulf (k0_pay35 a) (shift2 (k0_pay35 a) one32) := rfl

/-- A after the third doubling. -/
theorem pay40 : k0_pay40 (F := Ideal) a = mulf (k0_pay37 a) (shift4 (k0_pay37 a) one32) := rfl

/-- The word of one is one. -/
theorem one32_eq : one32 = (1 : EReal) := f32_one

/-- The word of zero is zero. -/
theorem zero32_eq : zero32 = (0 : EReal) := f32_zero

variable (da du : ℕ → Fin 1024 → EReal)

/-- After the three doublings a position of a group stands for all the steps of the group up to it. -/
theorem stands8 (a' u' : ℕ → EReal) (hf : ∀ t, Fin0 (a' t)) (g : Fin 64) (c : Fin 1024) (ha : ∀ r : Fin 512, a (ix2 r c) = a' (o + r.val))
    (hu : ∀ r : Fin 512, u (ix2 r c) = u' (o + r.val)) :
    Stands a' u' 8 (col (k0_pay40 a) g c) (col (k0_pay39 a u) g c) (o + 8 * g.val) := by
  have e : ∀ (X : FVec Ideal S512x1024 .f32) (x' : ℕ → EReal), (∀ r : Fin 512, X (ix2 r c) = x' (o + r.val)) → ∀ s, s < 8 →
      col (shapeCast S64x8x1024 X shapeCasts_S512x1024_S64x8x1024) g c s = x' (o + 8 * g.val + s) := by
    intro X x' hX s hs
    unfold col
    pointwise
    rw [hX]
    exact congrArg x' (by simp only; omega)
  have h1 : Stands a' u' 1 (col (k0_pay33 a) g c) (col (U0 u) g c) (o + 8 * g.val) :=
    (Stands.start a' u' (o + 8 * g.val) hf).congr (e a a' ha) (e u u' hu)
  have h2 : Stands a' u' 2 (col (k0_pay35 a) g c) (col (U1 a u) g c) (o + 8 * g.val) :=
    Stands.double a' u' (by decide) h1
      (fun s hs => congrArg (col (k0_pay33 a) g c s * ·) ((shift1_at _ _ g c s hs).trans (congrArg (fun v : EReal => if 1 ≤ s then _ else v) one32_eq)))
      (fun s hs => congrArg (fun x => col (k0_pay33 a) g c s * x + col (U0 u) g c s) ((shift1_at _ _ g c s hs).trans (congrArg (fun v : EReal => if 1 ≤ s then _ else v) zero32_eq)))
  have h4 : Stands a' u' 4 (col (k0_pay37 a) g c) (col (U2 a u) g c) (o + 8 * g.val) :=
    Stands.double a' u' (by decide) h2
      (fun s hs => congrArg (col (k0_pay35 a) g c s * ·) ((shift2_at _ _ g c s hs).trans (congrArg (fun v : EReal => if 2 ≤ s then _ else v) one32_eq)))
      (fun s hs => congrArg (fun x => col (k0_pay35 a) g c s * x + col (U1 a u) g c s) ((shift2_at _ _ g c s hs).trans (congrArg (fun v : EReal => if 2 ≤ s then _ else v) zero32_eq)))
  exact Stands.double a' u' (by decide) h4
      (fun s hs => congrArg (col (k0_pay37 a) g c s * ·) ((shift4_at _ _ g c s hs).trans (congrArg (fun v : EReal => if 4 ≤ s then _ else v) one32_eq)))
      (fun s hs => congrArg (fun x => col (k0_pay37 a) g c s * x + col (U2 a u) g c s) ((shift4_at _ _ g c s hs).trans (congrArg (fun v : EReal => if 4 ≤ s then _ else v) zero32_eq)))

variable (h0 : FVec Ideal S1x1024 .f32)

/-- A row of a group, read from the row that enters it. -/
theorem grp_row (A U : FVec Ideal S64x8x1024 .f32) (k : ℕ) (hk : k < 64) (s : Fin 8) (c : Fin 1024) :
    grp A U h0 k (ix2 s c) = col A ⟨k, hk⟩ c s.val * enter A U h0 k (ix2 0 c) + col U ⟨k, hk⟩ c s.val := by
  have e1 : k % 64 = k := Nat.mod_eq_of_lt hk
  have e2 : s.val % 8 = s.val := Nat.mod_eq_of_lt s.isLt
  unfold grp carried slab col
  pointwise
  simp only [e1, e2]

/-- The row that enters a group is the state before the group's first token. -/
theorem enter_at (a' u' : ℕ → EReal) (hf : ∀ t, Fin0 (a' t)) (c : Fin 1024) (ha : ∀ r : Fin 512, a (ix2 r c) = a' (o + r.val))
    (hu : ∀ r : Fin 512, u (ix2 r c) = u' (o + r.val)) (hh : h0 (ix2 0 c) = state a' u' o) (k : ℕ) (hk : k ≤ 64) :
    enter (k0_pay40 a) (k0_pay39 a u) h0 k (ix2 0 c) = state a' u' (o + 8 * k) := by
  induction k with
  | zero => exact hh
  | succ k ih =>
    have hk' : k < 64 := by omega
    have h7 : enter (k0_pay40 a) (k0_pay39 a u) h0 (k + 1) (ix2 0 c) = grp (k0_pay40 a) (k0_pay39 a u) h0 k (ix2 7 c) := by
      show lastRow (grp (k0_pay40 a) (k0_pay39 a u) h0 k) (ix2 0 c) = _
      unfold lastRow
      pointwise
    rw [h7, grp_row h0 _ _ k hk', ih (by omega)]
    have hS := (stands8 o a u a' u' hf ⟨k, hk'⟩ c ha hu).full a' u' 7 (by decide) (state a' u' (o + 8 * k))
    refine hS.trans ?_
    exact (comp_state a' u' (o + 8 * k) 8)

/-- A row of the stacked groups is the state after its token. -/
theorem stack_at (a' u' : ℕ → EReal) (hf : ∀ t, Fin0 (a' t)) (c : Fin 1024) (ha : ∀ r : Fin 512, a (ix2 r c) = a' (o + r.val))
    (hu : ∀ r : Fin 512, u (ix2 r c) = u' (o + r.val)) (hh : h0 (ix2 0 c) = state a' u' o) (r : Fin 512) :
    stack (grp (k0_pay40 a) (k0_pay39 a u) h0) (ix2 r c) = state a' u' (o + r.val + 1) := by
  have hk : r.val / 8 < 64 := by omega
  have h1 : stack (grp (k0_pay40 a) (k0_pay39 a u) h0) (ix2 r c)
      = grp (k0_pay40 a) (k0_pay39 a u) h0 (r.val / 8) (ix2 ⟨r.val % 8, Nat.mod_lt _ (by decide)⟩ c) := rfl
  rw [h1, grp_row h0 _ _ _ hk, enter_at o a u h0 a' u' hf c ha hu hh _ (by omega)]
  have hS := (stands8 o a u a' u' hf ⟨r.val / 8, hk⟩ c ha hu).full a' u' (r.val % 8) (by omega) (state a' u' (o + 8 * (r.val / 8)))
  refine hS.trans ?_
  refine (comp_state a' u' (o + 8 * (r.val / 8)) (r.val % 8 + 1)).trans ?_
  exact congrArg (state a' u') (by omega)

/-- The block's gated states. -/
def gatedBlk (x1 : FVec Ideal S512x1024 .f32) : FVec Ideal S512x1024 .f32 :=
  mulf (stack (grp (k0_pay40 a) (k0_pay39 a u) h0)) (geluBlock (shapeCast S512x1024 x1 shapeCasts_S512x1024_S512x1024))

/-- The sums of squares of the block's gated states. -/
def squares (Z : FVec Ideal S512x1024 .f32) : FVec Ideal S512x1 .f32 :=
  shapeCast S512x1 (multiReduction .add [1] S512 (mulf Z Z) 0x00000000#32 reduces_S512x1024_S512 (.inl rfl) rfl) shapeCasts_S512_S512x1

/-- The norm of a block, at a row. -/
theorem norm_at (Z : FVec Ideal S512x1024 .f32) (r : Fin 512) (c : Fin 1024) :
    k0_pay1 (F := Ideal) Z (squares Z) (FloatOps.ofBits FTy.f32 1149239296#32) x9 (ix2 r c)
      = Z (ix2 r c) * Ideal.rsqrt (Ideal.div (∑ j, Z (ix2 r j) * Z (ix2 r j)) (f32 0x44800000#32) + f32 0x358637BD#32) * x9 (ix2 0 c) := by
  unfold k0_pay1 squares
  pointwise

/-- The block's output at a row is the branch at its token. -/
theorem out_at (x1 : FVec Ideal S512x1024 .f32)
    (ha : ∀ (r : Fin 512) c, a (ix2 r c) = decay (parOf x2 x3 x4 x5 x6 x7 x8 x9) z c (o + r.val))
    (hu : ∀ (r : Fin 512) c, u (ix2 r c) = input (parOf x2 x3 x4 x5 x6 x7 x8 x9) z c (o + r.val))
    (hh : ∀ c, h0 (ix2 0 c) = hid (parOf x2 x3 x4 x5 x6 x7 x8 x9) z c o) (r : Fin 512) (c : Fin 1024) :
    k0_pay1 (F := Ideal) (gatedBlk a u h0 x1) (squares (gatedBlk a u h0 x1)) (FloatOps.ofBits FTy.f32 1149239296#32) x9 (ix2 r c)
      = branch (parOf x2 x3 x4 x5 x6 x7 x8 x9) z (fun j => x1 (ix2 r j)) (o + r.val) c := by
  have hz : ∀ j, gatedBlk a u h0 x1 (ix2 r j) = gated (parOf x2 x3 x4 x5 x6 x7 x8 x9) z (fun j => x1 (ix2 r j)) (o + r.val) j := by
    intro j
    have hs := stack_at o a u h0 (decay (parOf x2 x3 x4 x5 x6 x7 x8 x9) z j) (input (parOf x2 x3 x4 x5 x6 x7 x8 x9) z j) (decay_fin0 _ z j) j
      (fun r => ha r j) (fun r => hu r j) (hh j) r
    have hg : geluBlock (shapeCast S512x1024 x1 shapeCasts_S512x1024_S512x1024) (ix2 r j) = gelu (x1 (ix2 r j)) := by
      unfold geluBlock gelu
      pointwise
    exact congrArg₂ (· * ·) hs hg
  rw [norm_at]
  simp only [hz]
  rfl

end Cert.Lru

end
-- ==== Proof.Body.lean ====
/- What one run of the body leaves in its output block and in its two carried buffers, at the first block of a sequence
   (the carried buffers zeroed first) and at a later one: one function of the blocks and of what the buffers held. -/
module

public import proofs.«01_k».proof.Proof.Gen.KernelIdeal.Frame
public import Idealize.ShloMosaic.Lib.Pipeline.Value
public import Idealize.ShloMosaic.Lib.ValueIdx
public import Idealize.ShloMosaic.Lib.Pointwise
public import proofs.«01_k».proof.Proof.Tile

@[expose] public section

set_option maxRecDepth 16384

noncomputable section

namespace Cert.Lru

open Cert.KernelIdeal Cert.KernelIdeal.Gen Idealize.ShloMosaic Idealize.ShloMosaic.TcCoe Idealize.SL.Sem

/-- The corner of a buffer. -/
theorem hz : (![0, 0] : Fin 2 → Nat) = fun _ => 0 := by decide

variable (x0 x1 : Vec Ideal S512x1024 .f32) (x2 : Vec Ideal S4x1024 .f32) (x3 : Vec Ideal S1x1024 .f32) (x4 : Vec Ideal S8x128x128 .bf16)
  (x5 : Vec Ideal S1x1024 .f32) (x6 : Vec Ideal S8x128x128 .bf16) (x7 x8 x9 : Vec Ideal S1x1024 .f32) (xs0 : Vec Ideal S8x1024 .f32)
  (xs1 : Vec Ideal S1x1024 .f32)

/-- The decays of a block from its inputs. -/
def aOf : FVec Ideal S512x1024 .f32 := aBlk (convBlk x0 x2 x3 xs0) x4 x5 x8

/-- The recurrence's inputs of a block from its inputs. -/
def uOf : FVec Ideal S512x1024 .f32 := uBlk (convBlk x0 x2 x3 xs0) x4 x5 x6 x7 x8

/-- The output block. -/
def outOf : Vec Ideal S512x1024 .bf16 :=
  k0_pay1 (F := Ideal) (gatedBlk (aOf x0 x2 x3 x4 x5 x8 xs0) (uOf x0 x2 x3 x4 x5 x6 x7 x8 xs0) xs1 x1)
    (squares (gatedBlk (aOf x0 x2 x3 x4 x5 x8 xs0) (uOf x0 x2 x3 x4 x5 x6 x7 x8 xs0) xs1 x1)) (FloatOps.ofBits FTy.f32 1149239296#32) x9

/-- The state handed on. -/
def carryOf : Vec Ideal S1x1024 .f32 :=
  shapeCast S1x1024 (enter (k0_pay40 (aOf x0 x2 x3 x4 x5 x8 xs0)) (k0_pay39 (aOf x0 x2 x3 x4 x5 x8 xs0) (uOf x0 x2 x3 x4 x5 x6 x7 x8 xs0)) xs1 64) shapeCasts_S1x1024_S1x1024

/-- The output block left at a later block. -/
theorem outB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x1024 .f32) (harg13 : arg13.IsWhole) (arg14 : Memref sig .tc .vmem S1x1024 .f32) (harg14 : arg14.IsWhole) (hc0 : ¬cond0_0 i)
    (x0 : Vec Ideal S512x1024 .f32) (x1 : Vec Ideal S512x1024 .f32) (x2 : Vec Ideal S4x1024 .f32) (x3 : Vec Ideal S1x1024 .f32) (x4 : Vec Ideal S8x128x128 .bf16) (x5 : Vec Ideal S1x1024 .f32) (x6 : Vec Ideal S8x128x128 .bf16) (x7 : Vec Ideal S1x1024 .f32) (x8 : Vec Ideal S1x1024 .f32) (x9 : Vec Ideal S1x1024 .f32) (xs0 : Vec Ideal S8x1024 .f32) (xs1 : Vec Ideal S1x1024 .f32) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1 = outOf x0 x1 x2 x3 x4 x5 x6 x7 x8 x9 xs0 xs1 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S8x1024) hz, View.ld_unit_zero (S := S1x1024) hz, tap0, tap1, tap2, tap3, wblk0, wblk1, wblk2, wblk3, wblk4, wblk5, wblk6, wblk7]
  unfold outOf aOf uOf aBlk uBlk
  unfold convBlk
  generalize k0_pay5 (F := Ideal) _ _ _ _ _ _ _ = Y
  generalize k0_pay31 (F := Ideal) _ _ _ _ _ _ _ _ _ _ _ = a
  generalize k0_pay32 (F := Ideal) _ _ _ _ _ _ _ _ _ _ _ _ _ _ _ _ _ _ _ _ _ = u
  simp only [p41, p42, g43, g44, g45, g46, g47, g48, g49, g50, p51, p52, g53, g54, g55, g56, g57, g58, g59, p60, p61, g62, g63, g64, g65, g66, g67, g68, g69, p70, p71, g72, g73, g74, g75, g76, g77, g78, p79, p80, g81, g82, g83, g84, g85, g86, g87, g88, p89, p90, g91, g92, g93, g94, g95, g96, g97, p98, p99, g100, g101, g102, g103, g104, g105, g106, g107, p108, p109, g110, g111, g112, g113, g114, g115, g116, p117, p118, g119, g120, g121, g122, z124, p125]
  rfl

/-- The last eight rows left at a later block. -/
theorem tailB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x1024 .f32) (harg13 : arg13.IsWhole) (arg14 : Memref sig .tc .vmem S1x1024 .f32) (harg14 : arg14.IsWhole) (hc0 : ¬cond0_0 i)
    (x0 : Vec Ideal S512x1024 .f32) (x1 : Vec Ideal S512x1024 .f32) (x2 : Vec Ideal S4x1024 .f32) (x3 : Vec Ideal S1x1024 .f32) (x4 : Vec Ideal S8x128x128 .bf16) (x5 : Vec Ideal S1x1024 .f32) (x6 : Vec Ideal S8x128x128 .bf16) (x7 : Vec Ideal S1x1024 .f32) (x8 : Vec Ideal S1x1024 .f32) (x9 : Vec Ideal S1x1024 .f32) (xs0 : Vec Ideal S8x1024 .f32) (xs1 : Vec Ideal S1x1024 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1 = k0_pay6 x0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S8x1024) hz, View.ld_unit_zero (S := S1x1024) hz, tap0, tap1, tap2, tap3, wblk0, wblk1, wblk2, wblk3, wblk4, wblk5, wblk6, wblk7]

/-- The state left at a later block. -/
theorem carryB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x1024 .f32) (harg13 : arg13.IsWhole) (arg14 : Memref sig .tc .vmem S1x1024 .f32) (harg14 : arg14.IsWhole) (hc0 : ¬cond0_0 i)
    (x0 : Vec Ideal S512x1024 .f32) (x1 : Vec Ideal S512x1024 .f32) (x2 : Vec Ideal S4x1024 .f32) (x3 : Vec Ideal S1x1024 .f32) (x4 : Vec Ideal S8x128x128 .bf16) (x5 : Vec Ideal S1x1024 .f32) (x6 : Vec Ideal S8x128x128 .bf16) (x7 : Vec Ideal S1x1024 .f32) (x8 : Vec Ideal S1x1024 .f32) (x9 : Vec Ideal S1x1024 .f32) (xs0 : Vec Ideal S8x1024 .f32) (xs1 : Vec Ideal S1x1024 .f32) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1 = carryOf x0 x2 x3 x4 x5 x6 x7 x8 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S8x1024) hz, View.ld_unit_zero (S := S1x1024) hz, tap0, tap1, tap2, tap3, wblk0, wblk1, wblk2, wblk3, wblk4, wblk5, wblk6, wblk7]
  unfold carryOf aOf uOf aBlk uBlk
  unfold convBlk
  generalize k0_pay5 (F := Ideal) _ _ _ _ _ _ _ = Y
  generalize k0_pay31 (F := Ideal) _ _ _ _ _ _ _ _ _ _ _ = a
  generalize k0_pay32 (F := Ideal) _ _ _ _ _ _ _ _ _ _ _ _ _ _ _ _ _ _ _ _ _ = u
  simp only [p41, p42, g43, g44, g45, g46, g47, g48, g49, g50, p51, p52, g53, g54, g55, g56, g57, g58, g59, p60, p61, g62, g63, g64, g65, g66, g67, g68, g69, p70, p71, g72, g73, g74, g75, g76, g77, g78, p79, p80, g81, g82, g83, g84, g85, g86, g87, g88, p89, p90, g91, g92, g93, g94, g95, g96, g97, p98, p99, g100, g101, g102, g103, g104, g105, g106, g107, p108, p109, g110, g111, g112, g113, g114, g115, g116, p117, p118, g119, g120, g121, g122, p123]

/-- The output block left at the first block of a sequence. -/
theorem outA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x1024 .f32) (harg13 : arg13.IsWhole) (arg14 : Memref sig .tc .vmem S1x1024 .f32) (harg14 : arg14.IsWhole) (hc0 : cond0_0 i)
    (x0 : Vec Ideal S512x1024 .f32) (x1 : Vec Ideal S512x1024 .f32) (x2 : Vec Ideal S4x1024 .f32) (x3 : Vec Ideal S1x1024 .f32) (x4 : Vec Ideal S8x128x128 .bf16) (x5 : Vec Ideal S1x1024 .f32) (x6 : Vec Ideal S8x128x128 .bf16) (x7 : Vec Ideal S1x1024 .f32) (x8 : Vec Ideal S1x1024 .f32) (x9 : Vec Ideal S1x1024 .f32) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = outOf x0 x1 x2 x3 x4 x5 x6 x7 x8 x9 (k0_pay2 (F := Ideal)) (k0_pay3 (F := Ideal)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz]
  simp only [View.readCov_unit_zero (S := S8x1024) _ hz, View.readCov_unit_zero (S := S1x1024) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S8x1024) hz, View.ld_unit_zero (S := S1x1024) hz, tap0, tap1, tap2, tap3, wblk0, wblk1, wblk2, wblk3, wblk4, wblk5, wblk6, wblk7]
  unfold outOf aOf uOf aBlk uBlk
  unfold convBlk
  generalize k0_pay5 (F := Ideal) _ _ _ _ _ _ _ = Y
  generalize k0_pay31 (F := Ideal) _ _ _ _ _ _ _ _ _ _ _ = a
  generalize k0_pay32 (F := Ideal) _ _ _ _ _ _ _ _ _ _ _ _ _ _ _ _ _ _ _ _ _ = u
  simp only [p41, p42, g43, g44, g45, g46, g47, g48, g49, g50, p51, p52, g53, g54, g55, g56, g57, g58, g59, p60, p61, g62, g63, g64, g65, g66, g67, g68, g69, p70, p71, g72, g73, g74, g75, g76, g77, g78, p79, p80, g81, g82, g83, g84, g85, g86, g87, g88, p89, p90, g91, g92, g93, g94, g95, g96, g97, p98, p99, g100, g101, g102, g103, g104, g105, g106, g107, p108, p109, g110, g111, g112, g113, g114, g115, g116, p117, p118, g119, g120, g121, g122, z124, p125]
  rfl

/-- The last eight rows left at the first block of a sequence. -/
theorem tailA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x1024 .f32) (harg13 : arg13.IsWhole) (arg14 : Memref sig .tc .vmem S1x1024 .f32) (harg14 : arg14.IsWhole) (hc0 : cond0_0 i)
    (x0 : Vec Ideal S512x1024 .f32) (x1 : Vec Ideal S512x1024 .f32) (x2 : Vec Ideal S4x1024 .f32) (x3 : Vec Ideal S1x1024 .f32) (x4 : Vec Ideal S8x128x128 .bf16) (x5 : Vec Ideal S1x1024 .f32) (x6 : Vec Ideal S8x128x128 .bf16) (x7 : Vec Ideal S1x1024 .f32) (x8 : Vec Ideal S1x1024 .f32) (x9 : Vec Ideal S1x1024 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay6 x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_cons_unit_zero (S := S8x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S8x1024) hz, View.ld_unit_zero (S := S1x1024) hz, tap0, tap1, tap2, tap3, wblk0, wblk1, wblk2, wblk3, wblk4, wblk5, wblk6, wblk7]

/-- The state left at the first block of a sequence. -/
theorem carryA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x1024 .f32) (harg13 : arg13.IsWhole) (arg14 : Memref sig .tc .vmem S1x1024 .f32) (harg14 : arg14.IsWhole) (hc0 : cond0_0 i)
    (x0 : Vec Ideal S512x1024 .f32) (x1 : Vec Ideal S512x1024 .f32) (x2 : Vec Ideal S4x1024 .f32) (x3 : Vec Ideal S1x1024 .f32) (x4 : Vec Ideal S8x128x128 .bf16) (x5 : Vec Ideal S1x1024 .f32) (x6 : Vec Ideal S8x128x128 .bf16) (x7 : Vec Ideal S1x1024 .f32) (x8 : Vec Ideal S1x1024 .f32) (x9 : Vec Ideal S1x1024 .f32) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = carryOf x0 x2 x3 x4 x5 x6 x7 x8 (k0_pay2 (F := Ideal)) (k0_pay3 (F := Ideal)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_cons_unit_zero (S := S1x1024) hz]
  simp only [View.readCov_unit_zero (S := S8x1024) _ hz, View.readCov_unit_zero (S := S1x1024) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S8x1024) hz, View.ld_unit_zero (S := S1x1024) hz, tap0, tap1, tap2, tap3, wblk0, wblk1, wblk2, wblk3, wblk4, wblk5, wblk6, wblk7]
  unfold carryOf aOf uOf aBlk uBlk
  unfold convBlk
  generalize k0_pay5 (F := Ideal) _ _ _ _ _ _ _ = Y
  generalize k0_pay31 (F := Ideal) _ _ _ _ _ _ _ _ _ _ _ = a
  generalize k0_pay32 (F := Ideal) _ _ _ _ _ _ _ _ _ _ _ _ _ _ _ _ _ _ _ _ _ = u
  simp only [p41, p42, g43, g44, g45, g46, g47, g48, g49, g50, p51, p52, g53, g54, g55, g56, g57, g58, g59, p60, p61, g62, g63, g64, g65, g66, g67, g68, g69, p70, p71, g72, g73, g74, g75, g76, g77, g78, p79, p80, g81, g82, g83, g84, g85, g86, g87, g88, p89, p90, g91, g92, g93, g94, g95, g96, g97, p98, p99, g100, g101, g102, g103, g104, g105, g106, g107, p108, p109, g110, g111, g112, g113, g114, g115, g116, p117, p118, g119, g120, g121, g122, p123]

end Cert.Lru

end
-- ==== Proof.Point.lean ====
module

public import proofs.«01_k».proof.Proof.Body
public import proofs.«01_k».proof.Proof.Gen.KernelIdeal.Value
public import Idealize.ShloMosaic.Lib.Pipeline.ValueKit.Point
public import Idealize.ShloMosaic.Lib.Claim

@[expose] public section

set_option maxRecDepth 16384

noncomputable section

namespace Cert.Lru

open Cert.KernelIdeal Cert.KernelIdeal.Gen Idealize.ShloMosaic Idealize.ShloMosaic.TcCoe Idealize.SL.Sem

variable (m : (ℓ : Loc nD τ sig) → Buf (Elt Ideal) ℓ) (c : Dev nD)

/-- The projected input, as launched. -/
abbrev projK : Vec Ideal S8x2048x2048 .f32 := m ((c : Thread nD τ).loc main_arg0)

/-- A projected input's recurrent columns of batch row `b` as a sequence over the tokens, behind eight zero tokens. -/
def seq (x : Vec Ideal S8x2048x2048 .f32) (b : Fin 8) (n : ℕ) (ch : Fin 1024) : EReal :=
  if h : 8 ≤ n ∧ n < 2056 then x (ix3 b ⟨n - 8, by omega⟩ ⟨ch.val, by omega⟩) else 0

/-- The gate columns of batch row `b` at token `n`. -/
def side (x : Vec Ideal S8x2048x2048 .f32) (b : Fin 8) (n : Fin 2048) (ch : Fin 1024) : EReal :=
  x (ix3 b n ⟨1024 + ch.val, by omega⟩)

/-- The layer's parameters read off the arrays that hold them. -/
def parArr (cw : Vec Ideal S4x1024 .f32) (cb : Vec Ideal S1024 .f32) (wa : Vec Ideal S8x128x128 .f32)
    (ba : Vec Ideal S1024 .f32) (wx : Vec Ideal S8x128x128 .f32) (bx lam gn : Vec Ideal S1024 .f32) : Par where
  cw k ch := cw (ix2 k ch)
  cb ch := cb (ix1 ch)
  wa k i j := wa (ix3 k i j)
  ba ch := ba (ix1 ch)
  wx k i j := wx (ix3 k i j)
  bx ch := bx (ix1 ch)
  lam ch := lam (ix1 ch)
  gn ch := gn (ix1 ch)

/-- The parameters the kernel is launched on. -/
def parK : Par :=
  parArr (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-- Where the two row windows and the result's window stand at point `t`. -/
theorem idx (t : Fin cfg0.N) : win0_0.index t 0 = t.val ∧ win0_0.index t 1 = 0 ∧ win0_1.index t 0 = t.val ∧
    win0_1.index t 1 = 1 ∧ win0_10.index t 0 = t.val ∧ win0_10.index t 1 = 0 := by
  revert t; decide +kernel

/-- The parameter windows stand at their arrays' origin at every point. -/
theorem idxP (t : Fin cfg0.N) : (win0_2.index t 0 = 0 ∧ win0_2.index t 1 = 0) ∧ (win0_3.index t 0 = 0 ∧ win0_3.index t 1 = 0) ∧
    (win0_4.index t 0 = 0 ∧ win0_4.index t 1 = 0 ∧ win0_4.index t 2 = 0) ∧ (win0_5.index t 0 = 0 ∧ win0_5.index t 1 = 0) ∧
    (win0_6.index t 0 = 0 ∧ win0_6.index t 1 = 0 ∧ win0_6.index t 2 = 0) ∧ (win0_7.index t 0 = 0 ∧ win0_7.index t 1 = 0) ∧
    (win0_8.index t 0 = 0 ∧ win0_8.index t 1 = 0) ∧ (win0_9.index t 0 = 0 ∧ win0_9.index t 1 = 0) := by
  revert t; decide +kernel

/-- The batch row of point `t`: four consecutive points serve one row. -/
def rowOf (t : Fin cfg0.N) : Fin 8 := ⟨t.val / 4, by have := t.isLt; have e : cfg0.N = 32 := rfl; omega⟩

/-- Window 0's block: the recurrent columns of the point's 512 tokens. -/
theorem blk0 (t : Fin cfg0.N) (r : Fin 512) (ch : Fin 1024) :
    iblk m c 0 t (ix2 r ch) = projK m c (ix3 (rowOf t) ⟨512 * (t.val % 4) + r.val, by omega⟩ ⟨ch.val, by omega⟩) := by
  unfold rowOf
  blk_simp [iblk, V, idx t]
  entry_read
  pointwise
  blk_ext [iblk, V, idx t]

/-- Window 1's block: the gate columns of the same tokens. -/
theorem blk1 (t : Fin cfg0.N) (r : Fin 512) (ch : Fin 1024) :
    iblk m c 1 t (ix2 r ch) = projK m c (ix3 (rowOf t) ⟨512 * (t.val % 4) + r.val, by omega⟩ ⟨1024 + ch.val, by omega⟩) := by
  unfold rowOf
  blk_simp [iblk, V, idx t]
  entry_read
  pointwise
  blk_ext [iblk, V, idx t]

theorem blk2 (t : Fin cfg0.N) (k : Fin 4) (ch : Fin 1024) :
    iblk m c 2 t (ix2 k ch) = m ((c : Thread nD τ).loc main_arg1) (ix2 k ch) := by
  blk_ext! [iblk, V, idxP t]

theorem blk3 (t : Fin cfg0.N) (ch : Fin 1024) :
    iblk m c 3 t (ix2 0 ch) = m ((c : Thread nD τ).loc main_arg2) (ix1 ch) := by
  blk_simp [iblk, V, idxP t]
  entry_read
  pointwise
  blk_ext [iblk, V, idxP t]

theorem blk4 (t : Fin cfg0.N) (k : Fin 8) (i j : Fin 128) :
    iblk m c 4 t (ix3 k i j) = m ((c : Thread nD τ).loc main_arg3) (ix3 k i j) := by
  blk_simp [iblk, V, idxP t]
  entry_read
  pointwise
  blk_ext [iblk, V, idxP t]

theorem blk5 (t : Fin cfg0.N) (ch : Fin 1024) :
    iblk m c 5 t (ix2 0 ch) = m ((c : Thread nD τ).loc main_arg4) (ix1 ch) := by
  blk_simp [iblk, V, idxP t]
  entry_read
  pointwise
  blk_ext [iblk, V, idxP t]

theorem blk6 (t : Fin cfg0.N) (k : Fin 8) (i j : Fin 128) :
    iblk m c 6 t (ix3 k i j) = m ((c : Thread nD τ).loc main_arg5) (ix3 k i j) := by
  blk_simp [iblk, V, idxP t]
  entry_read
  pointwise
  blk_ext [iblk, V, idxP t]

theorem blk7 (t : Fin cfg0.N) (ch : Fin 1024) :
    iblk m c 7 t (ix2 0 ch) = m ((c : Thread nD τ).loc main_arg6) (ix1 ch) := by
  blk_simp [iblk, V, idxP t]
  entry_read
  pointwise
  blk_ext [iblk, V, idxP t]

theorem blk8 (t : Fin cfg0.N) (ch : Fin 1024) :
    iblk m c 8 t (ix2 0 ch) = m ((c : Thread nD τ).loc main_arg7) (ix1 ch) := by
  blk_simp [iblk, V, idxP t]
  entry_read
  pointwise
  blk_ext [iblk, V, idxP t]

theorem blk9 (t : Fin cfg0.N) (ch : Fin 1024) :
    iblk m c 9 t (ix2 0 ch) = m ((c : Thread nD τ).loc main_arg8) (ix1 ch) := by
  blk_simp [iblk, V, idxP t]
  entry_read
  pointwise
  blk_ext [iblk, V, idxP t]

/-- At every point the parameter blocks hold the parameters as launched. -/
theorem par_blk (t : Fin cfg0.N) : parOf (iblk m c 2 t) (iblk m c 3 t) (iblk m c 4 t) (iblk m c 5 t) (iblk m c 6 t)
    (iblk m c 7 t) (iblk m c 8 t) (iblk m c 9 t) = parK m c := by
  unfold parOf parK parArr
  simp only [Par.mk.injEq]
  exact ⟨funext fun k => funext fun j => blk2 m c t k j, funext fun j => blk3 m c t j,
    funext fun k => funext fun i => funext fun j => blk4 m c t k i j, funext fun j => blk5 m c t j,
    funext fun k => funext fun i => funext fun j => blk6 m c t k i j, funext fun j => blk7 m c t j,
    funext fun j => blk8 m c t j, funext fun j => blk9 m c t j⟩

/-- The recurrent block's rows are the sequence's, eight places on. -/
theorem seq_blk (t : Fin cfg0.N) (r : Fin 512) (ch : Fin 1024) :
    iblk m c 0 t (ix2 r ch) = seq (projK m c) (rowOf t) (512 * (t.val % 4) + r.val + 8) ch := by
  unfold seq
  rw [dif_pos (by omega), blk0]
  rfl

/-- What the body leaves, once its two scratch buffers hold what the chunks before it left: the eight rows before the
    chunk and the hidden state before it. -/
theorem point_out (x0 x1 : FVec Ideal S512x1024 .f32) (x2 : FVec Ideal S4x1024 .f32) (x3 : FVec Ideal S1x1024 .f32)
    (x4 : FVec Ideal S8x128x128 .bf16) (x5 : FVec Ideal S1x1024 .f32) (x6 : FVec Ideal S8x128x128 .bf16)
    (x7 x8 x9 : FVec Ideal S1x1024 .f32) (xs0 : FVec Ideal S8x1024 .f32) (xs1 : FVec Ideal S1x1024 .f32)
    (z : ℕ → Fin 1024 → EReal) (o : ℕ)
    (hx : ∀ r ch, x0 (ix2 r ch) = z (o + r.val + 8) ch) (ht : ∀ s ch, xs0 (ix2 s ch) = z (o + s.val) ch)
    (hh : ∀ ch, xs1 (ix2 0 ch) = hid (parOf x2 x3 x4 x5 x6 x7 x8 x9) z ch o) :
    (∀ r ch, outOf x0 x1 x2 x3 x4 x5 x6 x7 x8 x9 xs0 xs1 (ix2 r ch) =
      branch (parOf x2 x3 x4 x5 x6 x7 x8 x9) z (fun j => x1 (ix2 r j)) (o + r.val) ch) ∧
    (∀ ch, carryOf x0 x2 x3 x4 x5 x6 x7 x8 xs0 xs1 (ix2 0 ch) = hid (parOf x2 x3 x4 x5 x6 x7 x8 x9) z ch (o + 512)) ∧
    (∀ s ch, k0_pay6 (F := Ideal) x0 (ix2 s ch) = z (o + 512 + s.val) ch) := by
  have hY : ∀ r ch, convBlk x0 x2 x3 xs0 (ix2 r ch) = conv (parOf x2 x3 x4 x5 x6 x7 x8 x9) z (o + r.val) ch :=
    fun r ch => conv_at x0 x2 x3 x4 x5 x6 x7 x8 x9 xs0 z o hx ht r ch
  have ha : ∀ r ch, aOf x0 x2 x3 x4 x5 x8 xs0 (ix2 r ch) = decay (parOf x2 x3 x4 x5 x6 x7 x8 x9) z ch (o + r.val) :=
    fun r ch => a_at _ x2 x3 x4 x5 x6 x7 x8 x9 z o hY r ch
  have hu : ∀ r ch, uOf x0 x2 x3 x4 x5 x6 x7 x8 xs0 (ix2 r ch) = input (parOf x2 x3 x4 x5 x6 x7 x8 x9) z ch (o + r.val) :=
    fun r ch => u_at _ x2 x3 x4 x5 x6 x7 x8 x9 z o hY r ch
  refine ⟨fun r ch => out_at x2 x3 x4 x5 x6 x7 x8 x9 z o _ _ xs1 x1 ha hu hh r ch, fun ch => ?_, fun s ch => ?_⟩
  · unfold carryOf
    pointwise
    exact enter_at o _ _ xs1 _ _ (decay_fin0 _ z ch) ch (fun r => ha r ch) (fun r => hu r ch) (hh ch) 64 (by omega)
  · pointwise [k0_pay6, k0_pay4]
    rw [hx]
    congr 1
    simp
    omega

/-- The first point of a batch row: the buffers start from zero, as the sequence and the hidden state do. -/
theorem start (t : Fin cfg0.N) (h0 : t.val % 4 = 0) :
    (∀ r ch, (outsAt0 m c t.val t.isLt).1 (ix2 r ch) = branch (parK m c) (seq (projK m c) (rowOf t))
      (side (projK m c) (rowOf t) ⟨512 * (t.val % 4) + r.val, by omega⟩) (512 * (t.val % 4) + r.val) ch) ∧
    (∀ ch, (outsAt0 m c t.val t.isLt).2.2 (ix2 0 ch) = hid (parK m c) (seq (projK m c) (rowOf t)) ch (512 * (t.val % 4) + 512)) ∧
    (∀ s ch, (outsAt0 m c t.val t.isLt).2.1 (ix2 s ch) = seq (projK m c) (rowOf t) (512 * (t.val % 4) + 512 + s.val) ch) := by
  rw [outsAt0_A m c t h0]
  simp only [outA, tailA, carryA]
  obtain ⟨h1, h2, h3⟩ := point_out (iblk m c 0 t) (iblk m c 1 t) (iblk m c 2 t) (iblk m c 3 t) (iblk m c 4 t) (iblk m c 5 t)
    (iblk m c 6 t) (iblk m c 7 t) (iblk m c 8 t) (iblk m c 9 t) (k0_pay2 (F := Ideal)) (k0_pay3 (F := Ideal))
    (seq (projK m c) (rowOf t)) (512 * (t.val % 4)) (seq_blk m c t)
    (fun s ch => by unfold seq; rw [dif_neg (by omega)]; pointwise [k0_pay2])
    (fun ch => by rw [h0]; erw [hid_zero]; pointwise [k0_pay3])
  rw [par_blk] at h1 h2
  refine ⟨fun r ch => ?_, h2, h3⟩
  rw [h1]
  congr 1
  funext j
  exact blk1 m c t r j

/-- A later point of a batch row: the buffers hold what the point before left. -/
theorem next (t : Fin cfg0.N) (h0 : ¬ t.val % 4 = 0)
    (ht : ∀ s ch, (outsAt0 m c (t.val - 1) (Nat.lt_of_le_of_lt (Nat.sub_le _ _) t.isLt)).2.1 (ix2 s ch) =
      seq (projK m c) (rowOf t) (512 * (t.val % 4) + s.val) ch)
    (hh : ∀ ch, (outsAt0 m c (t.val - 1) (Nat.lt_of_le_of_lt (Nat.sub_le _ _) t.isLt)).2.2 (ix2 0 ch) =
      hid (parK m c) (seq (projK m c) (rowOf t)) ch (512 * (t.val % 4))) :
    (∀ r ch, (outsAt0 m c t.val t.isLt).1 (ix2 r ch) = branch (parK m c) (seq (projK m c) (rowOf t))
      (side (projK m c) (rowOf t) ⟨512 * (t.val % 4) + r.val, by omega⟩) (512 * (t.val % 4) + r.val) ch) ∧
    (∀ ch, (outsAt0 m c t.val t.isLt).2.2 (ix2 0 ch) = hid (parK m c) (seq (projK m c) (rowOf t)) ch (512 * (t.val % 4) + 512)) ∧
    (∀ s ch, (outsAt0 m c t.val t.isLt).2.1 (ix2 s ch) = seq (projK m c) (rowOf t) (512 * (t.val % 4) + 512 + s.val) ch) := by
  rw [outsAt0_B m c t h0]
  simp only [outB, tailB, carryB]
  obtain ⟨h1, h2, h3⟩ := point_out (iblk m c 0 t) (iblk m c 1 t) (iblk m c 2 t) (iblk m c 3 t) (iblk m c 4 t) (iblk m c 5 t)
    (iblk m c 6 t) (iblk m c 7 t) (iblk m c 8 t) (iblk m c 9 t) _ _
    (seq (projK m c) (rowOf t)) (512 * (t.val % 4)) (seq_blk m c t) ht (fun ch => by rw [par_blk]; exact hh ch)
  rw [par_blk] at h1 h2
  refine ⟨fun r ch => ?_, h2, h3⟩
  rw [h1]
  congr 1
  funext j
  exact blk1 m c t r j

/-- After point `t` the scratch buffers hold the eight rows before the next chunk and the hidden state before it, and the
    result's block holds the branch at the point's tokens: the grid point by point. -/
theorem outs_at (n : ℕ) (hn : n < cfg0.N) :
    (∀ r ch, (outsAt0 m c n hn).1 (ix2 r ch) = branch (parK m c) (seq (projK m c) (rowOf ⟨n, hn⟩))
      (side (projK m c) (rowOf ⟨n, hn⟩) ⟨512 * (n % 4) + r.val, by omega⟩) (512 * (n % 4) + r.val) ch) ∧
    (∀ ch, (outsAt0 m c n hn).2.2 (ix2 0 ch) = hid (parK m c) (seq (projK m c) (rowOf ⟨n, hn⟩)) ch (512 * (n % 4) + 512)) ∧
    (∀ s ch, (outsAt0 m c n hn).2.1 (ix2 s ch) = seq (projK m c) (rowOf ⟨n, hn⟩) (512 * (n % 4) + 512 + s.val) ch) := by
  induction n with
  | zero => exact start m c ⟨0, hn⟩ rfl
  | succ n ih =>
    by_cases h0 : (n + 1) % 4 = 0
    · exact start m c ⟨n + 1, hn⟩ h0
    · obtain ⟨-, h2, h1⟩ := ih (by omega)
      have e : rowOf ⟨n, by omega⟩ = rowOf ⟨n + 1, hn⟩ := by unfold rowOf; congr 1; simp only; omega
      have eo : 512 * (n % 4) + 512 = 512 * ((n + 1) % 4) := by omega
      rw [e, eo] at h1 h2
      exact next m c ⟨n + 1, hn⟩ h0 h1 h2

end Cert.Lru
end
-- ==== Proof.Whole.lean ====
module

public import proofs.«01_k».proof.Proof.Point
public import Idealize.ShloMosaic.Lib.Pipeline.ValueKit.Point
public import Idealize.ShloMosaic.Lib.Claim

@[expose] public section

set_option maxRecDepth 16384

noncomputable section

namespace Cert.Lru

open Cert.KernelIdeal Cert.KernelIdeal.Gen Idealize.ShloMosaic Idealize.ShloMosaic.TcCoe Idealize.SL.Sem

variable (m : (ℓ : Loc nD τ sig) → Buf (Elt Ideal) ℓ) (c : Dev nD)

/-- A row index of the result is below its extent. -/
theorem idx2_lt (i : S16384x1024.Idx) : (i 0).val < 16384 := (i 0).isLt

/-- The branch over a whole projected input, the rows of the batch one after the other. -/
def whole (x : Vec Ideal S8x2048x2048 .f32) (P : Par) : Vec Ideal S16384x1024 .bf16 := fun i =>
  branch P (seq x ⟨(i 0).val / 2048, by have := idx2_lt i; omega⟩)
    (side x ⟨(i 0).val / 2048, by have := idx2_lt i; omega⟩ ⟨(i 0).val % 2048, by omega⟩) ((i 0).val % 2048) ⟨(i 1).val, (i 1).isLt⟩

/-- The kernel's result, once every block is written back, is the branch over the whole input. -/
theorem result_eq : Value.G10 m c = whole (projK m c) (parK m c) := by
  funext i
  have h0 := idx2_lt i
  have h1 : (i 1).val < 1024 := (i 1).isLt
  have hN : cfg0.N = 32 := rfl
  have hp : Value.pt10Of i = (i 0).val / 512 := by show 1 * ((i 0).val / 512 - 0) + 1 * ((i 1).val / 1024 - 0) = _; omega
  unfold Value.G10
  rw [dif_pos (by omega), ← Value.outsAt0_sweep m c _ (by omega)]
  have e : Value.loc10Of i = ix2 ⟨(i 0).val % 512, by omega⟩ ⟨(i 1).val, h1⟩ := by
    funext a
    match a with
    | ⟨0, _⟩ => rfl
    | ⟨1, _⟩ => exact Fin.ext (Nat.mod_eq_of_lt h1)
  refine (congrArg _ e).trans (((outs_at m c _ _).1 _ _).trans ?_)
  unfold whole
  have eb : rowOf ⟨Value.pt10Of i, by omega⟩ = ⟨(i 0).val / 2048, by omega⟩ := by
    unfold rowOf; apply Fin.ext; show Value.pt10Of i / 4 = (i 0).val / 2048; rw [hp, Nat.div_div_eq_div_mul]
  have en : 512 * (Value.pt10Of i % 4) + (i 0).val % 512 = (i 0).val % 2048 := by rw [hp]; omega
  have en' : (⟨512 * (Value.pt10Of i % 4) + (i 0).val % 512, by omega⟩ : Fin 2048) = ⟨(i 0).val % 2048, by omega⟩ := Fin.ext en
  simp only [eb, en]

end Cert.Lru
end
-- ==== Proof.Loop.lean ====
module

public import proofs.«01_k».proof.Proof.Gen.ReferenceIdeal.Run
public import proofs.«01_k».proof.Proof.Gen.ReferenceIdeal.Step
public import Idealize.ShloMosaic.PureOps.Ideal

@[expose] public section

noncomputable section

namespace Cert.Lru.Ref

open Cert.ReferenceIdeal Cert.ReferenceIdeal.Gen Cert.ReferenceIdeal.Step Cert.ReferenceIdeal.Value
open Idealize.ShloMosaic Idealize.ShloMosaic.TcCoe Idealize.ShloMosaic.StableHlo Idealize.SL.Sem

/-- The loop's buffers before trip `j`: the hidden state, the states written so far, the decays, the inputs and the
    number of the trip. -/
structure Before (W : Valuation τ sig (Elt Ideal)) (s : State Ideal) (j : ℕ) : Prop where
  hidden : W (Proc.devRef .tc main_v76_3) = s.main_v76_3
  states : W (Proc.devRef .tc main_v76_4) = s.main_v76_4
  decays : W (Proc.devRef .tc main_v76_0) = s.main_v76_0
  inputs : W (Proc.devRef .tc main_v76_1) = s.main_v76_1
  number : W (Proc.devRef .tc main_v76_2) = constantI S_ 32 (BitVec.ofNat 32 j)

variable {W : Valuation τ sig (Elt Ideal)} {s : State Ideal} {j : ℕ}

set_option maxRecDepth 8192 in
/-- The hidden state a trip computes. -/
theorem trip_hidden (h : Before W s j) : res_main_while0b_v111 W = b9 j s := by
  unfold res_main_while0b_v111
  rw [h.hidden, h.decays, h.inputs, h.number]
  rfl

set_option maxRecDepth 8192 in
/-- A trip takes the buffers of state `s` to those of the state after it. -/
theorem trip (h : Before W s j) : Before (STEP W) (step j s) (j + 1) where
  hidden := (STEP_main_v76_3 W).trans (trip_hidden h)
  states := (STEP_main_v76_4 W).trans (by
    unfold Value.step_main_v76_4
    rw [trip_hidden h, h.states, h.number]
    rfl)
  decays := (STEP_main_v76_0 W).trans h.decays
  inputs := (STEP_main_v76_1 W).trans h.inputs
  number := (STEP_main_v76_2 W).trans (by
    unfold Value.step_main_v76_2
    rw [h.number]
    funext i
    show BitVec.ofNat 32 j + 1#32 = BitVec.ofNat 32 (j + 1)
    simp only [BitVec.ofNat_add])

variable (m : (ℓ : Loc nD τ sig) → Buf (Elt Ideal) ℓ) (c : Dev nD)

/-- The states of the loop over the launched arguments. -/
def iter : ℕ → State Ideal
  | 0 => init (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
  | n + 1 => step n (iter n)

set_option maxRecDepth 65536 in
set_option maxHeartbeats 500000 in
/-- The buffers as the loop finds them. -/
theorem entry : Before (entryContents preI m c) (iter m c 0) 0 := by
  constructor <;> (simp only [entryContents, afterL_cons, afterL_nil]; after_reads_simp) <;> rfl

/-- The buffers before trip `k`. -/
theorem before (k : ℕ) : Before (STEP^[k] (entryContents preI m c)) (iter m c k) k := by
  induction k with
  | zero => exact entry m c
  | succ k ih => rw [Function.iterate_succ_apply']; exact trip ih

set_option maxRecDepth 8192 in
/-- What the operations after the loop make of its last state. -/
theorem result (h : Before W s j) {x : Vec Ideal S8x2048x2048 .f32} {g : Vec Ideal S1024 .f32}
    (hx : W (Proc.devRef .tc main_arg0) = x) (hg : W (Proc.devRef .tc main_arg8) = g) : out_main_v107 W = R_main_v107 s x g := by
  unfold out_main_v107 R_main_v107
  rw [h.states, hx, hg]
  rfl

/-- The reference's run: its result is that of the 2048-th state, and its arguments are as launched. -/
theorem run (ρ : Dev nD → PrngReg) : θ_run (defs (F := Ideal)) (onTc (τ := τ) (main (F := Ideal))) ⟨m, fun _ => 0, ρ⟩ fun r =>
    ∀ c : Dev nD, r.2.mem ((c.tc : Thread nD τ).loc main_v107) =
        R_main_v107 (iter m c 2048) (m ((c.tc : Thread nD τ).loc main_arg0)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c).1.trans (result (before m c 2048) (iter_main_arg0 m c 2048) (iter_main_arg8 m c 2048)), (h c).2⟩) (Value.run m ρ)

end Cert.Lru.Ref
end
-- ==== Proof.Ref.lean ====
module

public import proofs.«01_k».proof.Proof.Whole
public import proofs.«01_k».proof.Proof.Loop

@[expose] public section

set_option maxRecDepth 16384

noncomputable section

namespace Cert.Lru.Ref

open Cert.ReferenceIdeal Cert.ReferenceIdeal.Gen Cert.ReferenceIdeal.Step Idealize.ShloMosaic Idealize.ShloMosaic.TcCoe
open Idealize.SL.Sem Cert.Lru

variable (x : Vec Ideal S8x2048x2048 .f32) (cw : Vec Ideal S4x1024 .f32) (cb : Vec Ideal S1024 .f32)
  (wa : Vec Ideal S8x128x128 .f32) (ba : Vec Ideal S1024 .f32) (wx : Vec Ideal S8x128x128 .f32) (bx lam gn : Vec Ideal S1024 .f32)

/-- The number a zero word of an integer converts to. -/
theorem sitofp_zero : (FloatOps.sitofp .f32 (0#32) : Ideal .f32) = (0 : EReal) := by
  show (((0#32 : BitVec 32).toInt : ℝ) : EReal) = 0
  simp

/-- The taps may be added from the first to the last or from the last to the first. -/
theorem taps (d a0 a1 a2 a3 w0 w1 w2 w3 : EReal) : d + a0 * w0 + a1 * w1 + a2 * w2 + a3 * w3 =
    (((d + w3 * a3) + w2 * a2) + w1 * a1) + w0 * a0 := by
  simp only [mul_comm, add_assoc, add_comm, add_left_comm]

/-- The row three, two or one tokens back, where there is one. -/
theorem seq_tap (b : Fin 8) (t : Fin 2048) (ch : Fin 1024) (k : ℕ) (hk : k ≤ 3) (n : ℕ) (hn : n = t.val + 5 + k) : seq x b n ch =
    if h : 3 ≤ k + t.val ∧ k + t.val - 3 < 2048 then x (ix3 b ⟨k + t.val - 3, h.2⟩ ⟨ch.val, by omega⟩) else 0 := by
  subst hn
  unfold seq
  by_cases hc : 3 ≤ k + t.val
  · rw [dif_pos (by omega), dif_pos (by omega)]
    have e : (⟨t.val + 5 + k - 8, by omega⟩ : Fin 2048) = ⟨k + t.val - 3, by omega⟩ := Fin.ext (by show t.val + 5 + k - 8 = k + t.val - 3; omega)
    rw [e]
  · rw [dif_neg (by omega), dif_neg (by omega)]

/-- The token's own row. -/
theorem seq_self (b : Fin 8) (t : Fin 2048) (ch : Fin 1024) : seq x b (t.val + 8) ch = x (ix3 b t ⟨ch.val, by omega⟩) := by
  unfold seq
  rw [dif_pos (by omega)]
  have e : (⟨t.val + 8 - 8, by omega⟩ : Fin 2048) = t := Fin.ext (by show t.val + 8 - 8 = t.val; omega)
  rw [e]

/-- The convolution. -/
theorem conv_ref (b : Fin 8) (t : Fin 2048) (ch : Fin 1024) :
    A_main_v31 x cw cb wa ba wx bx lam (ix3 b t ch) = conv (parArr cw cb wa ba wx bx lam gn) (seq x b) t.val ch := by
  have h0 := seq_tap x b t ch 0 (by omega) (t.val + 5) rfl
  simp only [zero_add] at h0
  have h1 := seq_tap x b t ch 1 (by omega) (t.val + 6) rfl
  have h2 := seq_tap x b t ch 2 (by omega) (t.val + 7) rfl
  have h3 := seq_self x b t ch
  have hv : conv (parArr cw cb wa ba wx bx lam gn) (seq x b) t.val ch = cb (ix1 ch) + seq x b (t.val + 5) ch * cw (ix2 0 ch) + seq x b (t.val + 6) ch * cw (ix2 1 ch) +
      seq x b (t.val + 7) ch * cw (ix2 2 ch) + seq x b (t.val + 8) ch * cw (ix2 3 ch) := by
    rw [taps]
    rfl
  rw [hv, h0, h1, h2, h3]
  pointwise [A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3, A_main_v2, A_main_v1, A_main_v0, K_main_call0_v0, K_main_c]
  rw [sitofp_zero]

/-- The block-diagonal product, as the reference lays it out. -/
theorem dot_ref (w : FVec Ideal S8x128x128 .f32) (y : FVec Ideal S8x2048x1024 .f32) (b : Fin 8) (t : Fin 2048) (ch : Fin 1024) :
    (shapeCast S8x2048x1024 (transpose S8x2048x8x128 [2, 3, 0, 1] (Host.dotGeneral dot_S8x128x128_S8x2048x8x128_S8x128x8x2048_1_3_2_01_0_2 none w
      (shapeCast S8x2048x8x128 y shapeCasts_S8x2048x1024_S8x2048x8x128)) transposes_S8x128x8x2048_S8x2048x8x128_2_3_0_1)
      shapeCasts_S8x2048x8x128_S8x2048x1024 : FVec Ideal S8x2048x1024 .f32) (ix3 b t ch)
      = blockDot (fun j => y (ix3 b t j)) (fun k i j => w (ix3 k i j)) ch := by
  pointwise
  refine Finset.sum_congr rfl fun k _ => (mul_comm _ _).trans ?_
  have e : (⟨ch.val / 128 * 128 + k.val, by omega⟩ : Fin 1024) = ⟨128 * (ch.val / 128) + k.val, by omega⟩ :=
    Fin.ext (by show ch.val / 128 * 128 + k.val = 128 * (ch.val / 128) + k.val; omega)
  rw [e]

/-- The recurrence gate before its logistic. -/
theorem preA_ref (b : Fin 8) (t : Fin 2048) (ch : Fin 1024) : A_main_v38 x cw cb wa ba wx bx lam (ix3 b t ch) =
    blockDot (conv (parArr cw cb wa ba wx bx lam gn) (seq x b) t.val) (parArr cw cb wa ba wx bx lam gn).wa ch + (parArr cw cb wa ba wx bx lam gn).ba ch := by
  have h : A_main_v35 x cw cb wa ba wx bx lam (ix3 b t ch) = _ := dot_ref wa (A_main_v31 x cw cb wa ba wx bx lam) b t ch
  simp only [conv_ref x cw cb wa ba wx bx lam gn] at h
  pointwise [A_main_v38, A_main_v37, A_main_v36]
  rw [h]
  rfl

/-- The input gate before its logistic. -/
theorem preX_ref (b : Fin 8) (t : Fin 2048) (ch : Fin 1024) : A_main_v50 x cw cb wa ba wx bx lam (ix3 b t ch) =
    blockDot (conv (parArr cw cb wa ba wx bx lam gn) (seq x b) t.val) (parArr cw cb wa ba wx bx lam gn).wx ch + (parArr cw cb wa ba wx bx lam gn).bx ch := by
  have h : A_main_v47 x cw cb wa ba wx bx lam (ix3 b t ch) = _ := dot_ref wx (A_main_v31 x cw cb wa ba wx bx lam) b t ch
  simp only [conv_ref x cw cb wa ba wx bx lam gn] at h
  pointwise [A_main_v50, A_main_v49, A_main_v48]
  rw [h]
  rfl

/-- The softplus. -/
theorem softplus_ref (ch : Fin 1024) : A_main_v60 x cw cb wa ba wx bx lam (ix1 ch) = softplus (-(lam (ix1 ch))) := by
  pointwise [A_main_v60, A_main_call1_v11, A_main_call1_v10, A_main_call1_v9, A_main_call1_v8, A_main_call1_v7, A_main_call1_v6,
    A_main_call1_v4, A_main_call1_v3, A_main_call1_v1, A_main_v59, K_main_call1_v0, K_main_call1_v2, K_main_call1_v5, K_main_call1_cst]
  rw [if_neg (by simp)]
  rfl

/-- The logarithm of the decay. -/
theorem log_ref (b : Fin 8) (t : Fin 2048) (ch : Fin 1024) : A_main_v63 x cw cb wa ba wx bx lam (ix3 b t ch) = logA (parArr cw cb wa ba wx bx lam gn) (seq x b) ch t.val := by
  have h := preA_ref x cw cb wa ba wx bx lam gn b t ch
  have hs := softplus_ref x cw cb wa ba wx bx lam ch
  pointwise [A_main_v63, A_main_v62, A_main_v61, A_main_v58, A_main_v44, A_main_v42, A_main_v40, A_main_v39, K_main_v57, K_main_cst_3,
    K_main_v43, K_main_cst_0, K_main_v41, K_main_cst]
  rw [h, hs]
  rfl

/-- The decay. -/
theorem decay_ref (b : Fin 8) (t : Fin 2048) (ch : Fin 1024) : A_main_v73 x cw cb wa ba wx bx lam (ix3 t b ch) = decay (parArr cw cb wa ba wx bx lam gn) (seq x b) ch t.val := by
  have h := log_ref x cw cb wa ba wx bx lam gn b t ch
  pointwise [A_main_v73, A_main_v64]
  rw [h]
  rfl

/-- What enters the recurrence. -/
theorem input_ref (b : Fin 8) (t : Fin 2048) (ch : Fin 1024) : A_main_v74 x cw cb wa ba wx bx lam (ix3 t b ch) = input (parArr cw cb wa ba wx bx lam gn) (seq x b) ch t.val := by
  have h := log_ref x cw cb wa ba wx bx lam gn b t ch
  have hx := preX_ref x cw cb wa ba wx bx lam gn b t ch
  have hc := conv_ref x cw cb wa ba wx bx lam gn b t ch
  pointwise [A_main_v74, A_main_v71, A_main_v70, A_main_v69, A_main_v68, A_main_v67, A_main_v66, A_main_v56, A_main_v54, A_main_v52,
    A_main_v51, K_main_v65, K_main_cst_4, K_main_v55, K_main_cst_2, K_main_v53, K_main_cst_1]
  rw [h, hx, hc]
  rfl

/-- The start of a trip's slice along the tokens is the trip's number, -/
theorem start_row (j : ℕ) (hj : j < 2048) (h) : Host.clampedStart S2048x8x1024 S1x8x1024 h (fun k => BitVec.toInt
    (((![constantI S_ 32 (BitVec.ofNat 32 j), constantI S_ 32 0#32, constantI S_ 32 0#32] : Fin 3 → (⟨S_, .i32⟩ : BufTy).Contents (Elt Ideal)) k) (Shape.Idx.first h_S_))) 0 = j := by
  have e : (BitVec.ofNat 32 j).toInt = j := by
    rw [BitVec.toInt_eq_toNat_of_lt] <;> simp only [BitVec.toNat_ofNat] <;> omega
  show (min (max ((BitVec.ofNat 32 j).toInt) 0) ((2048 - 1 : ℕ) : ℤ)).toNat = j
  rw [e]
  omega

/-- and along the batch and the channels 0. -/
theorem start_rest (j : ℕ) (h) : (Host.clampedStart S2048x8x1024 S1x8x1024 h (fun k => BitVec.toInt
    (((![constantI S_ 32 (BitVec.ofNat 32 j), constantI S_ 32 0#32, constantI S_ 32 0#32] : Fin 3 → (⟨S_, .i32⟩ : BufTy).Contents (Elt Ideal)) k) (Shape.Idx.first h_S_))) 1 = 0) ∧
    (Host.clampedStart S2048x8x1024 S1x8x1024 h (fun k => BitVec.toInt
    (((![constantI S_ 32 (BitVec.ofNat 32 j), constantI S_ 32 0#32, constantI S_ 32 0#32] : Fin 3 → (⟨S_, .i32⟩ : BufTy).Contents (Elt Ideal)) k) (Shape.Idx.first h_S_))) 2 = 0) :=
  ⟨rfl, rfl⟩

/-- A trip's hidden state. -/
theorem trip_state (j : ℕ) (hj : j < 2048) (s : State Ideal) (b : Fin 8) (ch : Fin 1024) :
    b9 j s (ix2 b ch) = s.main_v76_0 (ix3 ⟨j, hj⟩ b ch) * s.main_v76_3 (ix2 b ch) + s.main_v76_1 (ix3 ⟨j, hj⟩ b ch) := by
  pointwise [b9, b8, b7, b6, b5, b4, b3, b2, b1, b0]
  simp only [start_row j hj, (start_rest j _).1, (start_rest j _).2, zero_add]

/-- A trip writes its hidden state at its own token. -/
theorem trip_write (j : ℕ) (hj : j < 2048) (s : State Ideal) (t : Fin 2048) (b : Fin 8) (ch : Fin 1024) :
    b13 j s (ix3 t b ch) = if t.val = j then b9 j s (ix2 b ch) else s.main_v76_4 (ix3 t b ch) := by
  pointwise [b13, b12, b11, b10]
  simp only [start_row j hj, (start_rest j _).1, (start_rest j _).2, Nat.sub_zero]
  by_cases e : t.val = j
  · rw [dif_pos (by omega), if_pos e]
  · rw [dif_neg (by omega), if_neg e]

/-- The states of the loop: before trip `n` the hidden state is that before token `n`, and the states written so far are
    those after their tokens. -/
theorem states_ref (it : ℕ → State Ideal) (h0 : it 0 = init x cw cb wa ba wx bx lam) (hs : ∀ n, it (n + 1) = step n (it n)) (n : ℕ) (hn : n ≤ 2048) :
    (it n).main_v76_0 = A_main_v73 x cw cb wa ba wx bx lam ∧ (it n).main_v76_1 = A_main_v74 x cw cb wa ba wx bx lam ∧
    (∀ b ch, (it n).main_v76_3 (ix2 b ch) = hid (parArr cw cb wa ba wx bx lam gn) (seq x b) ch n) ∧
    (∀ (t : Fin 2048) b ch, t.val < n → (it n).main_v76_4 (ix3 t b ch) = hid (parArr cw cb wa ba wx bx lam gn) (seq x b) ch (t.val + 1)) := by
  induction n with
  | zero =>
    rw [h0]
    refine ⟨rfl, rfl, fun b ch => ?_, fun t b ch h => absurd h (by omega)⟩
    rw [hid_zero]
    show K_main_v72 (F := Ideal) (ix2 b ch) = 0
    pointwise [K_main_v72, K_main_cst_5]
  | succ n ih =>
    obtain ⟨ha, hu, hh, hw⟩ := ih (by omega)
    have hb : ∀ b ch, b9 n (it n) (ix2 b ch) = hid (parArr cw cb wa ba wx bx lam gn) (seq x b) ch (n + 1) := fun b ch => by
      rw [trip_state n (by omega), ha, hu, hh, decay_ref x cw cb wa ba wx bx lam gn, input_ref x cw cb wa ba wx bx lam gn, hid_succ]
    rw [hs]
    refine ⟨ha, hu, hb, fun t b ch h => ?_⟩
    show b13 n (it n) (ix3 t b ch) = _
    rw [trip_write n (by omega)]
    by_cases e : t.val = n
    · rw [if_pos e, hb, e]
    · rw [if_neg e]
      exact hw t b ch (by omega)

/-- The reference's result is the branch over the whole input. -/
theorem whole_ref (s : State Ideal) (hw : ∀ (t : Fin 2048) b ch, s.main_v76_4 (ix3 t b ch) = hid (parArr cw cb wa ba wx bx lam gn) (seq x b) ch (t.val + 1)) :
    R_main_v107 s x gn = whole x (parArr cw cb wa ba wx bx lam gn) := by
  funext i
  idx_vars i
  pointwise [R_main_v107]
  simp only [hw, show ∀ a : EReal, a * a * a = a * (a * a) from fun a => mul_assoc a a a]
  unfold whole branch gated gelu side
  simp only [f32, show Ideal.ofBits .f32 0x3F800000#32 = 1 from f32_one]
  rfl

end Cert.Lru.Ref
end
-- ==== Proof.FfnSpec.lean ====
/- The opening of a feed-forward half-step as plain mathematics over the extended reals, and the step that relates the two
   programs: a row's scale is a finite nonnegative number, so it may be pulled out of a sum over the channels. -/
module

public import proofs.«01_k».proof.Proof.Gates

@[expose] public section

noncomputable section

namespace Cert.FfnIn

open Idealize.ShloMosaic Cert.Lru

/-- A gated channel: the gate times its logistic times the other half. -/
def gated (g u : EReal) : EReal := g * Ideal.logistic g * u

/-- A row's scale, from the sum of its squares: the reciprocal root of their mean and the programs' small constant. -/
def rowScale (s : EReal) : EReal := Ideal.rsqrt (s * f32 0x39800000#32 + f32 0x358637BD#32)

/-- The word of 4096. -/
theorem f32_4096 : f32 0x45800000#32 = ((4096 : ℝ) : EReal) := by
  simp [f32, Ideal.ofBits, Ideal.ieee]
  norm_cast
  norm_num

/-- The word of 1/4096. -/
theorem f32_inv4096 : f32 0x39800000#32 = ((1 / 4096 : ℝ) : EReal) := by
  simp [f32, Ideal.ofBits, Ideal.ieee]
  norm_cast
  norm_num

/-- The small constant is a positive number. -/
theorem f32_eps : ∃ e : ℝ, 0 < e ∧ f32 0x358637BD#32 = e := by
  refine ⟨(f32 0x358637BD#32).toReal, ?_, ?_⟩
  · simp [f32, Ideal.ofBits, Ideal.ieee]
    norm_cast
    norm_num
  · simp [f32, Ideal.ofBits, Ideal.ieee]
    norm_cast

/-- Dividing by 4096 is multiplying by 1/4096: the two programs' means are one number. -/
theorem rowScale_eq (s : EReal) : rowScale s = Ideal.rsqrt (Ideal.div s (f32 0x45800000#32) + f32 0x358637BD#32) := by
  unfold rowScale
  rw [f32_4096, f32_inv4096, Ideal.div_coe (by norm_num)]

/-- A row's scale is a finite nonnegative number. -/
theorem rowScale_fin {s : EReal} (hs : 0 ≤ s) : Fin0 (rowScale s) := by
  obtain ⟨e, he, hE⟩ := f32_eps
  unfold rowScale
  rw [hE, f32_inv4096]
  induction s with
  | bot => simp at hs
  | top =>
    rw [EReal.top_mul_coe_of_pos (by norm_num), EReal.top_add_coe]
    exact ⟨le_rfl, EReal.zero_ne_top⟩
  | coe r =>
    have hr : 0 ≤ r := by exact_mod_cast hs
    have hp : 0 < r * (1 / 4096) + e := by positivity
    rw [← EReal.coe_mul, ← EReal.coe_add, Ideal.rsqrt_coe, if_neg hp.le.not_gt, if_neg hp.ne']
    exact ⟨by exact_mod_cast inv_nonneg.mpr (Real.sqrt_nonneg _), EReal.coe_ne_top _⟩

/-- A square is not negative. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A finite nonnegative factor may be pulled out of a sum. -/
theorem pull {ι : Type} (s : Finset ι) (f : ι → EReal) {c : EReal} (hc : Fin0 c) : (∑ k ∈ s, f k) * c = ∑ k ∈ s, f k * c := by
  classical
  induction s using Finset.induction_on with
  | empty => simp
  | insert a s ha ih =>
    rw [Finset.sum_insert ha, Finset.sum_insert ha, mul_comm, hc.mul_add, mul_comm c, mul_comm c, ih]

/-- One channel before its gate: the product with the gains folded into the weights, scaled by the row, is the product of
    the normalised row. -/
theorem folded (x γ w : Fin 4096 → EReal) :
    (∑ k, x k * (w k * γ k)) * rowScale (∑ k, x k * x k) = ∑ k, x k * rowScale (∑ k, x k * x k) * γ k * w k := by
  rw [pull _ _ (rowScale_fin (Finset.sum_nonneg fun k _ => square_nonneg (x k)))]
  exact Finset.sum_congr rfl fun k _ => by ac_rfl

/-- The lanes' sums add up to the sum over all channels. -/
theorem lanes (f : Fin 4096 → EReal) : ∑ l : Fin 128, ∑ j : Fin 32, f ⟨l.val + 128 * j.val, by omega⟩ = ∑ k, f k := by
  rw [Finset.sum_comm, ← Fintype.sum_prod_type']
  exact Fintype.sum_equiv (finProdFinEquiv (m := 32) (n := 128)) _ _ fun _ => rfl

/-- So do the lanes' sums over four blocks of channels apart. -/
theorem lanes4 (f : Fin 4096 → EReal) :
    ∑ l : Fin 128, ∑ p : Fin 4, ∑ j : Fin 8, f ⟨p.val * 1024 + j.val * 128 + l.val, by omega⟩ = ∑ k, f k := by
  rw [← lanes f]
  refine Finset.sum_congr rfl fun l _ => ?_
  rw [← Fintype.sum_prod_type']
  refine Fintype.sum_equiv (finProdFinEquiv (m := 4) (n := 8)) _ _ fun x => congrArg f (Fin.ext ?_)
  show x.1.val * 1024 + x.2.val * 128 + l.val = l.val + 128 * (x.2.val + 8 * x.1.val)
  omega

end Cert.FfnIn

end
-- ==== Proof.FfnTile.lean ====
/- The two calls that open a feed-forward half-step: what one grid point of each stores, from its blocks. -/
module

public import proofs.«01_k».proof.Proof.FfnSpec
public import proofs.«01_k».proof.Proof.Gen.Kernel2Ideal.Frame
public import Idealize.ShloMosaic.Lib.ValueIdx
public import Idealize.ShloMosaic.Lib.Pointwise
public import Idealize.ShloMosaic.Lib.Pipeline.ValueKit.Point
public import Idealize.ShloMosaic.Lib.Claim

@[expose] public section

set_option maxRecDepth 16384

noncomputable section

namespace Cert.FfnIn

open Cert.Kernel2Ideal Cert.Kernel2Ideal.Gen Idealize.ShloMosaic Idealize.ShloMosaic.TcCoe Idealize.SL.Sem

/-- The corner of a matrix. -/
theorem corner : (![0, 0] : Fin 2 → Nat) = fun _ => 0 := by decide

/-- The corner of a stack of matrices. -/
theorem corner3 : (![0, 0, 0] : Fin 3 → Nat) = fun _ => 0 := by decide

section Same

variable (a b : FVec Ideal S4096x256 .bf16) (x : Vec Ideal S256x4096 .bf16) (s : Vec Ideal S1x256x128 .f32)

/-- The eighth chunk of rows is computed as the second is. -/
theorem same1 : k1_pay1 a b (k1_pay18 x) (k1_pay19 s) = k1_pay7 a b x s := rfl
/-- The seventh chunk of rows is computed as the second is. -/
theorem same17 : k1_pay17 a b x s = k1_pay7 a b x s := rfl
/-- The sixth chunk of rows is computed as the second is. -/
theorem same16 : k1_pay16 a b x s = k1_pay7 a b x s := rfl
/-- The fifth chunk of rows is computed as the second is. -/
theorem same15 : k1_pay15 a b (k1_pay13 x) (k1_pay14 s) = k1_pay7 a b x s := rfl
/-- The fourth chunk of rows is computed as the second is. -/
theorem same12 : k1_pay12 a b x s = k1_pay7 a b x s := rfl
/-- The third chunk of rows is computed as the second is. -/
theorem same11 : k1_pay11 b (k1_pay8 x) (k1_pay9 s) (k1_pay10 a x s) = k1_pay7 a b x s := rfl
/-- The first chunk of rows is computed as the second is. -/
theorem same6 (g : Vec Ideal S4096x128 .f32) (wg wu : Vec Ideal S1x4096x256 .f32) :
    k1_pay6 g wg wu x s = k1_pay7 (k1_pay4 g wg) (k1_pay5 g wu) x s := rfl

/-- One row chunk of the block of activations: the two products, scaled by the row, gated. -/
theorem chunk (r n : Fin 256) : (k1_pay7 a b x s : FVec Ideal S256x256 .bf16) (ix2 r n) =
    gated ((∑ k, x (ix2 r k) * a (ix2 k n)) * rowScale (∑ l, s (ix3 0 r l))) ((∑ k, x (ix2 r k) * b (ix2 k n)) * rowScale (∑ l, s (ix3 0 r l))) := by
  unfold gated rowScale
  pointwise [k1_pay7]
  simp only [Fin.sum_univ_one]

/-- The gate's weights times the gain of their input channel. -/
theorem wts (g : Vec Ideal S4096x128 .f32) (wg : Vec Ideal S1x4096x256 .f32) (γ : Fin 4096 → EReal) (hg : ∀ k l, g (ix2 k l) = γ k)
    (k : Fin 4096) (n : Fin 256) : (k1_pay4 g wg : FVec Ideal S4096x256 .bf16) (ix2 k n) = wg (ix3 0 k n) * γ k := by
  pointwise [k1_pay4, k1_pay3]
  split <;> rw [hg]

/-- The other half's weights are prepared alike. -/
theorem same5 (g : Vec Ideal S4096x128 .f32) (wu : Vec Ideal S1x4096x256 .f32) : k1_pay5 g wu = k1_pay4 g wu := rfl

/-- A row chunk, from blocks of whole inputs: its row `r'` is row `r` of the inputs. -/
theorem piece (x0 : Vec Ideal S2048x4096 .bf16) (x1 : Vec Ideal S1x2048x128 .f32) (g : Vec Ideal S4096x128 .f32)
    (wg wu : Vec Ideal S1x4096x256 .f32) (γ : Fin 4096 → EReal) (hg : ∀ k l, g (ix2 k l) = γ k) (r : Fin 2048) (r' n : Fin 256)
    (hx : ∀ k, x (ix2 r' k) = x0 (ix2 r k)) (hs : ∀ l, s (ix3 0 r' l) = x1 (ix3 0 r l)) :
    (k1_pay7 (k1_pay4 g wg) (k1_pay4 g wu) x s : FVec Ideal S256x256 .bf16) (ix2 r' n) =
      gated ((∑ k, x0 (ix2 r k) * (wg (ix3 0 k n) * γ k)) * rowScale (∑ l, x1 (ix3 0 r l)))
        ((∑ k, x0 (ix2 r k) * (wu (ix3 0 k n) * γ k)) * rowScale (∑ l, x1 (ix3 0 r l))) := by
  rw [chunk]
  simp only [wts g _ γ hg, hx, hs]

end Same

/-- An index of a chunk, by its coordinates. -/
theorem square (y : S256x256.Idx) : ∃ p q : Fin 256, y = ix2 p q := ⟨y 0, y 1, by
  funext a
  match a with
  | ⟨0, _⟩ => rfl
  | ⟨1, _⟩ => rfl⟩

set_option maxHeartbeats 1000000 in
/-- What one point leaves in its block of activations. -/
theorem stored (x0 : Vec Ideal S2048x4096 .bf16) (x1 : Vec Ideal S1x2048x128 .f32) (x2 : Vec Ideal S4096x128 .f32)
    (x3 x4 : Vec Ideal S1x4096x256 .f32) (x5 : Vec Ideal S1x32x4096 .f32) (γ : Fin 4096 → EReal) (hg : ∀ k l, x2 (ix2 k l) = γ k)
    (r : Fin 2048) (n : Fin 256) : (out1_6 x0 x1 x2 x3 x4 x5 : FVec Ideal S2048x256 .bf16) (ix2 r n) =
      gated ((∑ k, x0 (ix2 r k) * (x3 (ix3 0 k n) * γ k)) * rowScale (∑ l, x1 (ix3 0 r l)))
        ((∑ k, x0 (ix2 r k) * (x4 (ix3 0 k n) * γ k)) * rowScale (∑ l, x1 (ix3 0 r l))) := by
  unfold out1_6 k1_pay21 k1_pay20
  rw [same1, same17, same16, same15, same12, same11, same6, View.ld_unit_zero (S := S4096x128) corner, View.ld_unit_zero (S := S1x4096x256) corner3, View.ld_unit_zero (S := S1x4096x256) corner3, same5]
  canon_tiles y h
  all_goals
    obtain ⟨p, q, rfl⟩ := square y
    obtain rfl : n = q := Fin.ext h1
    refine piece _ _ x0 x1 x2 x3 x4 γ hg r p n (fun k => ?_) fun l => ?_
    · pointwise
      exact congrArg (fun i => x0 (ix2 i k)) (Fin.ext h0.symm)
    · pointwise
      exact congrArg (fun i => x1 (ix3 0 i l)) (Fin.ext h0.symm)

/-- What one point leaves of the closing weights: its 32 rows of them. -/
theorem slab (x0 : Vec Ideal S2048x4096 .bf16) (x1 : Vec Ideal S1x2048x128 .f32) (x2 : Vec Ideal S4096x128 .f32)
    (x3 x4 : Vec Ideal S1x4096x256 .f32) (x5 : Vec Ideal S1x32x4096 .f32) (r : Fin 32) (n : Fin 4096) :
    (out1_7 x0 x1 x2 x3 x4 x5 : FVec Ideal S32x4096 .bf16) (ix2 r n) = x5 (ix3 0 r n) := by
  unfold out1_7
  rw [View.canon_unit_zero corner, View.ld_unit_zero (S := S1x32x4096) corner3]
  pointwise [k1_pay2]

/-- What one point of the first call leaves of its rows rounded: the rows. -/
theorem rows (x0 : Vec Ideal S512x4096 .f32) (r : Fin 512) (k : Fin 4096) :
    (out0_1 x0 : FVec Ideal S512x4096 .bf16) (ix2 r k) = x0 (ix2 r k) := by
  unfold out0_1
  rw [View.canon_unit_zero corner, View.ld_unit_zero (S := S512x4096) corner]
  pointwise [k0_pay3, k0_pay2]

/-- What it leaves of their squares: for each of 128 lanes, the sum of the squares 128 channels apart. -/
theorem stat (x0 : Vec Ideal S512x4096 .f32) (r : Fin 512) (l : Fin 128) :
    (out0_2 x0 : FVec Ideal S1x512x128 .f32) (ix3 0 r l) =
      ∑ j : Fin 32, x0 (ix2 r ⟨l.val + 128 * j.val, by omega⟩) * x0 (ix2 r ⟨l.val + 128 * j.val, by omega⟩) := by
  unfold out0_2
  rw [View.canon_unit_zero corner3, View.ld_unit_zero (S := S512x4096) corner]
  pointwise [k0_pay1, k0_pay4, k0_pay5, k0_pay2]
  simp only [Fin.sum_univ_castSucc, Fin.sum_univ_zero, zero_add, Nat.add_comm _ l.val]
  rfl

end Cert.FfnIn
end
-- ==== Proof.Flat.lean ====
/- Tokens flattened: row `n` of the 16384 rows is token `n mod 2048` of batch row `n / 2048`. -/
module

public import Idealize.ShloMosaic.Lib.ValueIdx

@[expose] public section

namespace Cert.Flat

/-- The batch row of row `n` of the flattened tokens. -/
abbrev bat (n : ℕ) (h : n < 16384) : Fin 8 := ⟨n / 2048, by omega⟩

/-- The token of row `n` of the flattened tokens. -/
abbrev tok (n : ℕ) : Fin 2048 := ⟨n % 2048, Nat.mod_lt _ (by omega)⟩

end Cert.Flat
-- ==== Proof.FfnWhole.lean ====
/- The arrays the two calls that open a feed-forward half-step leave. -/
module

public import proofs.«01_k».proof.Proof.FfnTile
public import proofs.«01_k».proof.Proof.Flat
public import Idealize.ShloMosaic.Lib.StableHlo.Run

@[expose] public section

set_option maxRecDepth 16384

noncomputable section

namespace Cert.FfnIn

open Cert.Flat Cert.Kernel2Ideal Cert.Kernel2Ideal.Gen Idealize.ShloMosaic Idealize.ShloMosaic.TcCoe Idealize.SL.Sem Idealize.ShloMosaic.StableHlo

section Blocks

variable (V : (c : Dev nD) → (b : Ref sig .tc) → Buf (Elt Ideal) ((c : Thread nD τ).loc b)) (c : Dev nD)

/-- Where the first call's windows stand at point `t`. -/
theorem idx0 (t : Fin cfg0.N) : (win0_0.index t 0 = t.val ∧ win0_0.index t 1 = 0) ∧
    (win0_1.index t 0 = t.val ∧ win0_1.index t 1 = 0) ∧ (win0_2.index t 0 = 0 ∧ win0_2.index t 1 = t.val ∧ win0_2.index t 2 = 0) := by
  revert t; decide +kernel

/-- Where the second call's windows stand at point `t`: the 43 column blocks run innermost, the 8 row blocks outermost. -/
theorem idx1 (t : Fin cfg1.N) : (win1_0.index t 0 = t.val / 43 ∧ win1_0.index t 1 = 0) ∧
    (win1_1.index t 0 = 0 ∧ win1_1.index t 1 = t.val / 43 ∧ win1_1.index t 2 = 0) ∧ (win1_2.index t 0 = 0 ∧ win1_2.index t 1 = 0) ∧
    (win1_3.index t 0 = 0 ∧ win1_3.index t 1 = 0 ∧ win1_3.index t 2 = t.val % 43) ∧
    (win1_4.index t 0 = 0 ∧ win1_4.index t 1 = 0 ∧ win1_4.index t 2 = t.val % 43 + 43) ∧
    (win1_5.index t 0 = 0 ∧ win1_5.index t 1 = t.val ∧ win1_5.index t 2 = 0) ∧
    (win1_6.index t 0 = t.val / 43 ∧ win1_6.index t 1 = t.val % 43) ∧ (win1_7.index t 0 = t.val ∧ win1_7.index t 1 = 0) := by
  revert t; decide +kernel

/-- The second call's block of rounded rows. -/
theorem blkX (t : Fin cfg1.N) (r : Fin 2048) (k : Fin 4096) : (iblk1 V c 0 t : FVec Ideal S2048x4096 .bf16) (ix2 r k) =
    (V c main_v1_0 : FVec Ideal S16384x4096 .bf16) (ix2 ⟨2048 * (t.val / 43) + r.val, by
      have := t.isLt; have e : cfg1.N = 344 := rfl; omega⟩ k) := by
  blk_simp [iblk1, idx1 t]
  blk_ext! [iblk1, idx1 t]

/-- Its block of lane sums. -/
theorem blkS (t : Fin cfg1.N) (r : Fin 2048) (l : Fin 128) : (iblk1 V c 1 t : FVec Ideal S1x2048x128 .f32) (ix3 0 r l) =
    (V c main_v1_1 : FVec Ideal S1x16384x128 .f32) (ix3 0 ⟨2048 * (t.val / 43) + r.val, by
      have := t.isLt; have e : cfg1.N = 344 := rfl; omega⟩ l) := by
  blk_simp [iblk1, idx1 t]
  blk_ext! [iblk1, idx1 t]

/-- Its block of gains: all of them. -/
theorem blkG (t : Fin cfg1.N) (k : Fin 4096) (l : Fin 128) : (iblk1 V c 2 t : FVec Ideal S4096x128 .f32) (ix2 k l) =
    (V c main_v5 : FVec Ideal S4096x128 .f32) (ix2 k l) := by
  blk_simp [iblk1, idx1 t]
  blk_ext! [iblk1, idx1 t]

/-- Its block of the gate's weights. -/
theorem blkW (t : Fin cfg1.N) (k : Fin 4096) (n : Fin 256) : (iblk1 V c 3 t : FVec Ideal S1x4096x256 .f32) (ix3 0 k n) =
    (V c main_arg2 : FVec Ideal S2x4096x22016 .f32) (ix3 0 k ⟨256 * (t.val % 43) + n.val, by omega⟩) := by
  blk_simp [iblk1, idx1 t]
  blk_ext! [iblk1, idx1 t]

/-- Its block of the other half's weights. -/
theorem blkU (t : Fin cfg1.N) (k : Fin 4096) (n : Fin 256) : (iblk1 V c 4 t : FVec Ideal S1x4096x256 .f32) (ix3 0 k n) =
    (V c main_arg2 : FVec Ideal S2x4096x22016 .f32) (ix3 0 k ⟨11008 + (256 * (t.val % 43) + n.val), by omega⟩) := by
  blk_simp [iblk1, idx1 t]
  blk_ext! [iblk1, idx1 t]

/-- Its block of the closing weights: 32 rows. -/
theorem blkO (t : Fin cfg1.N) (r : Fin 32) (n : Fin 4096) : (iblk1 V c 5 t : FVec Ideal S1x32x4096 .f32) (ix3 0 r n) =
    (V c main_arg3 : FVec Ideal S2x11008x4096 .f32) (ix3 0 ⟨32 * t.val + r.val, by
      have := t.isLt; have e : cfg1.N = 344 := rfl; omega⟩ n) := by
  blk_simp [iblk1, idx1 t]
  blk_ext! [iblk1, idx1 t]

/-- The first call's block of rows. -/
theorem blk0 (t : Fin cfg0.N) (r : Fin 512) (k : Fin 4096) : (iblk0 V c 0 t : FVec Ideal S512x4096 .f32) (ix2 r k) =
    (V c main_v0 : FVec Ideal S16384x4096 .f32) (ix2 ⟨512 * t.val + r.val, by
      have := t.isLt; have e : cfg0.N = 32 := rfl; omega⟩ k) := by
  blk_simp [iblk0, idx0 t]
  blk_ext! [iblk0, idx0 t]

/-- The first call leaves the rows, rounded. -/
theorem rowsArr : ((dat0 V c).arrAt 1 cfg0.N : FVec Ideal S16384x4096 .bf16) = fun i => (V c main_v0 : FVec Ideal S16384x4096 .f32) i := by
  refine (dat0 V c).arrAt_eq_of_covers 1 _ (by decide +kernel) fun t hf y => ?_
  blk_simp
  rw [after0_1]
  have h0 : (y 0).val < 512 := (y 0).isLt
  have h1 : (y 1).val < 4096 := (y 1).isLt
  have e : y = ix2 ⟨(y 0).val, h0⟩ ⟨(y 1).val, h1⟩ := by
    funext a
    match a with
    | ⟨0, _⟩ => rfl
    | ⟨1, _⟩ => rfl
  rw [e]
  refine ((rows _ _ _).trans (blk0 V c t _ _)).trans ?_
  congr 1
  funext a
  apply Fin.ext
  match a with
  | ⟨0, _⟩ =>
    refine Eq.symm ((win0_1.rect_emb_val t _ 0).trans ?_)
    rw [(idx0 t).2.1.1]
    exact congrArg (· + _) (Nat.mul_comm _ _)
  | ⟨1, _⟩ =>
    refine Eq.symm ((win0_1.rect_emb_val t _ 1).trans ?_)
    rw [(idx0 t).2.1.2]
    exact Nat.zero_add _

/-- The lane sums of the squares of one row. -/
def laneSum (x : FVec Ideal S16384x4096 .f32) (n : Fin 16384) (l : Fin 128) : EReal :=
  ∑ j : Fin 32, x (ix2 n ⟨l.val + 128 * j.val, by omega⟩) * x (ix2 n ⟨l.val + 128 * j.val, by omega⟩)

/-- The first call leaves the rows' lane sums. -/
theorem lanesArr : ((dat0 V c).arrAt 2 cfg0.N : FVec Ideal S1x16384x128 .f32) = fun i => laneSum (V c main_v0) (i 1) (i 2) := by
  refine (dat0 V c).arrAt_eq_of_covers 2 _ (by decide +kernel) fun t hf y => ?_
  blk_simp
  rw [after0_2]
  have h0 : (y 0).val < 1 := (y 0).isLt
  have h1 : (y 1).val < 512 := (y 1).isLt
  have h2 : (y 2).val < 128 := (y 2).isLt
  have e : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  rw [e]
  refine (stat _ _ _).trans ?_
  simp only [blk0]
  have ht : t.val < 32 := t.isLt
  have hn : (⟨512 * t.val + (y 1).val, by omega⟩ : Fin 16384) =
      ((win0_2.blk t).view.emb (ix3 0 ⟨(y 1).val, h1⟩ ⟨(y 2).val, h2⟩)) 1 := by
    apply Fin.ext
    refine Eq.symm ((win0_2.rect_emb_val t _ 1).trans ?_)
    rw [(idx0 t).2.2.2.1]
    exact congrArg (· + _) (Nat.mul_comm _ _)
  have hl : (⟨(y 2).val, h2⟩ : Fin 128) = ((win0_2.blk t).view.emb (ix3 0 ⟨(y 1).val, h1⟩ ⟨(y 2).val, h2⟩)) 2 := by
    apply Fin.ext
    refine Eq.symm ((win0_2.rect_emb_val t _ 2).trans ?_)
    rw [(idx0 t).2.2.2.2]
    exact Nat.zero_add _
  rw [← hn, ← hl]
  rfl

end Blocks

variable (m : (ℓ : Loc nD τ sig) → Buf (Elt Ideal) ℓ) (ρ : Dev nD → PrngReg) (c : Dev nD)

/-- The gains as the second call finds them: one row of 128 copies for each input channel. -/
theorem gains (k : Fin 4096) (l : Fin 128) : (V3 m ρ c main_v5 : FVec Ideal S4096x128 .f32) (ix2 k l) =
    (m ((c : Thread nD τ).loc main_arg1) : FVec Ideal S2x4096 .f32) (ix2 0 k) := by
  have e : (V3 m ρ c main_v5 : FVec Ideal S4096x128 .f32) = broadcastInDim S4096x128 ![0, 1] bcast_S4096x1_S4096x128_0_1
      (broadcastInDim S4096x1 ![0] bcast_S4096_S4096x1_0 (shapeCast S4096 (extractStridedSlice S1x4096 ![0, 0] (m ((c : Thread nD τ).loc main_arg1)) slices_S2x4096_S1x4096_0_0) shapeCasts_S1x4096_S4096)) := by
    rw [← W2_args m ρ c main_arg1 (by decide)]
    show StableHlo.after hostOps1 (W2 m ρ c) (Proc.devRef .tc main_v5) = _
    after_results
    rfl
  rw [e]
  pointwise

/-- The residual stream, as launched. -/
abbrev xK : Vec Ideal S8x2048x4096 .f32 := m ((c : Thread nD τ).loc main_arg0)

/-- The gains, as launched. -/
abbrev gK : Vec Ideal S2x4096 .f32 := m ((c : Thread nD τ).loc main_arg1)

/-- The opening weights, as launched. -/
abbrev wK : Vec Ideal S2x4096x22016 .f32 := m ((c : Thread nD τ).loc main_arg2)

/-- The closing weights, as launched. -/
abbrev oK : Vec Ideal S2x11008x4096 .f32 := m ((c : Thread nD τ).loc main_arg3)

/-- The rows as the first call finds them: the tokens flattened. -/
theorem flat (n : Fin 16384) (k : Fin 4096) : (V1 m ρ c main_v0 : FVec Ideal S16384x4096 .f32) (ix2 n k) =
    xK m c (ix3 (bat n.val n.isLt) (tok n.val) k) := by
  have e : (V1 m ρ c main_v0 : FVec Ideal S16384x4096 .f32) = shapeCast S16384x4096 (xK m c) shapeCasts_S8x2048x4096_S16384x4096 := by
    show StableHlo.after hostOps0 (W0 m ρ c) (Proc.devRef .tc main_v0) = _
    after_results
    rfl
  rw [e]
  pointwise

/-- The rounded rows as the second call finds them: the tokens flattened. -/
theorem rows3 (n : Fin 16384) (k : Fin 4096) : (V3 m ρ c main_v1_0 : FVec Ideal S16384x4096 .bf16) (ix2 n k) =
    xK m c (ix3 (bat n.val n.isLt) (tok n.val) k) := by
  have e : (V3 m ρ c main_v1_0 : FVec Ideal S16384x4096 .bf16) = fun i => (V1 m ρ c main_v0 : FVec Ideal S16384x4096 .f32) i :=
    ((W3_of m ρ c main_v1_0 (by decide)).trans (W2_arr m ρ c 1)).trans (rowsArr (V1 m ρ) c)
  rw [e]
  exact flat m ρ c n k

/-- The lane sums of the squares of a token's channels. -/
def tokenLanes (x : Vec Ideal S8x2048x4096 .f32) (b : Fin 8) (s : Fin 2048) (l : Fin 128) : EReal :=
  ∑ j : Fin 32, x (ix3 b s ⟨l.val + 128 * j.val, by omega⟩) * x (ix3 b s ⟨l.val + 128 * j.val, by omega⟩)

/-- The lane sums as the second call finds them. -/
theorem lanes3 (n : Fin 16384) (l : Fin 128) : (V3 m ρ c main_v1_1 : FVec Ideal S1x16384x128 .f32) (ix3 0 n l) =
    tokenLanes (xK m c) (bat n.val n.isLt) (tok n.val) l := by
  have e : (V3 m ρ c main_v1_1 : FVec Ideal S1x16384x128 .f32) = fun i => laneSum (V1 m ρ c main_v0) (i 1) (i 2) :=
    ((W3_of m ρ c main_v1_1 (by decide)).trans (W2_arr m ρ c 2)).trans (lanesArr (V1 m ρ) c)
  rw [e]
  show laneSum (V1 m ρ c main_v0) n l = _
  exact Finset.sum_congr rfl fun j _ => congrArg (fun z : EReal => z * z) (flat m ρ c n _)

/-- One channel of the opening product of a token, before the gate: the normalised row, its gains, and a column of the
    weights. -/
def channel (x : Vec Ideal S8x2048x4096 .f32) (g : Vec Ideal S2x4096 .f32) (w : Vec Ideal S2x4096x22016 .f32) (b : Fin 8) (s : Fin 2048)
    (N : Fin 22016) : EReal :=
  ∑ k : Fin 4096, x (ix3 b s k) * rowScale (∑ k : Fin 4096, x (ix3 b s k) * x (ix3 b s k)) * g (ix2 0 k) * w (ix3 0 k N)

/-- The activations of all flattened tokens. -/
def acts (x : Vec Ideal S8x2048x4096 .f32) (g : Vec Ideal S2x4096 .f32) (w : Vec Ideal S2x4096x22016 .f32) : Vec Ideal S16384x11008 .bf16 := fun i =>
  have h : (i 0).val < 16384 := (i 0).isLt
  have h1 : (i 1).val < 11008 := (i 1).isLt
  gated (channel x g w (bat (i 0).val h) (tok (i 0).val) ⟨(i 1).val, by omega⟩)
    (channel x g w (bat (i 0).val h) (tok (i 0).val) ⟨11008 + (i 1).val, by omega⟩)

/-- A point's stored entry, once its blocks are known as entries of the arguments. -/
theorem gather (x0 : Vec Ideal S2048x4096 .bf16) (x1 : Vec Ideal S1x2048x128 .f32) (x2 : Vec Ideal S4096x128 .f32)
    (x3 x4 : Vec Ideal S1x4096x256 .f32) (x5 : Vec Ideal S1x32x4096 .f32) (x : Vec Ideal S8x2048x4096 .f32) (g : Vec Ideal S2x4096 .f32)
    (w : Vec Ideal S2x4096x22016 .f32) (r : Fin 2048) (n : Fin 256) (b : Fin 8) (s : Fin 2048) (N M : Fin 22016)
    (h0 : ∀ k, x0 (ix2 r k) = x (ix3 b s k)) (h1 : ∀ l, x1 (ix3 0 r l) = tokenLanes x b s l)
    (h2 : ∀ k l, x2 (ix2 k l) = g (ix2 0 k)) (h3 : ∀ k, x3 (ix3 0 k n) = w (ix3 0 k N)) (h4 : ∀ k, x4 (ix3 0 k n) = w (ix3 0 k M)) :
    (out1_6 x0 x1 x2 x3 x4 x5 : FVec Ideal S2048x256 .bf16) (ix2 r n) = gated (channel x g w b s N) (channel x g w b s M) := by
  rw [stored x0 x1 x2 x3 x4 x5 (fun k => g (ix2 0 k)) h2]
  simp only [h0, h1, h3, h4]
  unfold channel tokenLanes
  rw [lanes fun k => x (ix3 b s k) * x (ix3 b s k), ← folded (fun k => x (ix3 b s k)) (fun k => g (ix2 0 k)) fun k => w (ix3 0 k N),
    ← folded (fun k => x (ix3 b s k)) (fun k => g (ix2 0 k)) fun k => w (ix3 0 k M)]

/-- The block of activations that point `t` leaves. -/
theorem block (t : Fin cfg1.N) (r : Fin 2048) (n : Fin 256) :
    (out1_6 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) : FVec Ideal S2048x256 .bf16) (ix2 r n) =
      acts (xK m c) (gK m c) (wK m c) (ix2 ⟨2048 * (t.val / 43) + r.val, by
        have := t.isLt; have e : cfg1.N = 344 := rfl; omega⟩ ⟨256 * (t.val % 43) + n.val, by omega⟩) := by
  have hw : (V3 m ρ c main_arg2 : FVec Ideal S2x4096x22016 .f32) = wK m c := W3_args m ρ c main_arg2 (by decide)
  exact gather _ _ _ _ _ _ (xK m c) (gK m c) (wK m c) r n _ _ _ _ (fun k => (blkX _ c t r k).trans (rows3 m ρ c _ k))
    (fun l => (blkS _ c t r l).trans (lanes3 m ρ c _ l))
    (fun k l => (blkG _ c t k l).trans (gains m ρ c k l)) (fun k => (blkW _ c t k n).trans (by rw [hw]; rfl)) (fun k => (blkU _ c t k n).trans (by rw [hw]; rfl))

/-- The array of activations the second call leaves. -/
theorem actsArr : ((dat1 (V3 m ρ) c).arrAt 6 cfg1.N : FVec Ideal S16384x11008 .bf16) = acts (xK m c) (gK m c) (wK m c) := by
  refine (dat1 (V3 m ρ) c).arrAt_eq_of_covers 6 _ (by decide +kernel) fun t hf y => ?_
  blk_simp
  rw [after1_6]
  have h0 : (y 0).val < 2048 := (y 0).isLt
  have h1 : (y 1).val < 256 := (y 1).isLt
  have e : y = ix2 ⟨(y 0).val, h0⟩ ⟨(y 1).val, h1⟩ := by
    funext a
    match a with
    | ⟨0, _⟩ => rfl
    | ⟨1, _⟩ => rfl
  rw [e]
  refine (block m ρ c t _ _).trans ?_
  congr 1
  funext a
  apply Fin.ext
  match a with
  | ⟨0, _⟩ =>
    refine Eq.symm ((win1_6.rect_emb_val t _ 0).trans ?_)
    rw [(idx1 t).2.2.2.2.2.2.1.1]
    exact congrArg (· + _) (Nat.mul_comm _ _)
  | ⟨1, _⟩ =>
    refine Eq.symm ((win1_6.rect_emb_val t _ 1).trans ?_)
    rw [(idx1 t).2.2.2.2.2.2.1.2]
    exact congrArg (· + _) (Nat.mul_comm _ _)

/-- The first layer's closing weights, rounded. -/
def closing (o : Vec Ideal S2x11008x4096 .f32) : Vec Ideal S11008x4096 .bf16 := fun i => o (ix3 0 ⟨(i 0).val, (i 0).isLt⟩ ⟨(i 1).val, (i 1).isLt⟩)

/-- The array of closing weights the second call leaves. -/
theorem closingArr : ((dat1 (V3 m ρ) c).arrAt 7 cfg1.N : FVec Ideal S11008x4096 .bf16) = closing (oK m c) := by
  refine (dat1 (V3 m ρ) c).arrAt_eq_of_covers 7 _ (by decide +kernel) fun t hf y => ?_
  blk_simp
  rw [after1_7]
  have h0 : (y 0).val < 32 := (y 0).isLt
  have h1 : (y 1).val < 4096 := (y 1).isLt
  have e : y = ix2 ⟨(y 0).val, h0⟩ ⟨(y 1).val, h1⟩ := by
    funext a
    match a with
    | ⟨0, _⟩ => rfl
    | ⟨1, _⟩ => rfl
  have ho : (V3 m ρ c main_arg3 : FVec Ideal S2x11008x4096 .f32) = oK m c := W3_args m ρ c main_arg3 (by decide)
  rw [e]
  refine ((slab _ _ _ _ _ _ _ _).trans (blkO _ c t _ _)).trans ?_
  rw [ho]
  unfold closing
  congr 1
  funext a
  apply Fin.ext
  match a with
  | ⟨0, _⟩ => rfl
  | ⟨1, _⟩ =>
    refine Eq.symm ((win1_7.rect_emb_val t _ 0).trans ?_)
    rw [(idx1 t).2.2.2.2.2.2.2.1]
    exact congrArg (· + _) (Nat.mul_comm _ _)
  | ⟨2, _⟩ =>
    refine Eq.symm ((win1_7.rect_emb_val t _ 1).trans ?_)
    rw [(idx1 t).2.2.2.2.2.2.2.2]
    exact Nat.zero_add _

end Cert.FfnIn

end
-- ==== Proof.FfnRun.lean ====
/- The launch of the two calls that open a feed-forward half-step, with what it leaves in the two result arrays. -/
module

public import proofs.«01_k».proof.Proof.Gen.Kernel2Ideal.Frame

@[expose] public section

set_option maxRecDepth 16384

noncomputable section

namespace Cert.FfnIn

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the two result arrays at what the second call's grid points wrote, and the arguments as
    launched. -/
theorem run : θ_run defs (onTc (τ := τ) (main (F := F))) ⟨m, fun _ => 0, ρ⟩ (fun r => ∀ c : Dev nD,
      r.2.mem ((c.tc : Thread nD τ).loc main_v6_0) = (dat1 (V3 m ρ) c).arrAt 6 cfg1.N
      ∧ r.2.mem ((c.tc : Thread nD τ).loc main_v6_1) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v6_0 (by decide))).trans (W4_arr m ρ c 6),
       (h c _ (mem_uc main_v6_1 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.FfnIn

end
-- ==== Proof.FfnRef.lean ====
/- The reference of the calls that open a feed-forward half-step, and the equality of the two programs' results. -/
module

public import proofs.«01_k».proof.Proof.FfnWhole
public import proofs.«01_k».proof.Proof.FfnRun
public import proofs.«01_k».proof.Proof.Gen.Reference2Ideal.Run
public import proofs.«01_k».proof.Defs
public import Idealize.ShloMosaic.Lib.Quiescent

@[expose] public section

set_option maxRecDepth 16384

noncomputable section

namespace Cert.FfnIn

open Idealize.ShloMosaic Idealize.ShloMosaic.TcCoe Idealize.SL.Sem

namespace Ref

open Cert.Reference2Ideal Cert.Reference2Ideal.Gen

variable (x : Vec Ideal S8x2048x4096 .f32) (g : Vec Ideal S2x4096 .f32) (w : Vec Ideal S2x4096x22016 .f32) (o : Vec Ideal S2x11008x4096 .f32)

/-- The reference's opening product: the normalised rows times the weights. -/
def product : FVec Ideal S8x2048x22016 .f32 :=
  (Host.dotGeneral (φ₁ := .f32) (φ₂ := .f32) dot_S8x2048x4096_S4096x22016_S8x2048x22016_2_0_01_1_n_n none (mulf (mulf x (broadcastInDim S8x2048x4096 ![0, 1, 2] bcast_S8x2048x1_S8x2048x4096_0_1_2 (Host.rsqrt (addf (Host.divf (broadcastInDim S8x2048x1 ![0, 1] bcast_S8x2048_S8x2048x1_0_1 (Host.reduceAdd (mulf x x) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))))) (broadcastInDim S8x2048x4096 ![0, 1, 2] bcast_S1x1x4096_S8x2048x4096_0_1_2 (broadcastInDim S1x1x4096 ![2] bcast_S4096_S1x1x4096_2 (shapeCast S4096 (extractStridedSlice S1x4096 ![0, 0] g slices_S2x4096_S1x4096_0_0) shapeCasts_S1x4096_S4096)))) (shapeCast S4096x22016 (extractStridedSlice S1x4096x22016 ![0, 0, 0] w slices_S2x4096x22016_S1x4096x22016_0_0_0) shapeCasts_S1x4096x22016_S4096x22016))

/-- One of its entries. -/
theorem product_apply (b : Fin 8) (s : Fin 2048) (N : Fin 22016) : product x g w (ix3 b s N) = channel x g w b s N := by
  unfold channel product
  simp only [rowScale_eq]
  pointwise

/-- The reference's activations, from its opening product. -/
theorem acts_ref (G : FVec Ideal S8x2048x22016 .f32) (hG : ∀ b s N, G (ix3 b s N) = channel x g w b s N) :
    (truncf .bf16 (shapeCast S16384x11008 (mulf (mulf (extractStridedSlice S8x2048x11008 ![0, 0, 0] G slices_S8x2048x22016_S8x2048x11008_0_0_0) (Host.divf (broadcastInDim S8x2048x11008 ![] bcast_S_S8x2048x11008 (constant S_ .f32 0x3F800000#32)) (addf (broadcastInDim S8x2048x11008 ![] bcast_S_S8x2048x11008 (constant S_ .f32 0x3F800000#32)) (Host.exp (Host.negf (extractStridedSlice S8x2048x11008 ![0, 0, 0] G slices_S8x2048x22016_S8x2048x11008_0_0_0)))))) (extractStridedSlice S8x2048x11008 ![0, 0, 11008] G slices_S8x2048x22016_S8x2048x11008_0_0_11008)) shapeCasts_S8x2048x11008_S16384x11008) bitsLt_bf16_f32 : FVec Ideal S16384x11008 .bf16) = acts x g w := by
  funext i
  idx_vars i
  unfold acts gated
  pointwise
  simp only [hG]
  rfl

/-- The reference's closing weights. -/
theorem closing_ref : (truncf .bf16 (shapeCast S11008x4096 (extractStridedSlice S1x11008x4096 ![0, 0, 0] o slices_S2x11008x4096_S1x11008x4096_0_0_0) shapeCasts_S1x11008x4096_S11008x4096) bitsLt_bf16_f32 : FVec Ideal S11008x4096 .bf16) =
    closing o := by
  funext i
  idx_vars i
  unfold closing
  pointwise

end Ref

/-- The reference runs, its arguments end unchanged and it leaves no semaphore raised: it has none. -/
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- The two calls' results and the reference's are the same arrays. -/
theorem values_equal : Cert.algebraic_Kernel2Ideal_Reference2Ideal := by
  intro m g m' g' _ hagree
  refine ⟨fun c => acts (xK m c) (gK m c) (wK m c), fun c => closing (oK m c), ?_, ?_⟩
  · exact (θ_run Cert.Kernel2Ideal.defs _ _).mono
      (fun r h c => ⟨(h c).1.trans (actsArr m g c), (h c).2.1.trans (closingArr m g c), (h c).2.2⟩) (run m g)
  · refine (θ_run Cert.Reference2Ideal.defs _ _).mono (fun r h c => ⟨(h c).1.trans ?_, (h c).2.1.trans ?_, (h c).2.2⟩)
      (Cert.Reference2Ideal.Value.run m' g')
    · obtain ⟨e0, e1, e2, e3⟩ := hagree c
      refine (Ref.acts_ref _ _ _ (Ref.product _ _ _) (Ref.product_apply _ _ _)).trans ?_
      rw [e0, e1, e2]
    · obtain ⟨e0, e1, e2, e3⟩ := hagree c
      refine (Ref.closing_ref _).trans ?_
      rw [e3]

end Cert.FfnIn

end
-- ==== Proof.OutTile.lean ====
/- The call that closes a feed-forward half-step, `x + 1/2 * (act @ w_out)`: what one grid point stores, from its blocks,
   which entries of the arguments those blocks are, and the arrays the call leaves. -/
module

public import proofs.«01_k».proof.Proof.Flat
public import proofs.«01_k».proof.Proof.Gen.Kernel3Ideal.Value
public import Idealize.ShloMosaic.Lib.ValueIdx
public import Idealize.ShloMosaic.Lib.Pointwise
public import Idealize.ShloMosaic.Lib.Pipeline.ValueKit.Point
public import Idealize.ShloMosaic.Lib.Claim

@[expose] public section

set_option maxRecDepth 16384

noncomputable section

namespace Cert.FfnOut

open Cert.Flat Cert.Kernel3Ideal Cert.Kernel3Ideal.Gen Idealize.ShloMosaic Idealize.ShloMosaic.TcCoe Idealize.SL.Sem

/-- The corner of a buffer. -/
theorem corner : (![0, 0] : Fin 2 → Nat) = fun _ => 0 := by decide

/-- The corner of a stack of matrices. -/
theorem corner3 : (![0, 0, 0] : Fin 3 → Nat) = fun _ => 0 := by decide

/-- One half, as the programs spell it. -/
abbrev half : EReal := Ideal.ofBits .f32 0x3F000000#32

/-- The lane sums of a block, from the block. -/
theorem lanes_of (v0 : Vec Ideal S512x5632 .bf16) (v2 : Vec Ideal S5632x1024 .bf16) (v5 : Vec Ideal S512x5376 .bf16)
    (v7 : Vec Ideal S5376x1024 .bf16) (v11 : Vec Ideal S512x1024 .f32) (r : Fin 512) (l : Fin 128) :
    (k0_pay1 (k0_pay4 v0 v2 v5 v7 v11) : FVec Ideal S1x512x128 .f32) (ix3 0 r l) =
      ∑ j : Fin 8, (fun z : EReal => z * z) ((k0_pay2 v0 v2 v5 v7 v11 : FVec Ideal S512x1024 .f32) (ix2 r ⟨l.val + 128 * j.val, by omega⟩)) := by
  unfold k0_pay4
  generalize k0_pay2 v0 v2 v5 v7 v11 = H
  pointwise [k0_pay1]
  simp only [Fin.sum_univ_castSucc, Fin.sum_univ_zero, zero_add, Nat.add_comm _ l.val]
  rfl

section Stored

variable (c : Dev nD) (i : grid0.Coords) (arg2 : Memref sig .tc .vmem S512x11008 .bf16) (harg2 : arg2.IsWhole) (arg3 : Memref sig .tc .vmem S5632x1024 .bf16) (harg3 : arg3.IsWhole) (arg4 : Memref sig .tc .vmem S5376x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x512x128 .f32) (harg8 : arg8.IsWhole)
  (x0 : Vec Ideal S512x11008 .bf16) (x1 : Vec Ideal S5632x1024 .bf16) (x2 : Vec Ideal S5376x1024 .bf16) (x3 : Vec Ideal S512x1024 .f32)

/-- What one point leaves in its block of the result: the residual plus half of the product, summed over the first 5632
    hidden channels and the other 5376. -/
theorem stored (r : Fin 512) (n : Fin 1024) :
    (out0_A_4 (F := Ideal) c i arg2 harg2 arg3 harg3 arg4 harg4 arg5 harg5 arg6 harg6 arg7 harg7 arg8 harg8 x0 x1 x2 x3 : FVec Ideal S512x1024 .f32) (ix2 r n) =
      x3 (ix2 r n) + half * ((∑ k : Fin 5632, x0 (ix2 r ⟨k.val, by omega⟩) * x1 (ix2 k n)) +
        ∑ k : Fin 5376, x0 (ix2 r ⟨5632 + k.val, by omega⟩) * x2 (ix2 k n)) := by
  unfold out0_A_4
  rw [View.read_writes_eq_canon _ _ _ (cover0_A_4 c i arg2 harg2 arg3 harg3 arg4 harg4 arg5 harg5 arg6 harg6 arg7 harg7 arg8 harg8 x0 x1 x2 x3)]
  unfold kernelRun0_A
  dsimp only
  rw [View.canon_unit_zero corner]
  simp only [View.readAt_eq_ld, harg2.read_unread, harg3.read_unread, harg4.read_unread, harg5.read_unread, View.ld_unit_zero (S := S512x1024) corner, View.ld_unit_zero (S := S5632x1024) corner, View.ld_unit_zero (S := S5376x1024) corner]
  pointwise [k0_pay2]

/-- It leaves the same block again, rounded. -/
theorem stored_rounded (r : Fin 512) (n : Fin 1024) :
    (out0_A_5 (F := Ideal) c i arg2 harg2 arg3 harg3 arg4 harg4 arg5 harg5 arg6 harg6 arg7 harg7 arg8 harg8 x0 x1 x2 x3 : FVec Ideal S512x1024 .bf16) (ix2 r n) =
      (out0_A_4 (F := Ideal) c i arg2 harg2 arg3 harg3 arg4 harg4 arg5 harg5 arg6 harg6 arg7 harg7 arg8 harg8 x0 x1 x2 x3 : FVec Ideal S512x1024 .f32) (ix2 r n) := by
  unfold out0_A_5 out0_A_4
  rw [View.read_writes_eq_canon _ _ _ (cover0_A_5 c i arg2 harg2 arg3 harg3 arg4 harg4 arg5 harg5 arg6 harg6 arg7 harg7 arg8 harg8 x0 x1 x2 x3), View.read_writes_eq_canon _ _ _ (cover0_A_4 c i arg2 harg2 arg3 harg3 arg4 harg4 arg5 harg5 arg6 harg6 arg7 harg7 arg8 harg8 x0 x1 x2 x3)]
  unfold kernelRun0_A
  dsimp only
  rw [View.canon_unit_zero corner, View.canon_unit_zero corner]
  simp only [View.readAt_eq_ld, harg2.read_unread, harg3.read_unread, harg4.read_unread, harg5.read_unread, View.ld_unit_zero (S := S512x1024) corner, View.ld_unit_zero (S := S5632x1024) corner, View.ld_unit_zero (S := S5376x1024) corner]
  pointwise [k0_pay3]

/-- And for each of 128 lanes the sum of the squares of the 8 entries of the block that lie 128 columns apart. -/
theorem stored_lanes (r : Fin 512) (l : Fin 128) :
    (out0_A_6 (F := Ideal) c i arg2 harg2 arg3 harg3 arg4 harg4 arg5 harg5 arg6 harg6 arg7 harg7 arg8 harg8 x0 x1 x2 x3 : FVec Ideal S1x512x128 .f32) (ix3 0 r l) =
      ∑ j : Fin 8, (fun z : EReal => z * z) ((out0_A_4 (F := Ideal) c i arg2 harg2 arg3 harg3 arg4 harg4 arg5 harg5 arg6 harg6 arg7 harg7 arg8 harg8 x0 x1 x2 x3 : FVec Ideal S512x1024 .f32) (ix2 r ⟨l.val + 128 * j.val, by omega⟩)) := by
  unfold out0_A_6 out0_A_4
  rw [View.read_writes_eq_canon _ _ _ (cover0_A_6 c i arg2 harg2 arg3 harg3 arg4 harg4 arg5 harg5 arg6 harg6 arg7 harg7 arg8 harg8 x0 x1 x2 x3), View.read_writes_eq_canon _ _ _ (cover0_A_4 c i arg2 harg2 arg3 harg3 arg4 harg4 arg5 harg5 arg6 harg6 arg7 harg7 arg8 harg8 x0 x1 x2 x3)]
  unfold kernelRun0_A kernelRun0_A.sl.r
  dsimp only
  rw [View.canon_unit_zero corner3, View.canon_unit_zero corner]
  simp only [View.readAt_eq_ld, harg2.read_unread, harg3.read_unread, harg4.read_unread, harg5.read_unread, View.ld_unit_zero (S := S512x1024) corner, View.ld_unit_zero (S := S5632x1024) corner, View.ld_unit_zero (S := S5376x1024) corner]
  exact lanes_of _ _ _ _ _ r l

end Stored

variable (m : (ℓ : Loc nD τ sig) → Buf (Elt Ideal) ℓ) (c : Dev nD)

/-- The hidden activations, as launched. -/
abbrev actK : Vec Ideal S8x2048x11008 .f32 := m ((c : Thread nD τ).loc main_arg0)

/-- The closing weights, as launched. -/
abbrev wK : Vec Ideal S11008x4096 .f32 := m ((c : Thread nD τ).loc main_arg1)

/-- The residual stream, as launched. -/
abbrev resK : Vec Ideal S8x2048x4096 .f32 := m ((c : Thread nD τ).loc main_arg2)

/-- Where the windows stand at point `t`: the 32 row blocks run innermost, the 4 column blocks outermost. -/
theorem idx (t : Fin cfg0.N) : (win0_0.index t 0 = t.val % 32 ∧ win0_0.index t 1 = 0) ∧
    (win0_1.index t 0 = 0 ∧ win0_1.index t 1 = t.val / 32) ∧ (win0_2.index t 0 = 5632 ∧ win0_2.index t 1 = 1024 * (t.val / 32)) ∧
    (win0_3.index t 0 = t.val % 32 ∧ win0_3.index t 1 = t.val / 32) ∧
    (win0_4.index t 0 = t.val % 32 ∧ win0_4.index t 1 = t.val / 32) ∧
    (win0_5.index t 0 = t.val % 32 ∧ win0_5.index t 1 = t.val / 32) ∧
    (win0_6.index t 0 = t.val / 32 ∧ win0_6.index t 1 = t.val % 32 ∧ win0_6.index t 2 = 0) := by
  revert t; decide +kernel

/-- The activations' block: 512 rows of the flattened tokens. -/
theorem blk0 (t : Fin cfg0.N) (r : Fin 512) (k : Fin 11008) :
    (iblk m c 0 t : FVec Ideal S512x11008 .bf16) (ix2 r k) =
      actK m c (ix3 (bat (512 * (t.val % 32) + r.val) (by omega)) (tok (512 * (t.val % 32) + r.val)) k) := by
  blk_simp [iblk, V, idx t]
  entry_read
  pointwise
  blk_ext [iblk, V, idx t]

/-- The first weights' block: rows 0 to 5631 of 1024 columns. -/
theorem blk1 (t : Fin cfg0.N) (k : Fin 5632) (n : Fin 1024) :
    (X0_1 m c t : FVec Ideal S5632x1024 .bf16) (ix2 k n) = wK m c (ix2 ⟨k.val, by omega⟩ ⟨1024 * (t.val / 32) + n.val, by
      have := t.isLt; have e : cfg0.N = 128 := rfl; omega⟩) := by
  unfold X0_1 Pipeline.Window.fill
  rw [dif_pos (moved0_1 t _)]
  blk_simp [iblk, V, idx t]
  entry_read
  pointwise
  blk_ext [iblk, V, idx t]

/-- The second weights' block: the other rows of the same columns. -/
theorem blk2 (t : Fin cfg0.N) (k : Fin 5376) (n : Fin 1024) :
    (iblk m c 2 t : FVec Ideal S5376x1024 .bf16) (ix2 k n) = wK m c (ix2 ⟨5632 + k.val, by omega⟩ ⟨1024 * (t.val / 32) + n.val, by
      have := t.isLt; have e : cfg0.N = 128 := rfl; omega⟩) := by
  blk_simp [iblk, V, idx t]
  entry_read
  pointwise
  blk_ext [iblk, V, idx t]
  · refine (win0_2.rect_emb_val_off t (ix2 k n) 0).trans ?_
    rw [(idx t).2.2.1.1]
    rfl
  · refine (win0_2.rect_emb_val_off t (ix2 k n) 1).trans ?_
    rw [(idx t).2.2.1.2]
    rfl

/-- The residual's block. -/
theorem blk3 (t : Fin cfg0.N) (r : Fin 512) (n : Fin 1024) :
    (iblk m c 3 t : FVec Ideal S512x1024 .f32) (ix2 r n) =
      resK m c (ix3 (bat (512 * (t.val % 32) + r.val) (by omega)) (tok (512 * (t.val % 32) + r.val)) ⟨1024 * (t.val / 32) + n.val, by
        have := t.isLt; have e : cfg0.N = 128 := rfl; omega⟩) := by
  blk_simp [iblk, V, idx t]
  entry_read
  pointwise
  blk_ext [iblk, V, idx t]

/-- The half-step's close over all flattened tokens: the residual plus half of the activations times the weights. -/
def whole (a : Vec Ideal S8x2048x11008 .f32) (w : Vec Ideal S11008x4096 .f32) (x : Vec Ideal S8x2048x4096 .f32) :
    Vec Ideal S16384x4096 .f32 := fun i =>
  have h : (i 0).val < 16384 := (i 0).isLt
  x (ix3 (bat (i 0).val h) (tok (i 0).val) ⟨(i 1).val, (i 1).isLt⟩) +
    half * ∑ k : Fin 11008, a (ix3 (bat (i 0).val h) (tok (i 0).val) k) * w (ix2 k ⟨(i 1).val, (i 1).isLt⟩)

/-- A sum over the hidden channels, cut after 5632 of them. -/
theorem sum_cut (f : Fin 11008 → EReal) : (∑ k : Fin 5632, f ⟨k.val, by omega⟩) + ∑ k : Fin 5376, f ⟨5632 + k.val, by omega⟩ = ∑ k, f k :=
  (Fin.sum_univ_add (a := 5632) (b := 5376) f).symm

/-- A point's stored entry, once its blocks are known as entries of the arguments. -/
theorem gather (x0 : Vec Ideal S512x11008 .bf16) (x1 : Vec Ideal S5632x1024 .bf16) (x2 : Vec Ideal S5376x1024 .bf16)
    (x3 : Vec Ideal S512x1024 .f32) (a : Vec Ideal S8x2048x11008 .f32) (w : Vec Ideal S11008x4096 .f32)
    (x : Vec Ideal S8x2048x4096 .f32) (r : Fin 512) (n : Fin 1024) (b : Fin 8) (s : Fin 2048) (N : Fin 4096)
    (h0 : ∀ k, x0 (ix2 r k) = a (ix3 b s k)) (h1 : ∀ k : Fin 5632, x1 (ix2 k n) = w (ix2 ⟨k.val, by omega⟩ N))
    (h2 : ∀ k : Fin 5376, x2 (ix2 k n) = w (ix2 ⟨5632 + k.val, by omega⟩ N)) (h3 : x3 (ix2 r n) = x (ix3 b s N)) :
    x3 (ix2 r n) + half * ((∑ k : Fin 5632, x0 (ix2 r ⟨k.val, by omega⟩) * x1 (ix2 k n)) +
        ∑ k : Fin 5376, x0 (ix2 r ⟨5632 + k.val, by omega⟩) * x2 (ix2 k n)) =
      x (ix3 b s N) + half * ∑ k : Fin 11008, a (ix3 b s k) * w (ix2 k N) := by
  rw [h3, ← sum_cut fun k => a (ix3 b s k) * w (ix2 k N)]
  simp only [h0, h1, h2]

/-- The block of the result that point `t` leaves. -/
theorem block (t : Fin cfg0.N) (r : Fin 512) (n : Fin 1024) :
    ((outsAt0 m c t).1 : FVec Ideal S512x1024 .f32) (ix2 r n) = whole (actK m c) (wK m c) (resK m c)
      (ix2 ⟨512 * (t.val % 32) + r.val, by omega⟩ ⟨1024 * (t.val / 32) + n.val, by
        have := t.isLt; have e : cfg0.N = 128 := rfl; omega⟩) := by
  unfold outsAt0
  dsimp only
  rw [stored]
  exact gather _ _ _ _ _ _ _ r n _ _ _ (fun k => blk0 m c t r k) (fun k => blk1 m c t k n) (fun k => blk2 m c t k n) (blk3 m c t r n)

/-- The rounded block that it leaves. -/
theorem block_rounded (t : Fin cfg0.N) (r : Fin 512) (n : Fin 1024) :
    ((outsAt0 m c t).2.1 : FVec Ideal S512x1024 .bf16) (ix2 r n) = ((outsAt0 m c t).1 : FVec Ideal S512x1024 .f32) (ix2 r n) := by
  unfold outsAt0
  dsimp only
  rw [stored_rounded]

/-- The lane sums that it leaves. -/
theorem block_lanes (t : Fin cfg0.N) (r : Fin 512) (l : Fin 128) :
    ((outsAt0 m c t).2.2 : FVec Ideal S1x512x128 .f32) (ix3 0 r l) =
      ∑ j : Fin 8, (fun z : EReal => z * z) (((outsAt0 m c t).1 : FVec Ideal S512x1024 .f32) (ix2 r ⟨l.val + 128 * j.val, by omega⟩)) := by
  unfold outsAt0
  dsimp only
  rw [stored_lanes]

/-- The array the call leaves. -/
theorem array : (dats m 0 c).arrAt 4 cfg0.N = whole (actK m c) (wK m c) (resK m c) := by
  refine (dats m 0 c).arrAt_eq_of_covers 4 _ (by decide +kernel) fun t hf y => ?_
  blk_simp
  rw [after0_4]
  have h0 : (y 0).val < 512 := (y 0).isLt
  have h1 : (y 1).val < 1024 := (y 1).isLt
  have e : y = ix2 ⟨(y 0).val, h0⟩ ⟨(y 1).val, h1⟩ := by
    funext a
    match a with
    | ⟨0, _⟩ => rfl
    | ⟨1, _⟩ => rfl
  rw [e]
  refine (block m c t _ _).trans ?_
  congr 1
  funext a
  apply Fin.ext
  match a with
  | ⟨0, _⟩ =>
    refine Eq.symm ((win0_4.rect_emb_val t _ 0).trans ?_)
    rw [(idx t).2.2.2.2.1.1]
    exact congrArg (· + _) (Nat.mul_comm _ _)
  | ⟨1, _⟩ =>
    refine Eq.symm ((win0_4.rect_emb_val t _ 1).trans ?_)
    rw [(idx t).2.2.2.2.1.2]
    exact congrArg (· + _) (Nat.mul_comm _ _)

/-- The same result, rounded. -/
def rounded (a : Vec Ideal S8x2048x11008 .f32) (w : Vec Ideal S11008x4096 .f32) (x : Vec Ideal S8x2048x4096 .f32) :
    Vec Ideal S16384x4096 .bf16 := fun i => whole a w x i

/-- The array of rounded results the call leaves. -/
theorem arrayRounded : (dats m 0 c).arrAt 5 cfg0.N = rounded (actK m c) (wK m c) (resK m c) := by
  refine (dats m 0 c).arrAt_eq_of_covers 5 _ (by decide +kernel) fun t hf y => ?_
  blk_simp
  rw [after0_5]
  have h0 : (y 0).val < 512 := (y 0).isLt
  have h1 : (y 1).val < 1024 := (y 1).isLt
  have e : y = ix2 ⟨(y 0).val, h0⟩ ⟨(y 1).val, h1⟩ := by
    funext a
    match a with
    | ⟨0, _⟩ => rfl
    | ⟨1, _⟩ => rfl
  rw [e]
  refine ((block_rounded m c t _ _).trans (block m c t _ _)).trans ?_
  unfold rounded
  congr 1
  funext a
  apply Fin.ext
  match a with
  | ⟨0, _⟩ =>
    refine Eq.symm ((win0_5.rect_emb_val t _ 0).trans ?_)
    rw [(idx t).2.2.2.2.2.1.1]
    exact congrArg (· + _) (Nat.mul_comm _ _)
  | ⟨1, _⟩ =>
    refine Eq.symm ((win0_5.rect_emb_val t _ 1).trans ?_)
    rw [(idx t).2.2.2.2.2.1.2]
    exact congrArg (· + _) (Nat.mul_comm _ _)

/-- Sums of squares of a row: for each of 4 column blocks and 128 lanes, over the 8 columns of the block in the lane. -/
def parts (y : Vec Ideal S16384x4096 .f32) : Vec Ideal S4x16384x128 .f32 := fun i =>
  have h0 : (i 0).val < 4 := (i 0).isLt
  have h2 : (i 2).val < 128 := (i 2).isLt
  ∑ j : Fin 8, (fun z : EReal => z * z) (y (ix2 ⟨(i 1).val, (i 1).isLt⟩ ⟨1024 * (i 0).val + ((i 2).val + 128 * j.val), by omega⟩))

/-- The array of these sums that the call leaves. -/
theorem arrayParts : (dats m 0 c).arrAt 6 cfg0.N = parts (whole (actK m c) (wK m c) (resK m c)) := by
  refine (dats m 0 c).arrAt_eq_of_covers 6 _ (by decide +kernel) fun t hf y => ?_
  blk_simp
  rw [after0_6]
  have h0 : (y 0).val < 1 := (y 0).isLt
  have h1 : (y 1).val < 512 := (y 1).isLt
  have h2 : (y 2).val < 128 := (y 2).isLt
  have e : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  rw [e]
  refine (block_lanes m c t _ _).trans ?_
  have ht : t.val < 128 := t.isLt
  have e0 : ((win0_6.blk t).view.emb (ix3 0 ⟨(y 1).val, h1⟩ ⟨(y 2).val, h2⟩) 0).val = t.val / 32 := by
    refine (win0_6.rect_emb_val t _ 0).trans ?_
    rw [(idx t).2.2.2.2.2.2.1]
    exact (Nat.add_zero _).trans (Nat.mul_one _)
  have e1 : ((win0_6.blk t).view.emb (ix3 0 ⟨(y 1).val, h1⟩ ⟨(y 2).val, h2⟩) 1).val = 512 * (t.val % 32) + (y 1).val := by
    refine (win0_6.rect_emb_val t _ 1).trans ?_
    rw [(idx t).2.2.2.2.2.2.2.1]
    exact congrArg (· + _) (Nat.mul_comm _ _)
  have e2 : ((win0_6.blk t).view.emb (ix3 0 ⟨(y 1).val, h1⟩ ⟨(y 2).val, h2⟩) 2).val = (y 2).val := by
    refine (win0_6.rect_emb_val t _ 2).trans ?_
    rw [(idx t).2.2.2.2.2.2.2.2]
    exact (congrArg (· + _) (Nat.zero_mul _)).trans (Nat.zero_add _)
  unfold parts
  dsimp only
  refine Finset.sum_congr rfl fun j _ => congrArg (fun z : EReal => z * z) ((block m c t _ _).trans ?_)
  congr 1
  funext a
  apply Fin.ext
  match a with
  | ⟨0, _⟩ => exact e1.symm
  | ⟨1, _⟩ =>
    show 1024 * (t.val / 32) + ((y 2).val + 128 * j.val) = _
    exact congrArg₂ (fun p q => 1024 * p + (q + 128 * j.val)) e0.symm e2.symm

end Cert.FfnOut

end
-- ==== Proof.OutRef.lean ====
/- The reference of the call that closes a feed-forward half-step, and the equality of the two programs' results. -/
module

public import proofs.«01_k».proof.Proof.OutTile
public import proofs.«01_k».proof.Proof.Gen.Reference3Ideal.Run
public import proofs.«01_k».proof.Defs
public import Idealize.ShloMosaic.Lib.Quiescent

@[expose] public section

set_option maxRecDepth 16384

noncomputable section

namespace Cert.FfnOut

open Idealize.ShloMosaic Idealize.ShloMosaic.TcCoe Idealize.SL.Sem

namespace Ref

open Cert.Reference3Ideal Cert.Reference3Ideal.Gen

/-- The reference's result: `x + 1/2 * (act @ w_out)`, its tokens flattened. -/
theorem whole_ref (a : Vec Ideal S8x2048x11008 .f32) (w : Vec Ideal S11008x4096 .f32) (x : Vec Ideal S8x2048x4096 .f32) :
    (shapeCast S16384x4096 (addf x (mulf (broadcastInDim S8x2048x4096 ![] bcast_S_S8x2048x4096 (constant S_ .f32 0x3F000000#32)) (Host.dotGeneral (φ₁ := .f32) (φ₂ := .f32) dot_S8x2048x11008_S11008x4096_S8x2048x4096_2_0_01_1_n_n none a w))) shapeCasts_S8x2048x4096_S16384x4096 : FVec Ideal S16384x4096 .f32) =
      whole a w x := by
  funext i
  idx_vars i
  unfold whole
  pointwise

/-- The reference's second result: the same, rounded. -/
theorem rounded_ref (a : Vec Ideal S8x2048x11008 .f32) (w : Vec Ideal S11008x4096 .f32) (x : Vec Ideal S8x2048x4096 .f32) :
    (truncf .bf16 (shapeCast S16384x4096 (addf x (mulf (broadcastInDim S8x2048x4096 ![] bcast_S_S8x2048x4096 (constant S_ .f32 0x3F000000#32)) (Host.dotGeneral (φ₁ := .f32) (φ₂ := .f32) dot_S8x2048x11008_S11008x4096_S8x2048x4096_2_0_01_1_n_n none a w))) shapeCasts_S8x2048x4096_S16384x4096 : FVec Ideal S16384x4096 .f32) bitsLt_bf16_f32 : FVec Ideal S16384x4096 .bf16) = rounded a w x := by
  rw [whole_ref]
  rfl

/-- The reference's sums of squares of an array of rows: those of `parts`. -/
theorem parts_ref (y : Vec Ideal S16384x4096 .f32) :
    (transpose S4x16384x128 [1, 0, 2] (Host.reduceAdd (shapeCast S16384x4x8x128 (mulf y y) shapeCasts_S16384x4096_S16384x4x8x128) (constant S_ .f32 0x00000000#32) reducesTo_S16384x4x8x128_S16384x4x128_d2 h_S_) transposes_S16384x4x128_S4x16384x128_1_0_2 : FVec Ideal S4x16384x128 .f32) =
      parts y := by
  funext i
  idx_vars i
  unfold parts
  pointwise
  refine Finset.sum_congr rfl fun j _ => congrArg (fun z : EReal => z * z) (congrArg (fun n => y (ix2 i1 n)) (Fin.ext ?_))
  show i0.val * 1024 + j.val * 128 + i2.val = 1024 * i0.val + (i2.val + 128 * j.val)
  omega

end Ref

/-- The reference runs, its arguments end unchanged and it leaves no semaphore raised: it has none. -/
theorem frame_reference : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run m ρ)

/-- The call's three results and the reference's are the same arrays. -/
theorem values_equal : Cert.algebraic_Kernel3Ideal_Reference3Ideal := by
  intro m g m' g' _ hagree
  refine ⟨fun c => whole (actK m c) (wK m c) (resK m c), fun c => rounded (actK m c) (wK m c) (resK m c),
    fun c => parts (whole (actK m c) (wK m c) (resK m c)), ?_, ?_⟩
  · exact (θ_run Cert.Kernel3Ideal.defs _ _).mono
      (fun r h c => ⟨(h c).1.trans (array m c), (h c).2.1.trans (arrayRounded m c), (h c).2.2.1.trans (arrayParts m c), (h c).2.2.2⟩)
      (Cert.Kernel3Ideal.Value.run_blocks m g)
  · refine (θ_run Cert.Reference3Ideal.defs _ _).mono
      (fun r h c => ⟨(h c).1.trans ?_, (h c).2.1.trans ?_, (h c).2.2.1.trans ?_, (h c).2.2.2⟩)
      (Cert.Reference3Ideal.Value.run m' g')
    all_goals obtain ⟨e0, e1, e2⟩ := hagree c
    · refine (Ref.whole_ref _ _ _).trans ?_
      rw [e0, e1, e2]
    · refine (Ref.rounded_ref _ _ _).trans ?_
      rw [e0, e1, e2]
    · refine (Ref.parts_ref _).trans (congrArg parts ((Ref.whole_ref _ _ _).trans ?_))
      rw [e0, e1, e2]

end Cert.FfnOut

end
-- ==== Proof.MixSpec.lean ====
/- The opening of a mixer as plain mathematics over the extended reals: the normalised tokens times the weights, the columns
   that hold queries scaled. -/
module

public import proofs.«01_k».proof.Proof.FfnSpec
public import proofs.«01_k».proof.Proof.Flat
public import proofs.«01_k».proof.Proof.Gen.Kernel4Ideal.Frame
public import Idealize.ShloMosaic.Lib.ValueIdx
public import Idealize.ShloMosaic.Lib.Pointwise

@[expose] public section

noncomputable section

namespace Cert.Mix

open Cert.Flat Cert.FfnIn Cert.Lru Cert.Kernel4Ideal Idealize.ShloMosaic

/-- The columns that hold the queries of the two attention branches. -/
abbrev Query (n : ℕ) : Prop := (2048 ≤ n ∧ n < 3072) ∨ (5128 ≤ n ∧ n < 7176)

/-- A column's factor: the queries' scale, or one. -/
def factor (n : ℕ) : EReal := if Query n then f32 0x3E0293EE#32 else 1

/-- The queries' scale is a finite nonnegative number. -/
theorem scale_fin : Fin0 (f32 0x3E0293EE#32) := by
  have h : f32 0x3E0293EE#32 = ((f32 0x3E0293EE#32).toReal : EReal) := by
    simp [f32, Ideal.ofBits, Ideal.ieee]
    norm_cast
  refine ⟨?_, by rw [h]; exact EReal.coe_ne_top _⟩
  simp [f32, Ideal.ofBits, Ideal.ieee]
  norm_cast
  norm_num

/-- So is every column's factor. -/
theorem factor_fin (n : ℕ) : Fin0 (factor n) := by
  unfold factor
  split
  · exact scale_fin
  · exact ⟨zero_le_one, EReal.coe_ne_top 1⟩

/-- One entry of the prepared weights of layer `l`: the weight, its gain, its column's factor. -/
def prepared (g : Vec Ideal S2x4096 .f32) (w : Vec Ideal S2x4096x11272 .f32) (l : Fin 2) (k : Fin 4096) (n : Fin 11272) : EReal :=
  w (ix3 l k n) * g (ix2 l k) * factor n.val

/-- A prepared weight of a query column. -/
theorem prepared_query {n : Fin 11272} (hn : Query n.val) (g : Vec Ideal S2x4096 .f32) (w : Vec Ideal S2x4096x11272 .f32) (l : Fin 2) (k : Fin 4096) :
    w (ix3 l k n) * g (ix2 l k) * f32 0x3E0293EE#32 = prepared g w l k n := by
  unfold prepared factor
  rw [if_pos hn]

/-- A prepared weight of any other column. -/
theorem prepared_other {n : Fin 11272} (hn : ¬ Query n.val) (g : Vec Ideal S2x4096 .f32) (w : Vec Ideal S2x4096x11272 .f32) (l : Fin 2) (k : Fin 4096) :
    w (ix3 l k n) * g (ix2 l k) = prepared g w l k n := by
  unfold prepared factor
  rw [if_neg hn, mul_one]

/-- One channel of a token: the normalised row, its gains, and a column of the weights. -/
def column (h : Vec Ideal S8x2048x4096 .f32) (g : Vec Ideal S2x4096 .f32) (w : Vec Ideal S2x4096x11272 .f32) (b : Fin 8) (s : Fin 2048)
    (n : Fin 11272) : EReal :=
  ∑ k : Fin 4096, h (ix3 b s k) * rowScale (∑ k : Fin 4096, h (ix3 b s k) * h (ix3 b s k)) * g (ix2 0 k) * w (ix3 0 k n)

/-- The product with the prepared weights, scaled by the row, is the channel times its column's factor. -/
theorem product_prepared (h : Vec Ideal S8x2048x4096 .f32) (g : Vec Ideal S2x4096 .f32) (w : Vec Ideal S2x4096x11272 .f32) (b : Fin 8)
    (s : Fin 2048) (n : Fin 11272) :
    (∑ k : Fin 4096, h (ix3 b s k) * prepared g w 0 k n) * rowScale (∑ k : Fin 4096, h (ix3 b s k) * h (ix3 b s k)) =
      column h g w b s n * factor n.val := by
  unfold column prepared
  rw [← folded (fun k => h (ix3 b s k)) (fun k => g (ix2 0 k)) fun k => w (ix3 0 k n), mul_right_comm, pull _ _ (factor_fin n.val)]
  exact congrArg (· * _) (Finset.sum_congr rfl fun k _ => (mul_assoc _ _ _).symm)

variable (h : Vec Ideal S8x2048x4096 .f32) (g : Vec Ideal S2x4096 .f32) (w : Vec Ideal S2x4096x11272 .f32)

/-- What the linear recurrence reads. -/
def lru : FVec Ideal S16384x2048 .f32 := fun i =>
  have h0 : (i 0).val < 16384 := (i 0).isLt
  have h1 : (i 1).val < 2048 := (i 1).isLt
  column h g w (bat (i 0).val h0) (tok (i 0).val) ⟨(i 1).val, by omega⟩ * factor (i 1).val

/-- What the forgetting attention reads: queries, keys and values. -/
def fox : FVec Ideal S16384x3072 .bf16 := fun i =>
  have h0 : (i 0).val < 16384 := (i 0).isLt
  have h1 : (i 1).val < 3072 := (i 1).isLt
  column h g w (bat (i 0).val h0) (tok (i 0).val) ⟨2048 + (i 1).val, by omega⟩ * factor (2048 + (i 1).val)

/-- What the dilated attention reads: queries, keys and values. -/
def dil : FVec Ideal S16384x6144 .bf16 := fun i =>
  have h0 : (i 0).val < 16384 := (i 0).isLt
  have h1 : (i 1).val < 6144 := (i 1).isLt
  column h g w (bat (i 0).val h0) (tok (i 0).val) ⟨5128 + (i 1).val, by omega⟩ * factor (5128 + (i 1).val)

end Cert.Mix

end
-- ==== Proof.MixWhole.lean ====
/- The arrays that the three products opening a mixer leave. -/
module

public import proofs.«01_k».proof.Proof.MixSpec
public import Idealize.ShloMosaic.Lib.Pipeline.ValueKit.Point
public import Idealize.ShloMosaic.Lib.StableHlo.Run

@[expose] public section

set_option maxRecDepth 16384

noncomputable section

namespace Cert.Mix

open Cert.Flat Cert.FfnIn Cert.Lru Cert.Kernel4Ideal Cert.Kernel4Ideal.Gen Idealize.ShloMosaic Idealize.ShloMosaic.TcCoe Idealize.SL.Sem Idealize.ShloMosaic.StableHlo

/-- The corner of a matrix. -/
theorem corner : (![0, 0] : Fin 2 → Nat) = fun _ => 0 := by decide

/-- The corner of a stack of matrices. -/
theorem corner3 : (![0, 0, 0] : Fin 3 → Nat) = fun _ => 0 := by decide

section Points

variable (x0 : Vec Ideal S1024x4096 .bf16) (x1 : Vec Ideal S4x1024x128 .f32) (x2 : Vec Ideal S1x4096x1024 .bf16) (r : Fin 1024) (n : Fin 1024)

/-- What one point of call 0 stores: its rows times its columns, scaled by the row. -/
theorem stored0 : (out0_3 x0 x1 x2 : FVec Ideal S1024x1024 .f32) (ix2 r n) =
    (∑ k : Fin 4096, x0 (ix2 r k) * x2 (ix3 0 k n)) * rowScale (∑ l : Fin 128, ∑ p : Fin 4, x1 (ix3 p r l)) := by
  unfold out0_3 rowScale
  rw [View.canon_unit_zero corner, View.ld_unit_zero (S := S1024x4096) corner, View.ld_unit_zero (S := S4x1024x128) corner3, View.ld_unit_zero (S := S1x4096x1024) corner3]
  pointwise [k0_pay1]

/-- What one point of call 1 stores: its rows times its columns, scaled by the row. -/
theorem stored1 : (out1_3 x0 x1 x2 : FVec Ideal S1024x1024 .bf16) (ix2 r n) =
    (∑ k : Fin 4096, x0 (ix2 r k) * x2 (ix3 0 k n)) * rowScale (∑ l : Fin 128, ∑ p : Fin 4, x1 (ix3 p r l)) := by
  unfold out1_3 rowScale
  rw [View.canon_unit_zero corner, View.ld_unit_zero (S := S1024x4096) corner, View.ld_unit_zero (S := S4x1024x128) corner3, View.ld_unit_zero (S := S1x4096x1024) corner3]
  pointwise [k1_pay1]

/-- What one point of call 2 stores: its rows times its columns, scaled by the row. -/
theorem stored2 : (out2_3 x0 x1 x2 : FVec Ideal S1024x1024 .bf16) (ix2 r n) =
    (∑ k : Fin 4096, x0 (ix2 r k) * x2 (ix3 0 k n)) * rowScale (∑ l : Fin 128, ∑ p : Fin 4, x1 (ix3 p r l)) := by
  unfold out2_3 rowScale
  rw [View.canon_unit_zero corner, View.ld_unit_zero (S := S1024x4096) corner, View.ld_unit_zero (S := S4x1024x128) corner3, View.ld_unit_zero (S := S1x4096x1024) corner3]
  pointwise [k2_pay1]

end Points

/-- A point's scaled product, once its blocks are known as entries of the arguments. -/
theorem gather (x0 : Vec Ideal S1024x4096 .bf16) (x1 : Vec Ideal S4x1024x128 .f32) (x2 : Vec Ideal S1x4096x1024 .bf16) (r : Fin 1024) (n : Fin 1024)
    (h : Vec Ideal S8x2048x4096 .f32) (g : Vec Ideal S2x4096 .f32) (w : Vec Ideal S2x4096x11272 .f32) (b : Fin 8) (s : Fin 2048) (N : Fin 11272)
    (h0 : ∀ k, x0 (ix2 r k) = h (ix3 b s k))
    (h1 : ∀ p l, x1 (ix3 p r l) = ∑ j : Fin 8, (fun z : EReal => z * z) (h (ix3 b s ⟨p.val * 1024 + j.val * 128 + l.val, by omega⟩)))
    (h2 : ∀ k, x2 (ix3 0 k n) = prepared g w 0 k N) :
    (∑ k : Fin 4096, x0 (ix2 r k) * x2 (ix3 0 k n)) * rowScale (∑ l : Fin 128, ∑ p : Fin 4, x1 (ix3 p r l)) = column h g w b s N * factor N.val := by
  rw [← product_prepared]
  simp only [h0, h1, h2]
  rw [lanes4 fun k => (fun z : EReal => z * z) (h (ix3 b s k))]

section Blocks

variable (V : (c : Dev nD) → (b : Ref sig .tc) → Buf (Elt Ideal) ((c : Thread nD τ).loc b)) (c : Dev nD)

/-- Where the windows of call 0 stand at point `t`: the column blocks run innermost. -/
theorem idx0 (t : Fin cfg0.N) : (win0_0.index t 0 = t.val / 2 ∧ win0_0.index t 1 = 0) ∧
    (win0_1.index t 0 = 0 ∧ win0_1.index t 1 = t.val / 2 ∧ win0_1.index t 2 = 0) ∧
    (win0_2.index t 0 = 0 ∧ win0_2.index t 1 = 0 ∧ win0_2.index t 2 = t.val % 2) ∧
    (win0_3.index t 0 = t.val / 2 ∧ win0_3.index t 1 = t.val % 2) := by
  revert t; decide +kernel

/-- The block of rows of call 0. -/
theorem rows0 (t : Fin cfg0.N) (r : Fin 1024) (k : Fin 4096) : (iblk0 V c 0 t : FVec Ideal S1024x4096 .bf16) (ix2 r k) =
    (V c main_v1 : FVec Ideal S16384x4096 .bf16) (ix2 ⟨1024 * (t.val / 2) + r.val, by
      have := t.isLt; have e : cfg0.N = 32 := rfl; omega⟩ k) := by
  blk_simp [iblk0, idx0 t]
  blk_ext! [iblk0, idx0 t]

/-- Its block of partial sums of squares. -/
theorem sums0 (t : Fin cfg0.N) (p : Fin 4) (r : Fin 1024) (l : Fin 128) : (iblk0 V c 1 t : FVec Ideal S4x1024x128 .f32) (ix3 p r l) =
    (V c main_v5 : FVec Ideal S4x16384x128 .f32) (ix3 p ⟨1024 * (t.val / 2) + r.val, by
      have := t.isLt; have e : cfg0.N = 32 := rfl; omega⟩ l) := by
  blk_simp [iblk0, idx0 t]
  blk_ext! [iblk0, idx0 t]

/-- Its block of weights. -/
theorem cols0 (t : Fin cfg0.N) (k : Fin 4096) (n : Fin 1024) : (iblk0 V c 2 t : FVec Ideal S1x4096x1024 .bf16) (ix3 0 k n) =
    (V c main_v15 : FVec Ideal S2x4096x5120 .bf16) (ix3 0 k ⟨1024 * (t.val % 2) + n.val, by omega⟩) := by
  blk_simp [iblk0, idx0 t]
  blk_ext! [iblk0, idx0 t]

/-- Where the windows of call 1 stand at point `t`: the column blocks run innermost. -/
theorem idx1 (t : Fin cfg1.N) : (win1_0.index t 0 = t.val / 3 ∧ win1_0.index t 1 = 0) ∧
    (win1_1.index t 0 = 0 ∧ win1_1.index t 1 = t.val / 3 ∧ win1_1.index t 2 = 0) ∧
    (win1_2.index t 0 = 0 ∧ win1_2.index t 1 = 0 ∧ win1_2.index t 2 = t.val % 3 + 2) ∧
    (win1_3.index t 0 = t.val / 3 ∧ win1_3.index t 1 = t.val % 3) := by
  revert t; decide +kernel

/-- The block of rows of call 1. -/
theorem rows1 (t : Fin cfg1.N) (r : Fin 1024) (k : Fin 4096) : (iblk1 V c 0 t : FVec Ideal S1024x4096 .bf16) (ix2 r k) =
    (V c main_v1 : FVec Ideal S16384x4096 .bf16) (ix2 ⟨1024 * (t.val / 3) + r.val, by
      have := t.isLt; have e : cfg1.N = 48 := rfl; omega⟩ k) := by
  blk_simp [iblk1, idx1 t]
  blk_ext! [iblk1, idx1 t]

/-- Its block of partial sums of squares. -/
theorem sums1 (t : Fin cfg1.N) (p : Fin 4) (r : Fin 1024) (l : Fin 128) : (iblk1 V c 1 t : FVec Ideal S4x1024x128 .f32) (ix3 p r l) =
    (V c main_v5 : FVec Ideal S4x16384x128 .f32) (ix3 p ⟨1024 * (t.val / 3) + r.val, by
      have := t.isLt; have e : cfg1.N = 48 := rfl; omega⟩ l) := by
  blk_simp [iblk1, idx1 t]
  blk_ext! [iblk1, idx1 t]

/-- Its block of weights. -/
theorem cols1 (t : Fin cfg1.N) (k : Fin 4096) (n : Fin 1024) : (iblk1 V c 2 t : FVec Ideal S1x4096x1024 .bf16) (ix3 0 k n) =
    (V c main_v15 : FVec Ideal S2x4096x5120 .bf16) (ix3 0 k ⟨1024 * (t.val % 3 + 2) + n.val, by omega⟩) := by
  blk_simp [iblk1, idx1 t]
  blk_ext! [iblk1, idx1 t]

/-- Where the windows of call 2 stand at point `t`: the column blocks run innermost. -/
theorem idx2 (t : Fin cfg2.N) : (win2_0.index t 0 = t.val / 6 ∧ win2_0.index t 1 = 0) ∧
    (win2_1.index t 0 = 0 ∧ win2_1.index t 1 = t.val / 6 ∧ win2_1.index t 2 = 0) ∧
    (win2_2.index t 0 = 0 ∧ win2_2.index t 1 = 0 ∧ win2_2.index t 2 = t.val % 6) ∧
    (win2_3.index t 0 = t.val / 6 ∧ win2_3.index t 1 = t.val % 6) := by
  revert t; decide +kernel

/-- The block of rows of call 2. -/
theorem rows2 (t : Fin cfg2.N) (r : Fin 1024) (k : Fin 4096) : (iblk2 V c 0 t : FVec Ideal S1024x4096 .bf16) (ix2 r k) =
    (V c main_v1 : FVec Ideal S16384x4096 .bf16) (ix2 ⟨1024 * (t.val / 6) + r.val, by
      have := t.isLt; have e : cfg2.N = 96 := rfl; omega⟩ k) := by
  blk_simp [iblk2, idx2 t]
  blk_ext! [iblk2, idx2 t]

/-- Its block of partial sums of squares. -/
theorem sums2 (t : Fin cfg2.N) (p : Fin 4) (r : Fin 1024) (l : Fin 128) : (iblk2 V c 1 t : FVec Ideal S4x1024x128 .f32) (ix3 p r l) =
    (V c main_v5 : FVec Ideal S4x16384x128 .f32) (ix3 p ⟨1024 * (t.val / 6) + r.val, by
      have := t.isLt; have e : cfg2.N = 96 := rfl; omega⟩ l) := by
  blk_simp [iblk2, idx2 t]
  blk_ext! [iblk2, idx2 t]

/-- Its block of weights. -/
theorem cols2 (t : Fin cfg2.N) (k : Fin 4096) (n : Fin 1024) : (iblk2 V c 2 t : FVec Ideal S1x4096x1024 .bf16) (ix3 0 k n) =
    (V c main_v21 : FVec Ideal S2x4096x6144 .bf16) (ix3 0 k ⟨1024 * (t.val % 6) + n.val, by omega⟩) := by
  blk_simp [iblk2, idx2 t]
  blk_ext! [iblk2, idx2 t]

end Blocks

variable (m : (ℓ : Loc nD τ sig) → Buf (Elt Ideal) ℓ) (ρ : Dev nD → PrngReg) (c : Dev nD)

/-- The residual stream, as launched. -/
abbrev hK : Vec Ideal S8x2048x4096 .f32 := m ((c : Thread nD τ).loc main_arg0)

/-- The gains, as launched. -/
abbrev gK : Vec Ideal S2x4096 .f32 := m ((c : Thread nD τ).loc main_arg1)

/-- The weights, as launched. -/
abbrev wK : Vec Ideal S2x4096x11272 .f32 := m ((c : Thread nD τ).loc main_arg2)

/-- The rounded rows as the first call finds them: the tokens flattened. -/
theorem flat (n : Fin 16384) (k : Fin 4096) : (V1 m ρ c main_v1 : FVec Ideal S16384x4096 .bf16) (ix2 n k) =
    hK m c (ix3 (bat n.val n.isLt) (tok n.val) k) := by
  have e : V1 m ρ c main_v1 = (truncf .bf16 (shapeCast S16384x4096 (hK m c) shapeCasts_S8x2048x4096_S16384x4096 : FVec Ideal S16384x4096 .f32) bitsLt_bf16_f32 : FVec Ideal S16384x4096 .bf16) := by
    show StableHlo.after hostOps0 (W0 m ρ c) (Proc.devRef .tc main_v1) = _
    after_results
    rfl
  rw [e]
  pointwise

/-- The partial sums of squares as the first call finds them. -/
theorem sums (p : Fin 4) (n : Fin 16384) (l : Fin 128) : (V1 m ρ c main_v5 : FVec Ideal S4x16384x128 .f32) (ix3 p n l) =
    ∑ j : Fin 8, (fun z : EReal => z * z) (hK m c (ix3 (bat n.val n.isLt) (tok n.val) ⟨p.val * 1024 + j.val * 128 + l.val, by omega⟩)) := by
  have e : V1 m ρ c main_v5 = (transpose S4x16384x128 [1, 0, 2] (Host.reduceAdd (shapeCast S16384x4x8x128
      (mulf (shapeCast S16384x4096 (hK m c) shapeCasts_S8x2048x4096_S16384x4096) (shapeCast S16384x4096 (hK m c) shapeCasts_S8x2048x4096_S16384x4096))
      shapeCasts_S16384x4096_S16384x4x8x128) (constant S_ .f32 0x00000000#32) reducesTo_S16384x4x8x128_S16384x4x128_d2 h_S_) transposes_S16384x4x128_S4x16384x128_1_0_2 : FVec Ideal S4x16384x128 .f32) := by
    show StableHlo.after hostOps0 (W0 m ρ c) (Proc.devRef .tc main_v5) = _
    after_results
    rfl
  rw [e]
  pointwise

/-- The weights with their gains. -/
def gained (g : Vec Ideal S2x4096 .f32) (w : Vec Ideal S2x4096x11272 .f32) : FVec Ideal S2x4096x11272 .f32 :=
  mulf w (broadcastInDim S2x4096x11272 ![0, 1, 2] bcast_S2x4096x1_S2x4096x11272_0_1_2 (broadcastInDim S2x4096x1 ![0, 1] bcast_S2x4096_S2x4096x1_0_1 g))

/-- One of their entries. -/
theorem gained_apply (g : Vec Ideal S2x4096 .f32) (w : Vec Ideal S2x4096x11272 .f32) (l : Fin 2) (k : Fin 4096) (n : Fin 11272) :
    gained g w (ix3 l k n) = w (ix3 l k n) * g (ix2 l k) := by
  unfold gained
  pointwise

/-- The prepared weights of the linear recurrence and of the forgetting attention, from the weights with their gains. -/
theorem head_apply (G : FVec Ideal S2x4096x11272 .f32) (g : Vec Ideal S2x4096 .f32) (w : Vec Ideal S2x4096x11272 .f32)
    (hG : ∀ l k n, G (ix3 l k n) = w (ix3 l k n) * g (ix2 l k)) (l : Fin 2) (k : Fin 4096) (n : Fin 5120) :
    (truncf .bf16 (concatenate S2x4096x5120 2 [⟨S2x4096x2048, extractStridedSlice S2x4096x2048 ![0, 0, 0] G slices_S2x4096x11272_S2x4096x2048_0_0_0⟩,
      ⟨S2x4096x1024, mulf (extractStridedSlice S2x4096x1024 ![0, 0, 2048] G slices_S2x4096x11272_S2x4096x1024_0_0_2048) (broadcastInDim S2x4096x1024 ![] bcast_S_S2x4096x1024 (constant S_ .f32 0x3E0293EE#32))⟩,
      ⟨S2x4096x2048, extractStridedSlice S2x4096x2048 ![0, 0, 3072] G slices_S2x4096x11272_S2x4096x2048_0_0_3072⟩] concatenates_S2x4096x2048_S2x4096x1024_S2x4096x2048_S2x4096x5120_d2) bitsLt_bf16_f32 : FVec Ideal S2x4096x5120 .bf16) (ix3 l k n) =
      prepared g w l k ⟨n.val, by omega⟩ := by
  pointwise
  simp only [hG]
  by_cases h1 : n.val < 2048
  · rw [dif_pos h1]
    exact prepared_other (by simp only [Query]; omega) g w l k
  · rw [dif_neg h1]
    by_cases h2 : n.val - 2048 < 1024
    · rw [dif_pos h2]
      exact (congrArg (fun z => w (ix3 l k z) * g (ix2 l k) * f32 0x3E0293EE#32) (Fin.ext (by show 2048 + (n.val - 2048) = n.val; omega))).trans
        (prepared_query (by simp only [Query]; omega) g w l k)
    · rw [dif_neg h2]
      exact (congrArg (fun z => w (ix3 l k z) * g (ix2 l k)) (Fin.ext (by show 3072 + (n.val - 2048 - 1024) = n.val; omega))).trans
        (prepared_other (by simp only [Query]; omega) g w l k)

/-- The prepared weights of the dilated attention, likewise. -/
theorem tail_apply (G : FVec Ideal S2x4096x11272 .f32) (g : Vec Ideal S2x4096 .f32) (w : Vec Ideal S2x4096x11272 .f32)
    (hG : ∀ l k n, G (ix3 l k n) = w (ix3 l k n) * g (ix2 l k)) (l : Fin 2) (k : Fin 4096) (n : Fin 6144) :
    (truncf .bf16 (concatenate S2x4096x6144 2 [⟨S2x4096x2048, mulf (extractStridedSlice S2x4096x2048 ![0, 0, 5128] G slices_S2x4096x11272_S2x4096x2048_0_0_5128) (broadcastInDim S2x4096x2048 ![] bcast_S_S2x4096x2048 (constant S_ .f32 0x3E0293EE#32))⟩,
      ⟨S2x4096x4096, extractStridedSlice S2x4096x4096 ![0, 0, 7176] G slices_S2x4096x11272_S2x4096x4096_0_0_7176⟩] concatenates_S2x4096x2048_S2x4096x4096_S2x4096x6144_d2) bitsLt_bf16_f32 : FVec Ideal S2x4096x6144 .bf16) (ix3 l k n) =
      prepared g w l k ⟨5128 + n.val, by omega⟩ := by
  pointwise
  simp only [hG]
  by_cases h1 : n.val < 2048
  · rw [dif_pos h1]
    exact prepared_query (by simp only [Query]; omega) g w l k
  · rw [dif_neg h1]
    exact (congrArg (fun z => w (ix3 l k z) * g (ix2 l k)) (Fin.ext (by show 7176 + (n.val - 2048) = 5128 + n.val; omega))).trans
      (prepared_other (by simp only [Query]; omega) g w l k)

/-- The first layer's prepared weights as the first two calls find them. -/
theorem head (k : Fin 4096) (n : Fin 5120) : (V1 m ρ c main_v15 : FVec Ideal S2x4096x5120 .bf16) (ix3 0 k n) =
    prepared (gK m c) (wK m c) 0 k ⟨n.val, by omega⟩ := by
  refine Eq.trans (congrFun ?_ _) (head_apply (gained (gK m c) (wK m c)) (gK m c) (wK m c) (gained_apply _ _) 0 k n)
  show StableHlo.after hostOps0 (W0 m ρ c) (Proc.devRef .tc main_v15) = _
  after_results
  rfl

/-- The first layer's prepared weights as the third call finds them. -/
theorem tail (k : Fin 4096) (n : Fin 6144) : (V1 m ρ c main_v21 : FVec Ideal S2x4096x6144 .bf16) (ix3 0 k n) =
    prepared (gK m c) (wK m c) 0 k ⟨5128 + n.val, by omega⟩ := by
  refine Eq.trans (congrFun ?_ _) (tail_apply (gained (gK m c) (wK m c)) (gK m c) (wK m c) (gained_apply _ _) 0 k n)
  show StableHlo.after hostOps0 (W0 m ρ c) (Proc.devRef .tc main_v21) = _
  after_results
  rfl

/-- The block that point `t` of call 0 leaves. -/
theorem block0 (t : Fin cfg0.N) (r : Fin 1024) (n : Fin 1024) : (out0_3 (iblk0 (V1 m ρ) c 0 t) (iblk0 (V1 m ρ) c 1 t) (iblk0 (V1 m ρ) c 2 t) : FVec Ideal S1024x1024 .f32) (ix2 r n) =
    lru (hK m c) (gK m c) (wK m c) (ix2 ⟨1024 * (t.val / 2) + r.val, by
      have := t.isLt; have e : cfg0.N = 32 := rfl; omega⟩ ⟨1024 * (t.val % 2) + n.val, by omega⟩) := by
  have ht : t.val < 32 := t.isLt
  refine (stored0 _ _ _ r n).trans ((gather _ _ _ r n (hK m c) (gK m c) (wK m c) (bat (1024 * (t.val / 2) + r.val) (by omega)) (tok (1024 * (t.val / 2) + r.val))
    ⟨1024 * (t.val % 2) + n.val, by omega⟩ (fun k => (rows0 _ c t r k).trans (flat m ρ c _ k))
    (fun p l => (sums0 _ c t p r l).trans (sums m ρ c p _ l))
    (fun k => (cols0 _ c t k n).trans (head m ρ c k _))).trans ?_)
  rfl

/-- The array that call 0 leaves: the columns of the linear recurrence. -/
theorem lruArr : ((dat0 (V1 m ρ) c).arrAt 3 cfg0.N : FVec Ideal S16384x2048 .f32) = lru (hK m c) (gK m c) (wK m c) := by
  refine (dat0 (V1 m ρ) c).arrAt_eq_of_covers 3 _ (by decide +kernel) fun t hf y => ?_
  blk_simp
  rw [after0_3]
  have h0 : (y 0).val < 1024 := (y 0).isLt
  have h1 : (y 1).val < 1024 := (y 1).isLt
  have e : y = ix2 ⟨(y 0).val, h0⟩ ⟨(y 1).val, h1⟩ := by
    funext a
    match a with
    | ⟨0, _⟩ => rfl
    | ⟨1, _⟩ => rfl
  rw [e]
  refine (block0 m ρ c t _ _).trans ?_
  congr 1
  funext a
  apply Fin.ext
  match a with
  | ⟨0, _⟩ =>
    refine Eq.symm ((win0_3.rect_emb_val t _ 0).trans ?_)
    rw [(idx0 t).2.2.2.1]
    exact congrArg (· + _) (Nat.mul_comm _ _)
  | ⟨1, _⟩ =>
    refine Eq.symm ((win0_3.rect_emb_val t _ 1).trans ?_)
    rw [(idx0 t).2.2.2.2]
    exact congrArg (· + _) (Nat.mul_comm _ _)

/-- The block that point `t` of call 1 leaves. -/
theorem block1 (t : Fin cfg1.N) (r : Fin 1024) (n : Fin 1024) : (out1_3 (iblk1 (V2 m ρ) c 0 t) (iblk1 (V2 m ρ) c 1 t) (iblk1 (V2 m ρ) c 2 t) : FVec Ideal S1024x1024 .bf16) (ix2 r n) =
    fox (hK m c) (gK m c) (wK m c) (ix2 ⟨1024 * (t.val / 3) + r.val, by
      have := t.isLt; have e : cfg1.N = 48 := rfl; omega⟩ ⟨1024 * (t.val % 3) + n.val, by omega⟩) := by
  have ht : t.val < 48 := t.isLt
  refine (stored1 _ _ _ r n).trans ((gather _ _ _ r n (hK m c) (gK m c) (wK m c) (bat (1024 * (t.val / 3) + r.val) (by omega)) (tok (1024 * (t.val / 3) + r.val))
    ⟨1024 * (t.val % 3 + 2) + n.val, by omega⟩ (fun k => (rows1 _ c t r k).trans ((congrFun (W2_of m ρ c main_v1 (by decide)) _).trans (flat m ρ c _ k)))
    (fun p l => (sums1 _ c t p r l).trans ((congrFun (W2_of m ρ c main_v5 (by decide)) _).trans (sums m ρ c p _ l)))
    (fun k => (cols1 _ c t k n).trans ((congrFun (W2_of m ρ c main_v15 (by decide)) _).trans (head m ρ c k _)))).trans ?_)
  have e : 1024 * (t.val % 3 + 2) + n.val = 2048 + (1024 * (t.val % 3) + n.val) := by omega
  simp only [e]
  rfl

/-- The array that call 1 leaves: the columns of the forgetting attention. -/
theorem foxArr : ((dat1 (V2 m ρ) c).arrAt 3 cfg1.N : FVec Ideal S16384x3072 .bf16) = fox (hK m c) (gK m c) (wK m c) := by
  refine (dat1 (V2 m ρ) c).arrAt_eq_of_covers 3 _ (by decide +kernel) fun t hf y => ?_
  blk_simp
  rw [after1_3]
  have h0 : (y 0).val < 1024 := (y 0).isLt
  have h1 : (y 1).val < 1024 := (y 1).isLt
  have e : y = ix2 ⟨(y 0).val, h0⟩ ⟨(y 1).val, h1⟩ := by
    funext a
    match a with
    | ⟨0, _⟩ => rfl
    | ⟨1, _⟩ => rfl
  rw [e]
  refine (block1 m ρ c t _ _).trans ?_
  congr 1
  funext a
  apply Fin.ext
  match a with
  | ⟨0, _⟩ =>
    refine Eq.symm ((win1_3.rect_emb_val t _ 0).trans ?_)
    rw [(idx1 t).2.2.2.1]
    exact congrArg (· + _) (Nat.mul_comm _ _)
  | ⟨1, _⟩ =>
    refine Eq.symm ((win1_3.rect_emb_val t _ 1).trans ?_)
    rw [(idx1 t).2.2.2.2]
    exact congrArg (· + _) (Nat.mul_comm _ _)

/-- The block that point `t` of call 2 leaves. -/
theorem block2 (t : Fin cfg2.N) (r : Fin 1024) (n : Fin 1024) : (out2_3 (iblk2 (V3 m ρ) c 0 t) (iblk2 (V3 m ρ) c 1 t) (iblk2 (V3 m ρ) c 2 t) : FVec Ideal S1024x1024 .bf16) (ix2 r n) =
    dil (hK m c) (gK m c) (wK m c) (ix2 ⟨1024 * (t.val / 6) + r.val, by
      have := t.isLt; have e : cfg2.N = 96 := rfl; omega⟩ ⟨1024 * (t.val % 6) + n.val, by omega⟩) := by
  have ht : t.val < 96 := t.isLt
  refine (stored2 _ _ _ r n).trans ((gather _ _ _ r n (hK m c) (gK m c) (wK m c) (bat (1024 * (t.val / 6) + r.val) (by omega)) (tok (1024 * (t.val / 6) + r.val))
    ⟨5128 + (1024 * (t.val % 6) + n.val), by omega⟩ (fun k => (rows2 _ c t r k).trans ((congrFun ((W3_of m ρ c main_v1 (by decide)).trans (W2_of m ρ c main_v1 (by decide))) _).trans (flat m ρ c _ k)))
    (fun p l => (sums2 _ c t p r l).trans ((congrFun ((W3_of m ρ c main_v5 (by decide)).trans (W2_of m ρ c main_v5 (by decide))) _).trans (sums m ρ c p _ l)))
    (fun k => (cols2 _ c t k n).trans ((congrFun ((W3_of m ρ c main_v21 (by decide)).trans (W2_of m ρ c main_v21 (by decide))) _).trans (tail m ρ c k _)))).trans ?_)
  rfl

/-- The array that call 2 leaves: the columns of the dilated attention. -/
theorem dilArr : ((dat2 (V3 m ρ) c).arrAt 3 cfg2.N : FVec Ideal S16384x6144 .bf16) = dil (hK m c) (gK m c) (wK m c) := by
  refine (dat2 (V3 m ρ) c).arrAt_eq_of_covers 3 _ (by decide +kernel) fun t hf y => ?_
  blk_simp
  rw [after2_3]
  have h0 : (y 0).val < 1024 := (y 0).isLt
  have h1 : (y 1).val < 1024 := (y 1).isLt
  have e : y = ix2 ⟨(y 0).val, h0⟩ ⟨(y 1).val, h1⟩ := by
    funext a
    match a with
    | ⟨0, _⟩ => rfl
    | ⟨1, _⟩ => rfl
  rw [e]
  refine (block2 m ρ c t _ _).trans ?_
  congr 1
  funext a
  apply Fin.ext
  match a with
  | ⟨0, _⟩ =>
    refine Eq.symm ((win2_3.rect_emb_val t _ 0).trans ?_)
    rw [(idx2 t).2.2.2.1]
    exact congrArg (· + _) (Nat.mul_comm _ _)
  | ⟨1, _⟩ =>
    refine Eq.symm ((win2_3.rect_emb_val t _ 1).trans ?_)
    rw [(idx2 t).2.2.2.2]
    exact congrArg (· + _) (Nat.mul_comm _ _)

end Cert.Mix

end
-- ==== Proof.MixRun.lean ====
/- The launch of the three products that open a mixer, with what it leaves in the three result arrays. -/
module

public import proofs.«01_k».proof.Proof.Gen.Kernel4Ideal.Frame

@[expose] public section

set_option maxRecDepth 16384

noncomputable section

namespace Cert.Mix

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each result array at what its call's grid points wrote, and the arguments as launched. -/
theorem run : θ_run defs (onTc (τ := τ) (main (F := F))) ⟨m, fun _ => 0, ρ⟩ (fun r => ∀ c : Dev nD,
      r.2.mem ((c.tc : Thread nD τ).loc main_v22) = (dat0 (V1 m ρ) c).arrAt 3 cfg0.N
      ∧ r.2.mem ((c.tc : Thread nD τ).loc main_v23) = (dat1 (V2 m ρ) c).arrAt 3 cfg1.N
      ∧ r.2.mem ((c.tc : Thread nD τ).loc main_v24) = (dat2 (V3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v22 (by decide))).trans (((W4_of m ρ c main_v22 (by decide)).trans (W3_of m ρ c main_v22 (by decide))).trans (W2_arr m ρ c 3)),
       (h c _ (mem_uc main_v23 (by decide))).trans ((W4_of m ρ c main_v23 (by decide)).trans (W3_arr m ρ c 3)),
       (h c _ (mem_uc main_v24 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Mix

end
-- ==== Proof.MixRef.lean ====
/- The reference of the products that open a mixer, and the equality of the two programs' results. -/
module

public import proofs.«01_k».proof.Proof.MixWhole
public import proofs.«01_k».proof.Proof.MixRun
public import proofs.«01_k».proof.Proof.Gen.Reference4Ideal.Run
public import proofs.«01_k».proof.Defs
public import Idealize.ShloMosaic.Lib.Quiescent

@[expose] public section

set_option maxRecDepth 16384

noncomputable section

namespace Cert.Mix

open Cert.FfnIn Cert.Lru Cert.Flat Idealize.ShloMosaic Idealize.ShloMosaic.TcCoe Idealize.SL.Sem

namespace Ref

open Cert.Reference4Ideal Cert.Reference4Ideal.Gen

variable (h : Vec Ideal S8x2048x4096 .f32) (g : Vec Ideal S2x4096 .f32) (w : Vec Ideal S2x4096x11272 .f32)

/-- The reference's product: the normalised rows times the weights. -/
def product : FVec Ideal S8x2048x11272 .f32 :=
  (Host.dotGeneral (φ₁ := .f32) (φ₂ := .f32) dot_S8x2048x4096_S4096x11272_S8x2048x11272_2_0_01_1_n_n none (mulf (mulf h (broadcastInDim S8x2048x4096 ![0, 1, 2] bcast_S8x2048x1_S8x2048x4096_0_1_2 (Host.rsqrt (addf (Host.divf (broadcastInDim S8x2048x1 ![0, 1] bcast_S8x2048_S8x2048x1_0_1 (Host.reduceAdd (mulf h h) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))))) (broadcastInDim S8x2048x4096 ![0, 1, 2] bcast_S1x1x4096_S8x2048x4096_0_1_2 (broadcastInDim S1x1x4096 ![2] bcast_S4096_S1x1x4096_2 (shapeCast S4096 (extractStridedSlice S1x4096 ![0, 0] g slices_S2x4096_S1x4096_0_0) shapeCasts_S1x4096_S4096)))) (shapeCast S4096x11272 (extractStridedSlice S1x4096x11272 ![0, 0, 0] w slices_S2x4096x11272_S1x4096x11272_0_0_0) shapeCasts_S1x4096x11272_S4096x11272))

/-- One of its entries. -/
theorem product_apply (b : Fin 8) (s : Fin 2048) (n : Fin 11272) : product h g w (ix3 b s n) = column h g w b s n := by
  unfold column product
  simp only [rowScale_eq]
  pointwise

/-- A channel times the factor of a query column. -/
theorem times_query {n : ℕ} (hn : Query n) (x : EReal) : x * f32 0x3E0293EE#32 = x * factor n := by
  unfold factor
  rw [if_pos hn]

/-- A channel of any other column. -/
theorem times_other {n : ℕ} (hn : ¬ Query n) (x : EReal) : x = x * factor n := by
  unfold factor
  rw [if_neg hn, mul_one]

section Results

variable (G : FVec Ideal S8x2048x11272 .f32) (hG : ∀ b s n, G (ix3 b s n) = column h g w b s n)
include hG

/-- The reference's columns for the linear recurrence, from its product. -/
theorem lru_ref : (extractStridedSlice S16384x2048 ![0, 0] (shapeCast S16384x11272 G shapeCasts_S8x2048x11272_S16384x11272) slices_S16384x11272_S16384x2048_0_0 : FVec Ideal S16384x2048 .f32) = lru h g w := by
  funext i
  idx_vars i
  pointwise
  simp only [hG]
  exact times_other (n := i1.val) (by have := i1.isLt; simp only [Query]; omega) _

/-- Its columns for the forgetting attention. -/
theorem fox_ref : (truncf .bf16 (concatenate S16384x3072 1 [⟨S16384x1024, (mulf (extractStridedSlice S16384x1024 ![0, 0] (extractStridedSlice S16384x3072 ![0, 2048] (shapeCast S16384x11272 G shapeCasts_S8x2048x11272_S16384x11272) slices_S16384x11272_S16384x3072_0_2048) slices_S16384x3072_S16384x1024_0_0) (broadcastInDim S16384x1024 ![] bcast_S_S16384x1024 (constant S_ .f32 0x3E0293EE#32)))⟩, ⟨S16384x2048, (extractStridedSlice S16384x2048 ![0, 1024] (extractStridedSlice S16384x3072 ![0, 2048] (shapeCast S16384x11272 G shapeCasts_S8x2048x11272_S16384x11272) slices_S16384x11272_S16384x3072_0_2048) slices_S16384x3072_S16384x2048_0_1024)⟩] concatenates_S16384x1024_S16384x2048_S16384x3072_d1) bitsLt_bf16_f32 : FVec Ideal S16384x3072 .bf16) = fox h g w := by
  funext i
  idx_vars i
  pointwise
  simp only [hG]
  by_cases h1 : i1.val < 1024
  · rw [dif_pos h1]
    exact times_query (n := 2048 + i1.val) (by simp only [Query]; omega) _
  · rw [dif_neg h1]
    exact (congrArg (column h g w _ _) (Fin.ext (by show 2048 + (1024 + (i1.val - 1024)) = 2048 + i1.val; omega))).trans
      (times_other (n := 2048 + i1.val) (by simp only [Query]; omega) _)

/-- Its columns for the dilated attention. -/
theorem dil_ref : (truncf .bf16 (concatenate S16384x6144 1 [⟨S16384x2048, (mulf (extractStridedSlice S16384x2048 ![0, 0] (extractStridedSlice S16384x6144 ![0, 5128] (shapeCast S16384x11272 G shapeCasts_S8x2048x11272_S16384x11272) slices_S16384x11272_S16384x6144_0_5128) slices_S16384x6144_S16384x2048_0_0) (broadcastInDim S16384x2048 ![] bcast_S_S16384x2048 (constant S_ .f32 0x3E0293EE#32)))⟩, ⟨S16384x4096, (extractStridedSlice S16384x4096 ![0, 2048] (extractStridedSlice S16384x6144 ![0, 5128] (shapeCast S16384x11272 G shapeCasts_S8x2048x11272_S16384x11272) slices_S16384x11272_S16384x6144_0_5128) slices_S16384x6144_S16384x4096_0_2048)⟩] concatenates_S16384x2048_S16384x4096_S16384x6144_d1) bitsLt_bf16_f32 : FVec Ideal S16384x6144 .bf16) = dil h g w := by
  funext i
  idx_vars i
  pointwise
  simp only [hG]
  by_cases h1 : i1.val < 2048
  · rw [dif_pos h1]
    exact times_query (n := 5128 + i1.val) (by simp only [Query]; omega) _
  · rw [dif_neg h1]
    exact (congrArg (column h g w _ _) (Fin.ext (by show 5128 + (2048 + (i1.val - 2048)) = 5128 + i1.val; omega))).trans
      (times_other (n := 5128 + i1.val) (by simp only [Query]; omega) _)

end Results

end Ref

/-- The reference runs, its arguments end unchanged and it leaves no semaphore raised: it has none. -/
theorem frame_reference : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run m ρ)

/-- The three calls' results and the reference's are the same arrays. -/
theorem values_equal : Cert.algebraic_Kernel4Ideal_Reference4Ideal := by
  intro m g m' g' _ hagree
  refine ⟨fun c => lru (hK m c) (gK m c) (wK m c), fun c => fox (hK m c) (gK m c) (wK m c), fun c => dil (hK m c) (gK m c) (wK m c), ?_, ?_⟩
  · exact (θ_run Cert.Kernel4Ideal.defs _ _).mono
      (fun r h c => ⟨(h c).1.trans (lruArr m g c), (h c).2.1.trans (foxArr m g c), (h c).2.2.1.trans (dilArr m g c), (h c).2.2.2⟩) (run m g)
  · refine (θ_run Cert.Reference4Ideal.defs _ _).mono (fun r h c => ⟨(h c).1.trans ?_, (h c).2.1.trans ?_, (h c).2.2.1.trans ?_, (h c).2.2.2⟩)
      (Cert.Reference4Ideal.Value.run m' g')
    · obtain ⟨e0, e1, e2⟩ := hagree c
      refine (Ref.lru_ref _ _ _ (Ref.product _ _ _) (Ref.product_apply _ _ _)).trans ?_
      rw [e0, e1, e2]
    · obtain ⟨e0, e1, e2⟩ := hagree c
      refine (Ref.fox_ref _ _ _ (Ref.product _ _ _) (Ref.product_apply _ _ _)).trans ?_
      rw [e0, e1, e2]
    · obtain ⟨e0, e1, e2⟩ := hagree c
      refine (Ref.dil_ref _ _ _ (Ref.product _ _ _) (Ref.product_apply _ _ _)).trans ?_
      rw [e0, e1, e2]

end Cert.Mix

end
-- ==== Proof.Prep.lean ====
/- The preparation of a mixer's weights, transposed, with their gains and the queries' scale: what the calls' grid points
   store, the arrays they leave, the references, and the equalities. -/
module

public import proofs.«01_k».proof.Proof.MixWhole
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Defs
public import Idealize.ShloMosaic.Lib.Quiescent

@[expose] public section

set_option maxRecDepth 16384

noncomputable section

namespace Cert.Mix

open Cert.Lru Idealize.ShloMosaic Idealize.ShloMosaic.TcCoe Idealize.SL.Sem Idealize.ShloMosaic.StableHlo

/-- The word of one. -/
theorem word_one : f32 0x3F800000#32 = 1 := by
  rw [← EReal.coe_one]
  simp [f32, Ideal.ofBits, Ideal.ieee]
  norm_cast
  norm_num

/-- The queries' scale or one, by a bit. -/
def pick (b : BitVec 1) : EReal := if b = 1#1 then f32 0x3E0293EE#32 else f32 0x3F800000#32

/-! ## The weights of the linear recurrence and the forgetting attention -/

namespace Head

section Kernel

open Cert.Kernel5Ideal Cert.Kernel5Ideal.Gen

/-- Whether a grid point's columns are queries, as the kernel computes it. -/
def bit (i : grid0.Coords) : BitVec 1 :=
  Scalar.andi (Scalar.cmpi .sge (BitVec.ofNat 32 (i 1).val) 8#32) (Scalar.cmpi .slt (BitVec.ofNat 32 (i 1).val) 12#32)

/-- What one point stores: its weights transposed, each times its gain and the point's scale. -/
theorem stored (i : grid0.Coords) (x0 : Vec Ideal S256x4096 .f32) (x1 : Vec Ideal S1x1x4096 .f32) (k : Fin 4096) (n : Fin 256) :
    (out0_2 i x0 x1 : FVec Ideal S1x4096x256 .bf16) (ix3 0 k n) = x0 (ix2 n k) * (x1 (ix3 0 0 k) * pick (bit i)) := by
  unfold out0_2 pick bit
  rw [View.canon_unit_zero corner3, View.ld_unit_zero (S := S256x4096) corner, View.ld_unit_zero (S := S1x1x4096) corner3]
  pointwise [k0_pay1]
  rfl

/-- Where the windows stand at point `t`: the column blocks run innermost, the two layers outermost. -/
theorem idx (t : Fin cfg0.N) : (win0_0.index t 0 = 11272 * (t.val / 20) + (256 * (t.val % 20)) ∧ win0_0.index t 1 = 0) ∧
    (win0_1.index t 0 = t.val / 20 ∧ win0_1.index t 1 = 0 ∧ win0_1.index t 2 = 0) ∧
    (win0_2.index t 0 = t.val / 20 ∧ win0_2.index t 1 = 0 ∧ win0_2.index t 2 = t.val % 20) := by
  revert t; decide +kernel

/-- The bit at point `t`. -/
theorem bit_eq (t : Fin cfg0.N) : bit (grid0.coords t) = if 8 ≤ t.val % 20 ∧ t.val % 20 < 12 then 1#1 else 0#1 := by
  revert t; decide +kernel

/-- So a point's scale is the factor of each of its columns. -/
theorem pick_eq (t : Fin cfg0.N) (n : Fin 256) : pick (bit (grid0.coords t)) = factor ((256 * (t.val % 20) + n.val)) := by
  have ht : t.val < 40 := t.isLt
  rw [bit_eq]
  unfold pick factor
  by_cases h : 8 ≤ t.val % 20 ∧ t.val % 20 < 12
  · rw [if_pos h, if_pos rfl, if_pos (by simp only [Query]; omega)]
  · rw [if_neg h, if_neg (by decide), if_neg (by simp only [Query]; omega), word_one]

variable (m : (ℓ : Loc nD τ sig) → Buf (Elt Ideal) ℓ) (c : Dev nD)

/-- The gains, as launched. -/
abbrev gK : Vec Ideal S2x4096 .f32 := m ((c : Thread nD τ).loc main_arg0)

/-- The weights, as launched. -/
abbrev wK : Vec Ideal S2x4096x11272 .f32 := m ((c : Thread nD τ).loc main_arg1)

/-- The transposed weights of both layers, one under the other. -/
theorem stack (l : Fin 2) (n : Fin 11272) (k : Fin 4096) (R : Fin 22544) (hR : R.val = 11272 * l.val + n.val) :
    (V m c main_v1 : FVec Ideal S22544x4096 .f32) (ix2 R k) = wK m c (ix3 l k n) := by
  have e : V m c main_v1 = (shapeCast S22544x4096 (transpose S2x11272x4096 [0, 2, 1] (wK m c) transposes_S2x4096x11272_S2x11272x4096_0_2_1 : FVec Ideal S2x11272x4096 .f32) shapeCasts_S2x11272x4096_S22544x4096 : FVec Ideal S22544x4096 .f32) := by
    unfold V
    after_results
    rfl
  rw [e]
  pointwise
  have h1 : (⟨R.val / 11272, by omega⟩ : Fin 2) = l := Fin.ext (by show R.val / 11272 = l.val; omega)
  have h2 : (⟨R.val % 11272, by omega⟩ : Fin 11272) = n := Fin.ext (by show R.val % 11272 = n.val; omega)
  rw [h1, h2]

/-- The block of weights. -/
theorem blk0 (t : Fin cfg0.N) (n : Fin 256) (k : Fin 4096) : (iblk m c 0 t : FVec Ideal S256x4096 .f32) (ix2 n k) =
    (V m c main_v1 : FVec Ideal S22544x4096 .f32) (ix2 ⟨11272 * (t.val / 20) + ((256 * (t.val % 20) + n.val)), by
      have := t.isLt; have e : cfg0.N = 40 := rfl; omega⟩ k) := by
  unfold iblk
  generalize V m c = f
  blk_simp [idx t]
  blk_ext! [idx t]
  · refine (win0_0.rect_emb_val_off t (ix2 n k) 0).trans ?_
    rw [(idx t).1.1]
    show 11272 * (t.val / 20) + (256 * (t.val % 20)) + n.val = _
    omega
  · refine (win0_0.rect_emb_val_off t (ix2 n k) 1).trans ?_
    rw [(idx t).1.2]
    exact Nat.zero_add _

/-- The block of gains: one layer's. -/
theorem blk1 (t : Fin cfg0.N) (k : Fin 4096) : (iblk m c 1 t : FVec Ideal S1x1x4096 .f32) (ix3 0 0 k) =
    gK m c (ix2 ⟨t.val / 20, by have := t.isLt; have e : cfg0.N = 40 := rfl; omega⟩ k) := by
  blk_simp [iblk, V, idx t]
  entry_read
  pointwise
  blk_ext [iblk, V, idx t]

/-- The prepared weights of both layers. -/
def weights (g : Vec Ideal S2x4096 .f32) (w : Vec Ideal S2x4096x11272 .f32) : Vec Ideal S2x4096x5120 .bf16 := fun i =>
  have h2 : (i 2).val < 5120 := (i 2).isLt
  prepared g w ⟨(i 0).val, (i 0).isLt⟩ ⟨(i 1).val, (i 1).isLt⟩ ⟨(i 2).val, by omega⟩

/-- The array the call leaves. -/
theorem array : (dats m 0 c).arrAt 2 cfg0.N = weights (gK m c) (wK m c) := by
  refine (dats m 0 c).arrAt_eq_of_covers 2 _ (by decide +kernel) fun t hf y => ?_
  blk_simp
  rw [after0_2]
  have h0 : (y 0).val < 1 := (y 0).isLt
  have h1 : (y 1).val < 4096 := (y 1).isLt
  have h2 : (y 2).val < 256 := (y 2).isLt
  have e : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  rw [e]
  have ht : t.val < 40 := t.isLt
  have hi : ((win0_2.blk t).view.emb (ix3 0 ⟨(y 1).val, h1⟩ ⟨(y 2).val, h2⟩)) =
      ix3 (⟨t.val / 20, by omega⟩ : Fin 2) (⟨(y 1).val, h1⟩ : Fin 4096) (⟨256 * (t.val % 20) + (y 2).val, by omega⟩ : Fin 5120) := by
    funext a
    apply Fin.ext
    match a with
    | ⟨0, _⟩ =>
      refine (win0_2.rect_emb_val t _ 0).trans ?_
      rw [(idx t).2.2.1]
      exact Nat.mul_one _
    | ⟨1, _⟩ =>
      refine (win0_2.rect_emb_val t _ 1).trans ?_
      rw [(idx t).2.2.2.1]
      exact Nat.zero_add _
    | ⟨2, _⟩ =>
      refine (win0_2.rect_emb_val t _ 2).trans ?_
      rw [(idx t).2.2.2.2]
      exact congrArg (· + _) (Nat.mul_comm _ _)
  refine (stored _ _ _ _ _).trans ?_
  refine Eq.trans ?_ (congrArg (weights (gK m c) (wK m c)) hi).symm
  refine (congrArg₂ (fun a b : EReal => a * b) ((blk0 m c t _ _).trans (stack m c ⟨t.val / 20, by omega⟩ ⟨(256 * (t.val % 20) + (y 2).val), by omega⟩ _ _ rfl))
    (congrArg₂ (fun a b : EReal => a * b) (blk1 m c t _) (pick_eq t ⟨(y 2).val, h2⟩))).trans ?_
  exact (mul_assoc _ _ _).symm

end Kernel

/-- The reference runs, its arguments end unchanged and it leaves no semaphore raised: it has none. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The call's result and the reference's are the same array. -/
theorem values_equal : Cert.algebraic_Kernel5Ideal_Reference5Ideal := by
  intro m g m' g' _ hagree
  refine ⟨fun c => weights (gK m c) (wK m c), ?_, ?_⟩
  · exact (θ_run Cert.Kernel5Ideal.defs _ _).mono (fun r h c => ⟨(h c).1.trans (array m c), (h c).2⟩)
      (Cert.Kernel5Ideal.Value.run_blocks m g)
  · refine (θ_run Cert.Reference5Ideal.defs _ _).mono (fun r h c => ⟨(h c).1.trans ?_, (h c).2⟩)
      (Cert.Reference5Ideal.Value.run m' g')
    obtain ⟨e0, e1⟩ := hagree c
    refine Eq.trans (b := weights (gK m c) (wK m c)) ?_ rfl
    rw [e0, e1]
    funext i
    have e : i = ix3 (i 0) (i 1) (i 2) := by
      funext a
      match a with
      | ⟨0, _⟩ => rfl
      | ⟨1, _⟩ => rfl
      | ⟨2, _⟩ => rfl
    rw [e]
    exact head_apply (gained _ _) _ _ (gained_apply _ _) (i 0) (i 1) (i 2)

end Head

/-! ## The weights of the dilated attention -/

namespace Tail

section Kernel

open Cert.Kernel6Ideal Cert.Kernel6Ideal.Gen

/-- Whether a grid point's columns are queries, as the kernel computes it. -/
def bit (i : grid0.Coords) : BitVec 1 :=
  Scalar.andi (Scalar.cmpi .sge (BitVec.ofNat 32 (i 1).val) 0#32) (Scalar.cmpi .slt (BitVec.ofNat 32 (i 1).val) 8#32)

/-- What one point stores: its weights transposed, each times its gain and the point's scale. -/
theorem stored (i : grid0.Coords) (x0 : Vec Ideal S256x4096 .f32) (x1 : Vec Ideal S1x1x4096 .f32) (k : Fin 4096) (n : Fin 256) :
    (out0_2 i x0 x1 : FVec Ideal S1x4096x256 .bf16) (ix3 0 k n) = x0 (ix2 n k) * (x1 (ix3 0 0 k) * pick (bit i)) := by
  unfold out0_2 pick bit
  rw [View.canon_unit_zero corner3, View.ld_unit_zero (S := S256x4096) corner, View.ld_unit_zero (S := S1x1x4096) corner3]
  pointwise [k0_pay1]
  rfl

/-- Where the windows stand at point `t`: the column blocks run innermost, the two layers outermost. -/
theorem idx (t : Fin cfg0.N) : (win0_0.index t 0 = 11272 * (t.val / 24) + (5128 + 256 * (t.val % 24)) ∧ win0_0.index t 1 = 0) ∧
    (win0_1.index t 0 = t.val / 24 ∧ win0_1.index t 1 = 0 ∧ win0_1.index t 2 = 0) ∧
    (win0_2.index t 0 = t.val / 24 ∧ win0_2.index t 1 = 0 ∧ win0_2.index t 2 = t.val % 24) := by
  revert t; decide +kernel

/-- The bit at point `t`. -/
theorem bit_eq (t : Fin cfg0.N) : bit (grid0.coords t) = if 0 ≤ t.val % 24 ∧ t.val % 24 < 8 then 1#1 else 0#1 := by
  revert t; decide +kernel

/-- So a point's scale is the factor of each of its columns. -/
theorem pick_eq (t : Fin cfg0.N) (n : Fin 256) : pick (bit (grid0.coords t)) = factor (5128 + (256 * (t.val % 24) + n.val)) := by
  have ht : t.val < 48 := t.isLt
  rw [bit_eq]
  unfold pick factor
  by_cases h : 0 ≤ t.val % 24 ∧ t.val % 24 < 8
  · rw [if_pos h, if_pos rfl, if_pos (by simp only [Query]; omega)]
  · rw [if_neg h, if_neg (by decide), if_neg (by simp only [Query]; omega), word_one]

variable (m : (ℓ : Loc nD τ sig) → Buf (Elt Ideal) ℓ) (c : Dev nD)

/-- The gains, as launched. -/
abbrev gK : Vec Ideal S2x4096 .f32 := m ((c : Thread nD τ).loc main_arg0)

/-- The weights, as launched. -/
abbrev wK : Vec Ideal S2x4096x11272 .f32 := m ((c : Thread nD τ).loc main_arg1)

/-- The transposed weights of both layers, one under the other. -/
theorem stack (l : Fin 2) (n : Fin 11272) (k : Fin 4096) (R : Fin 22544) (hR : R.val = 11272 * l.val + n.val) :
    (V m c main_v1 : FVec Ideal S22544x4096 .f32) (ix2 R k) = wK m c (ix3 l k n) := by
  have e : V m c main_v1 = (shapeCast S22544x4096 (transpose S2x11272x4096 [0, 2, 1] (wK m c) transposes_S2x4096x11272_S2x11272x4096_0_2_1 : FVec Ideal S2x11272x4096 .f32) shapeCasts_S2x11272x4096_S22544x4096 : FVec Ideal S22544x4096 .f32) := by
    unfold V
    after_results
    rfl
  rw [e]
  pointwise
  have h1 : (⟨R.val / 11272, by omega⟩ : Fin 2) = l := Fin.ext (by show R.val / 11272 = l.val; omega)
  have h2 : (⟨R.val % 11272, by omega⟩ : Fin 11272) = n := Fin.ext (by show R.val % 11272 = n.val; omega)
  rw [h1, h2]

/-- The block of weights. -/
theorem blk0 (t : Fin cfg0.N) (n : Fin 256) (k : Fin 4096) : (iblk m c 0 t : FVec Ideal S256x4096 .f32) (ix2 n k) =
    (V m c main_v1 : FVec Ideal S22544x4096 .f32) (ix2 ⟨11272 * (t.val / 24) + (5128 + (256 * (t.val % 24) + n.val)), by
      have := t.isLt; have e : cfg0.N = 48 := rfl; omega⟩ k) := by
  unfold iblk
  generalize V m c = f
  blk_simp [idx t]
  blk_ext! [idx t]
  · refine (win0_0.rect_emb_val_off t (ix2 n k) 0).trans ?_
    rw [(idx t).1.1]
    show 11272 * (t.val / 24) + (5128 + 256 * (t.val % 24)) + n.val = _
    omega
  · refine (win0_0.rect_emb_val_off t (ix2 n k) 1).trans ?_
    rw [(idx t).1.2]
    exact Nat.zero_add _

/-- The block of gains: one layer's. -/
theorem blk1 (t : Fin cfg0.N) (k : Fin 4096) : (iblk m c 1 t : FVec Ideal S1x1x4096 .f32) (ix3 0 0 k) =
    gK m c (ix2 ⟨t.val / 24, by have := t.isLt; have e : cfg0.N = 48 := rfl; omega⟩ k) := by
  blk_simp [iblk, V, idx t]
  entry_read
  pointwise
  blk_ext [iblk, V, idx t]

/-- The prepared weights of both layers. -/
def weights (g : Vec Ideal S2x4096 .f32) (w : Vec Ideal S2x4096x11272 .f32) : Vec Ideal S2x4096x6144 .bf16 := fun i =>
  have h2 : (i 2).val < 6144 := (i 2).isLt
  prepared g w ⟨(i 0).val, (i 0).isLt⟩ ⟨(i 1).val, (i 1).isLt⟩ ⟨5128 + (i 2).val, by omega⟩

/-- The array the call leaves. -/
theorem array : (dats m 0 c).arrAt 2 cfg0.N = weights (gK m c) (wK m c) := by
  refine (dats m 0 c).arrAt_eq_of_covers 2 _ (by decide +kernel) fun t hf y => ?_
  blk_simp
  rw [after0_2]
  have h0 : (y 0).val < 1 := (y 0).isLt
  have h1 : (y 1).val < 4096 := (y 1).isLt
  have h2 : (y 2).val < 256 := (y 2).isLt
  have e : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  rw [e]
  have ht : t.val < 48 := t.isLt
  have hi : ((win0_2.blk t).view.emb (ix3 0 ⟨(y 1).val, h1⟩ ⟨(y 2).val, h2⟩)) =
      ix3 (⟨t.val / 24, by omega⟩ : Fin 2) (⟨(y 1).val, h1⟩ : Fin 4096) (⟨256 * (t.val % 24) + (y 2).val, by omega⟩ : Fin 6144) := by
    funext a
    apply Fin.ext
    match a with
    | ⟨0, _⟩ =>
      refine (win0_2.rect_emb_val t _ 0).trans ?_
      rw [(idx t).2.2.1]
      exact Nat.mul_one _
    | ⟨1, _⟩ =>
      refine (win0_2.rect_emb_val t _ 1).trans ?_
      rw [(idx t).2.2.2.1]
      exact Nat.zero_add _
    | ⟨2, _⟩ =>
      refine (win0_2.rect_emb_val t _ 2).trans ?_
      rw [(idx t).2.2.2.2]
      exact congrArg (· + _) (Nat.mul_comm _ _)
  refine (stored _ _ _ _ _).trans ?_
  refine Eq.trans ?_ (congrArg (weights (gK m c) (wK m c)) hi).symm
  refine (congrArg₂ (fun a b : EReal => a * b) ((blk0 m c t _ _).trans (stack m c ⟨t.val / 24, by omega⟩ ⟨5128 + (256 * (t.val % 24) + (y 2).val), by omega⟩ _ _ rfl))
    (congrArg₂ (fun a b : EReal => a * b) (blk1 m c t _) (pick_eq t ⟨(y 2).val, h2⟩))).trans ?_
  exact (mul_assoc _ _ _).symm

end Kernel

/-- The reference runs, its arguments end unchanged and it leaves no semaphore raised: it has none. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The call's result and the reference's are the same array. -/
theorem values_equal : Cert.algebraic_Kernel6Ideal_Reference6Ideal := by
  intro m g m' g' _ hagree
  refine ⟨fun c => weights (gK m c) (wK m c), ?_, ?_⟩
  · exact (θ_run Cert.Kernel6Ideal.defs _ _).mono (fun r h c => ⟨(h c).1.trans (array m c), (h c).2⟩)
      (Cert.Kernel6Ideal.Value.run_blocks m g)
  · refine (θ_run Cert.Reference6Ideal.defs _ _).mono (fun r h c => ⟨(h c).1.trans ?_, (h c).2⟩)
      (Cert.Reference6Ideal.Value.run m' g')
    obtain ⟨e0, e1⟩ := hagree c
    refine Eq.trans (b := weights (gK m c) (wK m c)) ?_ rfl
    rw [e0, e1]
    funext i
    have e : i = ix3 (i 0) (i 1) (i 2) := by
      funext a
      match a with
      | ⟨0, _⟩ => rfl
      | ⟨1, _⟩ => rfl
      | ⟨2, _⟩ => rfl
    rw [e]
    exact tail_apply (gained _ _) _ _ (gained_apply _ _) (i 0) (i 1) (i 2)

end Tail

end Cert.Mix

end
-- ==== Proof.MixOutTile.lean ====
/- The call that closes a mixer, `h + joined rows @ w_out`: the rows that its scratch buffer keeps, what one grid point
   stores, and the arrays the call leaves. -/
module

public import proofs.«01_k».proof.Proof.FfnSpec
public import proofs.«01_k».proof.Proof.Flat
public import proofs.«01_k».proof.Proof.Gen.Kernel7Ideal.Value
public import Idealize.ShloMosaic.Lib.ValueIdx
public import Idealize.ShloMosaic.Lib.Pointwise
public import Idealize.ShloMosaic.Lib.Pipeline.ValueKit.Point
public import Idealize.ShloMosaic.Lib.Pipeline.ReadBack
public import Idealize.ShloMosaic.Lib.Claim

@[expose] public section

set_option maxRecDepth 16384

noncomputable section

namespace Cert.MixOut

open Cert.Flat Cert.FfnIn Cert.Lru Cert.Kernel7Ideal Cert.Kernel7Ideal.Gen Idealize.ShloMosaic Idealize.ShloMosaic.TcCoe Idealize.SL.Sem

/-- The corner of a matrix. -/
theorem corner : (![0, 0] : Fin 2 → Nat) = fun _ => 0 := by decide

/-- The corner of a stack of matrices. -/
theorem corner3 : (![0, 0, 0] : Fin 3 → Nat) = fun _ => 0 := by decide

/-- A branch's scale of a row, from the sum of its squares and the word of its width. -/
def branchScale (w : BitVec 32) (s : EReal) : EReal := Ideal.rsqrt (Ideal.div s (f32 w) + f32 0x358637BD#32)

/-- A row of the three branches joined: the first as it stands, the other two normalised and times their gains. -/
def joined (a b : Fin 1024 → EReal) (c : Fin 2048 → EReal) (gb : Fin 1024 → EReal) (gc : Fin 2048 → EReal) (k : Fin 4096) : EReal :=
  if h : k.val < 1024 then a ⟨k.val, h⟩
  else if h2 : k.val < 2048 then
    b ⟨k.val - 1024, by omega⟩ * branchScale 0x44800000#32 (∑ j, (fun z : EReal => z * z) (b j)) * gb ⟨k.val - 1024, by omega⟩
  else c ⟨k.val - 2048, by omega⟩ * branchScale 0x45000000#32 (∑ j, (fun z : EReal => z * z) (c j)) * gc ⟨k.val - 2048, by omega⟩

/-- A block of joined rows, from the blocks of the branches and of the gains. -/
def rows (x0 x1 : Vec Ideal S1024x1024 .bf16) (x2 : Vec Ideal S1024x2048 .bf16) (x3 : Vec Ideal S1x1024 .f32) (x4 : Vec Ideal S1x2048 .f32) :
    Vec Ideal S1024x4096 .bf16 := fun i =>
  have h : (i 0).val < 1024 := (i 0).isLt
  joined (fun k => x0 (ix2 ⟨(i 0).val, h⟩ k)) (fun k => x1 (ix2 ⟨(i 0).val, h⟩ k)) (fun k => x2 (ix2 ⟨(i 0).val, h⟩ k))
    (fun k => x3 (ix2 0 k)) (fun k => x4 (ix2 0 k)) ⟨(i 1).val, (i 1).isLt⟩

/-- The second branch's rows as stored. -/
theorem second (x : Vec Ideal S1024x1024 .bf16) (g : Vec Ideal S1x1024 .f32) (r : Fin 1024) (k : Fin 1024) :
    (k0_pay8 x g : FVec Ideal S1024x1024 .bf16) (ix2 r k) =
      x (ix2 r k) * branchScale 0x44800000#32 (∑ j, (fun z : EReal => z * z) (x (ix2 r j))) * g (ix2 0 k) := by
  unfold branchScale
  pointwise [k0_pay8]

/-- The third branch's rows as stored. -/
theorem third (x : Vec Ideal S1024x2048 .bf16) (g : Vec Ideal S1x2048 .f32) (r : Fin 1024) (k : Fin 2048) :
    (k0_pay1 (k0_pay9 x) g : FVec Ideal S1024x2048 .bf16) (ix2 r k) =
      x (ix2 r k) * branchScale 0x45000000#32 (∑ j, (fun z : EReal => z * z) (x (ix2 r j))) * g (ix2 0 k) := by
  unfold branchScale
  pointwise [k0_pay1, k0_pay9]

/-- The first branch's rows as stored: as they stand. -/
theorem first (x : Vec Ideal S1024x1024 .bf16) : k0_pay7 x = x := by
  funext i
  idx_vars i
  pointwise [k0_pay7]

/-- Joining reads the first branch in columns 0 to 1023. -/
theorem joined_first (a b : Fin 1024 → EReal) (c : Fin 2048 → EReal) (gb : Fin 1024 → EReal) (gc : Fin 2048 → EReal) (n : Fin 4096)
    (k : Fin 1024) (h : n.val = k.val) : joined a b c gb gc n = a k := by
  unfold joined
  rw [dif_pos (by omega)]
  exact congrArg a (Fin.ext h)

/-- It reads the second branch in columns 1024 to 2047. -/
theorem joined_second (a b : Fin 1024 → EReal) (c : Fin 2048 → EReal) (gb : Fin 1024 → EReal) (gc : Fin 2048 → EReal) (n : Fin 4096)
    (k : Fin 1024) (h : n.val = 1024 + k.val) :
    joined a b c gb gc n = b k * branchScale 0x44800000#32 (∑ j, (fun z : EReal => z * z) (b j)) * gb k := by
  unfold joined
  rw [dif_neg (by omega), dif_pos (by omega)]
  have e : (⟨n.val - 1024, by omega⟩ : Fin 1024) = k := Fin.ext (by show n.val - 1024 = k.val; omega)
  rw [e]

/-- It reads the third branch in the other columns. -/
theorem joined_third (a b : Fin 1024 → EReal) (c : Fin 2048 → EReal) (gb : Fin 1024 → EReal) (gc : Fin 2048 → EReal) (n : Fin 4096)
    (k : Fin 2048) (h : n.val = 2048 + k.val) :
    joined a b c gb gc n = c k * branchScale 0x45000000#32 (∑ j, (fun z : EReal => z * z) (c j)) * gc k := by
  unfold joined
  rw [dif_neg (by omega), dif_neg (by omega)]
  have e : (⟨n.val - 2048, by omega⟩ : Fin 2048) = k := Fin.ext (by show n.val - 2048 = k.val; omega)
  rw [e]

/-- A row of a block of joined rows. -/
theorem rows_apply (x0 x1 : Vec Ideal S1024x1024 .bf16) (x2 : Vec Ideal S1024x2048 .bf16) (x3 : Vec Ideal S1x1024 .f32)
    (x4 : Vec Ideal S1x2048 .f32) (i : S1024x4096.Idx) (r : Fin 1024) (n : Fin 4096) (h0 : (i 0).val = r.val) (h1 : (i 1).val = n.val) :
    rows x0 x1 x2 x3 x4 i = joined (fun k => x0 (ix2 r k)) (fun k => x1 (ix2 r k)) (fun k => x2 (ix2 r k))
      (fun k => x3 (ix2 0 k)) (fun k => x4 (ix2 0 k)) n := by
  obtain rfl : (⟨(i 0).val, (i 0).isLt⟩ : Fin 1024) = r := Fin.ext h0
  obtain rfl : (⟨(i 1).val, (i 1).isLt⟩ : Fin 4096) = n := Fin.ext h1
  rfl

variable (m : (ℓ : Loc nD τ sig) → Buf (Elt Ideal) ℓ) (c : Dev nD)

/-- What the first point of a row block leaves in the scratch buffer. -/
theorem fill (t : Fin cfg0.N) (h0 : t.val % 8 = 0) : (outsAt0 m c t.val t.isLt).2.2.2 =
    rows (iblk m c 0 t) (iblk m c 1 t) (iblk m c 2 t) (iblk m c 3 t) (iblk m c 4 t) := by
  rw [outsAt0_A m c t h0 h0 (by omega)]
  dsimp only
  unfold sout0_A_0
  rw [View.read_writes_junk_eq_canon]
  funext y
  refine View.canon_apply_of_pieces _ _ ?_ y (scover0_A_0 _ _ _ _ _ _ _ _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread,
    View.ld_unit_zero (S := S1024x1024) corner, View.ld_unit_zero (S := S1024x2048) corner, View.ld_unit_zero (S := S1x1024) corner,
    View.ld_unit_zero (S := S1x2048) corner, first, List.forall_mem_cons]
  refine ⟨fun x => ?_, fun x => ?_, fun x => ?_, fun p hp => absurd hp List.not_mem_nil⟩
  · have e : x = ix2 ⟨(x 0).val, (x 0).isLt⟩ ⟨(x 1).val, (x 1).isLt⟩ := by
      funext a
      match a with
      | ⟨0, _⟩ => rfl
      | ⟨1, _⟩ => rfl
    refine ((congrArg (k0_pay1 (k0_pay9 (iblk m c 2 t)) (iblk m c 4 t)) e).trans (third _ _ _ _)).trans (((rows_apply _ _ _ _ _ _ _ ⟨2048 + (x 1).val, by have := (x 1).isLt; change (x 1).val < 2048 at this; omega⟩ ?_ ?_).trans (joined_third _ _ _ _ _ _ _ ?_)).symm)
    · refine (Rect.emb_apply _ _ _).trans ?_; show 0 + 1 * (x 0).val = (x 0).val; omega
    · refine (Rect.emb_apply _ _ _).trans ?_; show 2048 + 1 * (x 1).val = 2048 + (x 1).val; omega
    · rfl
  · have e : x = ix2 ⟨(x 0).val, (x 0).isLt⟩ ⟨(x 1).val, (x 1).isLt⟩ := by
      funext a
      match a with
      | ⟨0, _⟩ => rfl
      | ⟨1, _⟩ => rfl
    refine ((congrArg (k0_pay8 (iblk m c 1 t) (iblk m c 3 t)) e).trans (second _ _ _ _)).trans (((rows_apply _ _ _ _ _ _ _ ⟨1024 + (x 1).val, by have := (x 1).isLt; change (x 1).val < 1024 at this; omega⟩ ?_ ?_).trans (joined_second _ _ _ _ _ _ _ ?_)).symm)
    · refine (Rect.emb_apply _ _ _).trans ?_; show 0 + 1 * (x 0).val = (x 0).val; omega
    · refine (Rect.emb_apply _ _ _).trans ?_; show 1024 + 1 * (x 1).val = 1024 + (x 1).val; omega
    · rfl
  · have e : x = ix2 ⟨(x 0).val, (x 0).isLt⟩ ⟨(x 1).val, (x 1).isLt⟩ := by
      funext a
      match a with
      | ⟨0, _⟩ => rfl
      | ⟨1, _⟩ => rfl
    refine (congrArg (iblk m c 0 t) e).trans ((rows_apply _ _ _ _ _ _ _ ⟨(x 1).val, by have := (x 1).isLt; change (x 1).val < 1024 at this; omega⟩ ?_ ?_).trans (joined_first _ _ _ _ _ _ _ ?_)).symm
    · refine (Rect.emb_apply _ _ _).trans ?_; show 0 + 1 * (x 0).val = (x 0).val; omega
    · refine (Rect.emb_apply _ _ _).trans ?_; show 0 + 1 * (x 1).val = (x 1).val; omega
    · rfl

/-- The first point of a row block reads from the scratch buffer what it leaves there. -/
theorem first_point (t : Fin cfg0.N) (h0 : t.val % 8 = 0) :
    (outsAt0 m c t.val t.isLt).1 = k0_pay2 ((outsAt0 m c t.val t.isLt).2.2.2) (iblk m c 5 t) (iblk m c 6 t) ∧
    (outsAt0 m c t.val t.isLt).2.1 = k0_pay3 ((outsAt0 m c t.val t.isLt).2.2.2) (iblk m c 5 t) (iblk m c 6 t) ∧
    (outsAt0 m c t.val t.isLt).2.2.1 = k0_pay5 ((outsAt0 m c t.val t.isLt).2.2.2) (iblk m c 5 t) (iblk m c 6 t) := by
  rw [outsAt0_A m c t h0 h0 (by omega)]
  dsimp only
  unfold out0_A_7 out0_A_8 out0_A_9 sout0_A_0
  simp only [View.read_writes_junk_eq_canon]
  unfold kernelRun0_A
  dsimp only
  simp only [View.canon_unit_zero (S := S1024x512) corner, View.canon_unit_zero (S := S1x1024x128) corner3]
  unfold kernelRun0_A.sl.v3
  simp only [View.readCov_eq_canon', View.readAt_eq_ld, (hs0_5 t).read_unread, (hs0_6 t).read_unread,
    View.ld_unit_zero (S := S4096x512) corner, View.ld_unit_zero (S := S1024x512) corner]
  have e : ∀ L, (fun j => View.canon (Val := Elt Ideal) (s := S1024x4096) (e := .bf16) L ((Rect.unit ![0, 0] ![1024, 4096] inb_S1024x4096_S1024x4096_0_0).idx j)) = View.canon L :=
    fun L => View.ld_unit_zero (S := S1024x4096) corner _ (View.canon L)
  rw [e]
  exact ⟨rfl, rfl, rfl⟩

/-- Every other point keeps the scratch buffer, reads it, and adds to the lane sums. -/
theorem other_point (t : Fin cfg0.N) (h0 : ¬t.val % 8 = 0) (ht : t.val - 1 < cfg0.N) :
    (outsAt0 m c t.val t.isLt).2.2.2 = (outsAt0 m c (t.val - 1) ht).2.2.2 ∧
    (outsAt0 m c t.val t.isLt).1 = k0_pay2 ((outsAt0 m c (t.val - 1) ht).2.2.2) (iblk m c 5 t) (iblk m c 6 t) ∧
    (outsAt0 m c t.val t.isLt).2.1 = k0_pay3 ((outsAt0 m c (t.val - 1) ht).2.2.2) (iblk m c 5 t) (iblk m c 6 t) ∧
    (outsAt0 m c t.val t.isLt).2.2.1 = k0_pay6 ((outsAt0 m c (t.val - 1) ht).2.2.2) (iblk m c 5 t) (iblk m c 6 t) ((outsAt0 m c (t.val - 1) ht).2.2.1) := by
  rw [outsAt0_B m c t (by omega) h0 (by omega)]
  dsimp only
  unfold out0_B_7 out0_B_8 out0_B_9 sout0_B_0
  simp only [View.read_writes_junk_eq_canon]
  unfold kernelRun0_B
  dsimp only
  simp only [View.canon_unit_zero (S := S1024x512) corner, View.canon_unit_zero (S := S1x1024x128) corner3]
  simp only [View.ld_unit_zero (S := S1024x4096) corner, View.readAt_eq_ld, (hs0_5 t).read_unread, (hs0_6 t).read_unread, (hs0_9 t).read_unread,
    View.ld_unit_zero (S := S4096x512) corner, View.ld_unit_zero (S := S1024x512) corner, View.ld_unit_zero (S := S1x1024x128) corner3, read_unread_whole]
  exact ⟨trivial, trivial, trivial, trivial⟩

end Cert.MixOut

end
-- ==== Proof.MixOutWhole.lean ====
/- The arrays that the call closing a mixer leaves, in terms of the arrays it was launched with. -/
module

public import proofs.«01_k».proof.Proof.MixOutTile

@[expose] public section

set_option maxRecDepth 16384

noncomputable section

namespace Cert.MixOut

open Cert.Flat Cert.FfnIn Cert.Lru Cert.Kernel7Ideal Cert.Kernel7Ideal.Gen Idealize.ShloMosaic Idealize.ShloMosaic.TcCoe Idealize.SL.Sem

section Payloads

variable (v : Vec Ideal S1024x4096 .bf16) (w : Vec Ideal S4096x512 .bf16) (x : Vec Ideal S1024x512 .f32)

/-- An entry of a stored block: the residual plus a row of the scratch buffer times a column of the weights. -/
theorem entry_of (r : Fin 1024) (n : Fin 512) : (k0_pay2 v w x : FVec Ideal S1024x512 .f32) (ix2 r n) =
    x (ix2 r n) + ∑ k : Fin 4096, v (ix2 r k) * w (ix2 k n) := by
  pointwise [k0_pay2]

/-- The block stored rounded has the same entries. -/
theorem rounded_of (r : Fin 1024) (n : Fin 512) : (k0_pay3 v w x : FVec Ideal S1024x512 .bf16) (ix2 r n) =
    (k0_pay2 v w x : FVec Ideal S1024x512 .f32) (ix2 r n) := by
  pointwise [k0_pay3]

/-- The lane sums of a block: the squares of its 4 entries that lie 128 columns apart. -/
theorem lanes_of (r : Fin 1024) (l : Fin 128) : (k0_pay5 v w x : FVec Ideal S1x1024x128 .f32) (ix3 0 r l) =
    ∑ j : Fin 4, (fun z : EReal => z * z) ((k0_pay2 v w x : FVec Ideal S1024x512 .f32) (ix2 r ⟨l.val + 128 * j.val, by omega⟩)) := by
  unfold k0_pay5 k0_pay4
  generalize k0_pay2 v w x = H
  pointwise
  simp only [Fin.sum_univ_castSucc, Fin.sum_univ_zero, zero_add, Nat.add_comm _ l.val]
  rfl

/-- The lane sums of a block, added to those before. -/
theorem lanes_add (y : Vec Ideal S1x1024x128 .f32) (r : Fin 1024) (l : Fin 128) : (k0_pay6 v w x y : FVec Ideal S1x1024x128 .f32) (ix3 0 r l) =
    y (ix3 0 r l) + ∑ j : Fin 4, (fun z : EReal => z * z) ((k0_pay2 v w x : FVec Ideal S1024x512 .f32) (ix2 r ⟨l.val + 128 * j.val, by omega⟩)) := by
  unfold k0_pay6 k0_pay4
  generalize k0_pay2 v w x = H
  pointwise
  simp only [Fin.sum_univ_castSucc, Fin.sum_univ_zero, zero_add, Nat.add_comm _ l.val]
  rfl

end Payloads

variable (m : (ℓ : Loc nD τ sig) → Buf (Elt Ideal) ℓ) (c : Dev nD)

/-- The first branch, as launched. -/
abbrev aK : Vec Ideal S8x2048x1024 .f32 := m ((c : Thread nD τ).loc main_arg0)

/-- The second branch, as launched. -/
abbrev bK : Vec Ideal S8x2048x1024 .f32 := m ((c : Thread nD τ).loc main_arg1)

/-- The third branch, as launched. -/
abbrev cK : Vec Ideal S8x2048x2048 .f32 := m ((c : Thread nD τ).loc main_arg2)

/-- The second branch's gains, as launched. -/
abbrev gbK : Vec Ideal S2x1024 .f32 := m ((c : Thread nD τ).loc main_arg3)

/-- The third branch's gains, as launched. -/
abbrev gcK : Vec Ideal S2x2048 .f32 := m ((c : Thread nD τ).loc main_arg4)

/-- The closing weights, as launched. -/
abbrev wK : Vec Ideal S2x4096x4096 .f32 := m ((c : Thread nD τ).loc main_arg5)

/-- The residual stream, as launched. -/
abbrev hK : Vec Ideal S8x2048x4096 .f32 := m ((c : Thread nD τ).loc main_arg6)

/-- Where the windows stand at point `t`: the 8 column blocks run innermost, the 16 row blocks outermost. -/
theorem idx (t : Fin cfg0.N) : (win0_0.index t 0 = t.val / 8 ∧ win0_0.index t 1 = 0) ∧
    (win0_1.index t 0 = t.val / 8 ∧ win0_1.index t 1 = 0) ∧ (win0_2.index t 0 = t.val / 8 ∧ win0_2.index t 1 = 0) ∧
    (win0_3.index t 0 = 0 ∧ win0_3.index t 1 = 0) ∧ (win0_4.index t 0 = 0 ∧ win0_4.index t 1 = 0) ∧
    (win0_5.index t 0 = 0 ∧ win0_5.index t 1 = t.val % 8) ∧ (win0_6.index t 0 = t.val / 8 ∧ win0_6.index t 1 = t.val % 8) ∧
    (win0_7.index t 0 = t.val / 8 ∧ win0_7.index t 1 = t.val % 8) ∧ (win0_8.index t 0 = t.val / 8 ∧ win0_8.index t 1 = t.val % 8) ∧
    (win0_9.index t 0 = 0 ∧ win0_9.index t 1 = t.val / 8 ∧ win0_9.index t 2 = 0) := by
  revert t; decide +kernel

/-- There are 128 points. -/
theorem points (t : Fin cfg0.N) : t.val < 128 := t.isLt

/-- The first branch's block: 1024 rows of the flattened tokens. -/
theorem blk0 (t : Fin cfg0.N) (r : Fin 1024) (k : Fin 1024) : (iblk m c 0 t : FVec Ideal S1024x1024 .bf16) (ix2 r k) =
    aK m c (ix3 (bat (1024 * (t.val / 8) + r.val) (by have := points t; omega)) (tok (1024 * (t.val / 8) + r.val)) k) := by
  blk_simp [iblk, V, idx t]
  entry_read
  pointwise
  blk_ext [iblk, V, idx t]

/-- The second branch's block. -/
theorem blk1 (t : Fin cfg0.N) (r : Fin 1024) (k : Fin 1024) : (iblk m c 1 t : FVec Ideal S1024x1024 .bf16) (ix2 r k) =
    bK m c (ix3 (bat (1024 * (t.val / 8) + r.val) (by have := points t; omega)) (tok (1024 * (t.val / 8) + r.val)) k) := by
  blk_simp [iblk, V, idx t]
  entry_read
  pointwise
  blk_ext [iblk, V, idx t]

/-- The third branch's block. -/
theorem blk2 (t : Fin cfg0.N) (r : Fin 1024) (k : Fin 2048) : (iblk m c 2 t : FVec Ideal S1024x2048 .bf16) (ix2 r k) =
    cK m c (ix3 (bat (1024 * (t.val / 8) + r.val) (by have := points t; omega)) (tok (1024 * (t.val / 8) + r.val)) k) := by
  blk_simp [iblk, V, idx t]
  entry_read
  pointwise
  blk_ext [iblk, V, idx t]

/-- The second branch's gains: those of the first layer. -/
theorem blk3 (t : Fin cfg0.N) (k : Fin 1024) : (iblk m c 3 t : FVec Ideal S1x1024 .f32) (ix2 0 k) = gbK m c (ix2 0 k) := by
  blk_simp [iblk, V, idx t]
  entry_read
  pointwise
  blk_ext [iblk, V, idx t]

/-- The third branch's gains: those of the first layer. -/
theorem blk4 (t : Fin cfg0.N) (k : Fin 2048) : (iblk m c 4 t : FVec Ideal S1x2048 .f32) (ix2 0 k) = gcK m c (ix2 0 k) := by
  blk_simp [iblk, V, idx t]
  entry_read
  pointwise
  blk_ext [iblk, V, idx t]

/-- The weights' block: 512 columns of the first layer's. -/
theorem blk5 (t : Fin cfg0.N) (k : Fin 4096) (n : Fin 512) : (iblk m c 5 t : FVec Ideal S4096x512 .bf16) (ix2 k n) =
    wK m c (ix3 0 k ⟨512 * (t.val % 8) + n.val, by omega⟩) := by
  blk_simp [iblk, V, idx t]
  entry_read
  pointwise
  blk_ext [iblk, V, idx t]

/-- The residual's block. -/
theorem blk6 (t : Fin cfg0.N) (r : Fin 1024) (n : Fin 512) : (iblk m c 6 t : FVec Ideal S1024x512 .f32) (ix2 r n) =
    hK m c (ix3 (bat (1024 * (t.val / 8) + r.val) (by have := points t; omega)) (tok (1024 * (t.val / 8) + r.val))
      ⟨512 * (t.val % 8) + n.val, by omega⟩) := by
  blk_simp [iblk, V, idx t]
  entry_read
  pointwise
  blk_ext [iblk, V, idx t]

section Whole

variable (a b : Vec Ideal S8x2048x1024 .f32) (d : Vec Ideal S8x2048x2048 .f32) (gb : Vec Ideal S2x1024 .f32) (gc : Vec Ideal S2x2048 .f32)
  (w : Vec Ideal S2x4096x4096 .f32) (x : Vec Ideal S8x2048x4096 .f32)

/-- A token's joined row. -/
def token (q : Fin 8) (s : Fin 2048) : Fin 4096 → EReal :=
  joined (fun k => a (ix3 q s k)) (fun k => b (ix3 q s k)) (fun k => d (ix3 q s k)) (fun k => gb (ix2 0 k)) (fun k => gc (ix2 0 k))

/-- The mixer's close over all flattened tokens: the residual plus the joined rows times the first layer's weights. -/
def whole : Vec Ideal S16384x4096 .f32 := fun i =>
  have h : (i 0).val < 16384 := (i 0).isLt
  x (ix3 (bat (i 0).val h) (tok (i 0).val) ⟨(i 1).val, (i 1).isLt⟩) +
    ∑ k : Fin 4096, token a b d gb gc (bat (i 0).val h) (tok (i 0).val) k * w (ix3 0 k ⟨(i 1).val, (i 1).isLt⟩)

/-- The same result, rounded. -/
def rounded : Vec Ideal S16384x4096 .bf16 := fun i => whole a b d gb gc w x i

end Whole

/-- Sums of squares of a row: for each of 128 lanes, over the 32 columns in the lane. -/
def parts (y : Vec Ideal S16384x4096 .f32) : Vec Ideal S1x16384x128 .f32 := fun i =>
  have h2 : (i 2).val < 128 := (i 2).isLt
  ∑ j : Fin 32, (fun z : EReal => z * z) (y (ix2 ⟨(i 1).val, (i 1).isLt⟩ ⟨(i 2).val + 128 * j.val, by omega⟩))

/-- The scratch buffer holds the joined rows of the row block. -/
theorem scratch (q : ℕ) (hq : q < 16) : ∀ p, p < 8 → ∀ n (hn : n < cfg0.N), n = 8 * q + p → ∀ (r : Fin 1024) (k : Fin 4096),
    ((outsAt0 m c n hn).2.2.2 : FVec Ideal S1024x4096 .bf16) (ix2 r k) =
      token (aK m c) (bK m c) (cK m c) (gbK m c) (gcK m c) (bat (1024 * q + r.val) (by omega)) (tok (1024 * q + r.val)) k
  | 0, _, n, hn, e, r, k => by
    obtain rfl : q = n / 8 := by omega
    refine (congrFun (fill m c ⟨n, hn⟩ (by show n % 8 = 0; omega)) (ix2 r k)).trans ((rows_apply _ _ _ _ _ (ix2 r k) r k rfl rfl).trans ?_)
    unfold token
    simp only [blk0, blk1, blk2, blk3, blk4]
  | p + 1, hp, n, hn, e, r, k =>
    (congrFun (other_point m c ⟨n, hn⟩ (by show ¬n % 8 = 0; omega) (by show n - 1 < cfg0.N; omega)).1 (ix2 r k)).trans
      (scratch q hq p (by omega) (n - 1) (by omega) (by omega) r k)

/-- What a point reads from the scratch buffer when it stores its block. -/
theorem stored (t : Fin cfg0.N) : ∃ v : Vec Ideal S1024x4096 .bf16,
    (∀ (r : Fin 1024) (k : Fin 4096), v (ix2 r k) = token (aK m c) (bK m c) (cK m c) (gbK m c) (gcK m c)
      (bat (1024 * (t.val / 8) + r.val) (by have := points t; omega)) (tok (1024 * (t.val / 8) + r.val)) k) ∧
    (outsAt0 m c t.val t.isLt).1 = k0_pay2 v (iblk m c 5 t) (iblk m c 6 t) ∧
    (outsAt0 m c t.val t.isLt).2.1 = k0_pay3 v (iblk m c 5 t) (iblk m c 6 t) ∧
    (t.val % 8 = 0 → (outsAt0 m c t.val t.isLt).2.2.1 = k0_pay5 v (iblk m c 5 t) (iblk m c 6 t)) ∧
    ∀ (h0 : ¬t.val % 8 = 0) (ht : t.val - 1 < cfg0.N), (outsAt0 m c t.val t.isLt).2.2.1 =
      k0_pay6 v (iblk m c 5 t) (iblk m c 6 t) ((outsAt0 m c (t.val - 1) ht).2.2.1) := by
  have hN := points t
  by_cases h0 : t.val % 8 = 0
  · obtain ⟨e1, e2, e3⟩ := first_point m c t h0
    exact ⟨_, scratch m c (t.val / 8) (by omega) (t.val % 8) (by omega) t.val t.isLt (by omega), e1, e2, fun _ => e3, fun h => absurd h0 h⟩
  · have ht : t.val - 1 < cfg0.N := by have := t.isLt; omega
    obtain ⟨-, e1, e2, e3⟩ := other_point m c t h0 ht
    exact ⟨_, scratch m c (t.val / 8) (by omega) (t.val % 8 - 1) (by omega) (t.val - 1) ht (by omega), e1, e2, fun h => absurd h h0, fun _ _ => e3⟩

/-- An entry of a block that a point stores, from what it reads. -/
theorem gather (t : Fin cfg0.N) (v : Vec Ideal S1024x4096 .bf16)
    (hv : ∀ (r : Fin 1024) (k : Fin 4096), v (ix2 r k) = token (aK m c) (bK m c) (cK m c) (gbK m c) (gcK m c)
      (bat (1024 * (t.val / 8) + r.val) (by have := points t; omega)) (tok (1024 * (t.val / 8) + r.val)) k) (r : Fin 1024) (n : Fin 512) :
    (k0_pay2 v (iblk m c 5 t) (iblk m c 6 t) : FVec Ideal S1024x512 .f32) (ix2 r n) = whole (aK m c) (bK m c) (cK m c) (gbK m c) (gcK m c) (wK m c) (hK m c)
      (ix2 ⟨1024 * (t.val / 8) + r.val, by have := points t; omega⟩ ⟨512 * (t.val % 8) + n.val, by omega⟩) := by
  rw [entry_of, blk6]
  simp only [hv, blk5]
  rfl

/-- The block of the result that point `t` leaves. -/
theorem block (t : Fin cfg0.N) (r : Fin 1024) (n : Fin 512) :
    ((outsAt0 m c t.val t.isLt).1 : FVec Ideal S1024x512 .f32) (ix2 r n) = whole (aK m c) (bK m c) (cK m c) (gbK m c) (gcK m c) (wK m c) (hK m c)
      (ix2 ⟨1024 * (t.val / 8) + r.val, by have := points t; omega⟩ ⟨512 * (t.val % 8) + n.val, by omega⟩) := by
  obtain ⟨v, hv, e, -⟩ := stored m c t
  rw [e]
  exact gather m c t v hv r n

/-- The rounded block that it leaves. -/
theorem block_rounded (t : Fin cfg0.N) (r : Fin 1024) (n : Fin 512) :
    ((outsAt0 m c t.val t.isLt).2.1 : FVec Ideal S1024x512 .bf16) (ix2 r n) = whole (aK m c) (bK m c) (cK m c) (gbK m c) (gcK m c) (wK m c) (hK m c)
      (ix2 ⟨1024 * (t.val / 8) + r.val, by have := points t; omega⟩ ⟨512 * (t.val % 8) + n.val, by omega⟩) := by
  obtain ⟨v, hv, -, e, -⟩ := stored m c t
  rw [e, rounded_of]
  exact gather m c t v hv r n

/-- A lane's sum of squares over the 4 columns of column block `p`. -/
def group (y : Vec Ideal S16384x4096 .f32) (i : Fin 16384) (l : Fin 128) (p : Fin 8) : EReal :=
  ∑ j : Fin 4, (fun z : EReal => z * z) (y (ix2 i ⟨512 * p.val + (l.val + 128 * j.val), by omega⟩))

/-- The lane sums that a point leaves: those of the column blocks so far. -/
theorem running (q : ℕ) (hq : q < 16) (r : Fin 1024) (l : Fin 128) : ∀ p (hp : p < 8) n (hn : n < cfg0.N), n = 8 * q + p →
    ((outsAt0 m c n hn).2.2.1 : FVec Ideal S1x1024x128 .f32) (ix3 0 r l) =
      ∑ i : Fin (p + 1), group (whole (aK m c) (bK m c) (cK m c) (gbK m c) (gcK m c) (wK m c) (hK m c)) ⟨1024 * q + r.val, by omega⟩ l ⟨i.val, by omega⟩
  | 0, hp, n, hn, e => by
    obtain rfl : q = n / 8 := by omega
    obtain ⟨v, hv, -, -, e5, -⟩ := stored m c ⟨n, hn⟩
    refine (congrFun (e5 (by show n % 8 = 0; omega)) (ix3 0 r l)).trans ((lanes_of _ _ _ r l).trans ?_)
    rw [Fin.sum_univ_one]
    unfold group
    refine Finset.sum_congr rfl fun j _ => congrArg (fun z : EReal => z * z) ((gather m c ⟨n, hn⟩ v hv r _).trans ?_)
    exact congrArg (whole (aK m c) (bK m c) (cK m c) (gbK m c) (gcK m c) (wK m c) (hK m c)) (congrArg (ix2 _) (Fin.ext (by show 512 * (n % 8) + (l.val + 128 * j.val) = 512 * 0 + (l.val + 128 * j.val); omega)))
  | p + 1, hp, n, hn, e => by
    obtain rfl : q = n / 8 := by omega
    obtain ⟨v, hv, -, -, -, e6⟩ := stored m c ⟨n, hn⟩
    refine (congrFun (e6 (by show ¬n % 8 = 0; omega) (by show n - 1 < cfg0.N; omega)) (ix3 0 r l)).trans ((lanes_add _ _ _ _ r l).trans ?_)
    refine Eq.trans ?_ (Fin.sum_univ_castSucc _).symm
    refine congrArg₂ (· + ·) (running (n / 8) hq r l p (by omega) (n - 1) (by omega) (by omega)) ?_
    unfold group
    refine Finset.sum_congr rfl fun j _ => congrArg (fun z : EReal => z * z) ((gather m c ⟨n, hn⟩ v hv r _).trans ?_)
    exact congrArg (whole (aK m c) (bK m c) (cK m c) (gbK m c) (gcK m c) (wK m c) (hK m c)) (congrArg (ix2 _) (Fin.ext (by show 512 * (n % 8) + (l.val + 128 * j.val) = 512 * (p + 1) + (l.val + 128 * j.val); omega)))

/-- The 8 column blocks' groups of a lane make up the whole lane. -/
theorem groups (y : Vec Ideal S16384x4096 .f32) (i : Fin 16384) (l : Fin 128) : (∑ p : Fin 8, group y i l p) = parts y (ix3 0 i l) := by
  unfold group parts
  rw [← Fintype.sum_prod_type']
  refine Fintype.sum_equiv (finProdFinEquiv (m := 8) (n := 4)) _ _ fun u => congrArg (fun z : EReal => z * z) (congrArg (fun n => y (ix2 i n)) (Fin.ext ?_))
  show 512 * u.1.val + (l.val + 128 * u.2.val) = l.val + 128 * (u.2.val + 4 * u.1.val)
  omega

/-- The array the call leaves. -/
theorem array : (dats m 0 c).arrAt 7 cfg0.N = whole (aK m c) (bK m c) (cK m c) (gbK m c) (gcK m c) (wK m c) (hK m c) := by
  refine (dats m 0 c).arrAt_eq_of_covers 7 _ (by decide +kernel) fun t hf y => ?_
  blk_simp
  rw [after0_7]
  have h0 : (y 0).val < 1024 := (y 0).isLt
  have h1 : (y 1).val < 512 := (y 1).isLt
  have e : y = ix2 ⟨(y 0).val, h0⟩ ⟨(y 1).val, h1⟩ := by
    funext a
    match a with
    | ⟨0, _⟩ => rfl
    | ⟨1, _⟩ => rfl
  rw [e]
  refine (block m c t _ _).trans ?_
  congr 1
  funext a
  apply Fin.ext
  match a with
  | ⟨0, _⟩ =>
    refine Eq.symm ((win0_7.rect_emb_val t _ 0).trans ?_)
    rw [(idx t).2.2.2.2.2.2.2.1.1]
    exact congrArg (· + _) (Nat.mul_comm _ _)
  | ⟨1, _⟩ =>
    refine Eq.symm ((win0_7.rect_emb_val t _ 1).trans ?_)
    rw [(idx t).2.2.2.2.2.2.2.1.2]
    exact congrArg (· + _) (Nat.mul_comm _ _)

/-- The array of rounded results it leaves. -/
theorem arrayRounded : (dats m 0 c).arrAt 8 cfg0.N = rounded (aK m c) (bK m c) (cK m c) (gbK m c) (gcK m c) (wK m c) (hK m c) := by
  refine (dats m 0 c).arrAt_eq_of_covers 8 _ (by decide +kernel) fun t hf y => ?_
  blk_simp
  rw [after0_8]
  have h0 : (y 0).val < 1024 := (y 0).isLt
  have h1 : (y 1).val < 512 := (y 1).isLt
  have e : y = ix2 ⟨(y 0).val, h0⟩ ⟨(y 1).val, h1⟩ := by
    funext a
    match a with
    | ⟨0, _⟩ => rfl
    | ⟨1, _⟩ => rfl
  rw [e]
  refine (block_rounded m c t _ _).trans ?_
  unfold rounded
  congr 1
  funext a
  apply Fin.ext
  match a with
  | ⟨0, _⟩ =>
    refine Eq.symm ((win0_8.rect_emb_val t _ 0).trans ?_)
    rw [(idx t).2.2.2.2.2.2.2.2.1.1]
    exact congrArg (· + _) (Nat.mul_comm _ _)
  | ⟨1, _⟩ =>
    refine Eq.symm ((win0_8.rect_emb_val t _ 1).trans ?_)
    rw [(idx t).2.2.2.2.2.2.2.2.1.2]
    exact congrArg (· + _) (Nat.mul_comm _ _)

/-- The lane sums are copied back by the last point of a row block. -/
theorem last_column (t : Fin cfg0.N) (hf : (cfg0.win 9).flush t = true) : t.val % 8 = 7 := by
  revert t
  decide +kernel

/-- The array of lane sums it leaves. -/
theorem arrayParts : (dats m 0 c).arrAt 9 cfg0.N = parts (whole (aK m c) (bK m c) (cK m c) (gbK m c) (gcK m c) (wK m c) (hK m c)) := by
  refine (dats m 0 c).arrAt_eq_of_covers 9 _ (by decide +kernel) fun t hf y => ?_
  have h7 := last_column t hf
  have hN := points t
  blk_simp
  rw [after0_9]
  have h0 : (y 0).val < 1 := (y 0).isLt
  have h1 : (y 1).val < 1024 := (y 1).isLt
  have h2 : (y 2).val < 128 := (y 2).isLt
  have e : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  rw [e]
  refine (running m c (t.val / 8) (by omega) _ _ 7 (by omega) t.val t.isLt (by omega)).trans ((groups _ _ _).trans ?_)
  congr 1
  funext a
  apply Fin.ext
  match a with
  | ⟨0, _⟩ =>
    refine Eq.symm ((win0_9.rect_emb_val t _ 0).trans ?_)
    rw [(idx t).2.2.2.2.2.2.2.2.2.1]
    rfl
  | ⟨1, _⟩ =>
    refine Eq.symm ((win0_9.rect_emb_val t _ 1).trans ?_)
    rw [(idx t).2.2.2.2.2.2.2.2.2.2.1]
    exact congrArg (· + _) (Nat.mul_comm _ _)
  | ⟨2, _⟩ =>
    refine Eq.symm ((win0_9.rect_emb_val t _ 2).trans ?_)
    rw [(idx t).2.2.2.2.2.2.2.2.2.2.2]
    exact (congrArg (· + _) (Nat.zero_mul _)).trans (Nat.zero_add _)

end Cert.MixOut

end
-- ==== Proof.MixOutRef.lean ====
/- The reference of the call that closes a mixer, and the equality of the two programs' results. -/
module

public import proofs.«01_k».proof.Proof.MixOutWhole
public import proofs.«01_k».proof.Proof.Gen.Reference7Ideal.Run
public import proofs.«01_k».proof.Defs
public import Idealize.ShloMosaic.Lib.Quiescent

@[expose] public section

set_option maxRecDepth 16384

noncomputable section

namespace Cert.MixOut

open Cert.Flat Cert.FfnIn Cert.Lru Idealize.ShloMosaic Idealize.ShloMosaic.TcCoe Idealize.SL.Sem

namespace Ref

open Cert.Reference7Ideal Cert.Reference7Ideal.Gen

variable (a b : Vec Ideal S8x2048x1024 .f32) (d : Vec Ideal S8x2048x2048 .f32) (gb : Vec Ideal S2x1024 .f32) (gc : Vec Ideal S2x2048 .f32)
  (w : Vec Ideal S2x4096x4096 .f32) (x : Vec Ideal S8x2048x4096 .f32)

/-- The reference's joined rows: the first branch, and the other two normalised and times their gains. -/
def joinedRef : FVec Ideal S8x2048x4096 .f32 :=
  concatenate S8x2048x4096 2 [⟨S8x2048x1024, (a : FVec Ideal S8x2048x1024 .f32)⟩, ⟨S8x2048x1024, ((mulf (mulf b (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf b b) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast S1024 (extractStridedSlice S1x1024 ![0, 0] gb slices_S2x1024_S1x1024_0_0) shapeCasts_S1x1024_S1024)))) : FVec Ideal S8x2048x1024 .f32)⟩, ⟨S8x2048x2048, ((mulf (mulf d (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf d d) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast S2048 (extractStridedSlice S1x2048 ![0, 0] gc slices_S2x2048_S1x2048_0_0) shapeCasts_S1x2048_S2048)))) : FVec Ideal S8x2048x2048 .f32)⟩] concatenates_S8x2048x1024_S8x2048x1024_S8x2048x2048_S8x2048x4096_d2

/-- One of their entries. -/
theorem joinedRef_apply (q : Fin 8) (s : Fin 2048) (k : Fin 4096) : joinedRef a b d gb gc (ix3 q s k) = token a b d gb gc q s k := by
  unfold joinedRef token joined branchScale
  pointwise
  by_cases h1 : k.val < 1024
  · rw [dif_pos h1, dif_pos h1]
  · rw [dif_neg h1, dif_neg h1]
    by_cases h2 : k.val < 2048
    · rw [dif_pos h2, dif_pos (by omega)]
    · rw [dif_neg h2, dif_neg (by omega)]
      have e : (⟨k.val - 1024 - 1024, by omega⟩ : Fin 2048) = ⟨k.val - 2048, by omega⟩ := Fin.ext (Nat.sub_sub _ _ _)
      rw [e]

/-- The reference's result: the residual plus the joined rows times the first layer's weights, its tokens flattened. -/
theorem whole_ref : (shapeCast S16384x4096 (addf x (Host.dotGeneral (φ₁ := .f32) (φ₂ := .f32) dot_S8x2048x4096_S4096x4096_S8x2048x4096_2_0_01_1_n_n none (joinedRef a b d gb gc) (shapeCast S4096x4096 (extractStridedSlice S1x4096x4096 ![0, 0, 0] w slices_S2x4096x4096_S1x4096x4096_0_0_0) shapeCasts_S1x4096x4096_S4096x4096))) shapeCasts_S8x2048x4096_S16384x4096 : FVec Ideal S16384x4096 .f32) = whole a b d gb gc w x := by
  have hG := joinedRef_apply a b d gb gc
  generalize joinedRef a b d gb gc = G at hG
  funext i
  idx_vars i
  unfold whole
  pointwise
  simp only [hG]

/-- The reference's second result: the same, rounded. -/
theorem rounded_ref : (truncf .bf16 (shapeCast S16384x4096 (addf x (Host.dotGeneral (φ₁ := .f32) (φ₂ := .f32) dot_S8x2048x4096_S4096x4096_S8x2048x4096_2_0_01_1_n_n none (joinedRef a b d gb gc) (shapeCast S4096x4096 (extractStridedSlice S1x4096x4096 ![0, 0, 0] w slices_S2x4096x4096_S1x4096x4096_0_0_0) shapeCasts_S1x4096x4096_S4096x4096))) shapeCasts_S8x2048x4096_S16384x4096 : FVec Ideal S16384x4096 .f32) bitsLt_bf16_f32 : FVec Ideal S16384x4096 .bf16) =
    rounded a b d gb gc w x := by
  rw [whole_ref]
  rfl

/-- The reference's sums of squares of an array of rows: those of `parts`. -/
theorem parts_ref (y : Vec Ideal S16384x4096 .f32) :
    (broadcastInDim S1x16384x128 ![1, 2] bcast_S16384x128_S1x16384x128_1_2 (Host.reduceAdd (shapeCast S16384x32x128 (mulf y y) shapeCasts_S16384x4096_S16384x32x128) (constant S_ .f32 0x00000000#32) reducesTo_S16384x32x128_S16384x128_d1 h_S_) : FVec Ideal S1x16384x128 .f32) =
      parts y := by
  funext i
  idx_vars i
  unfold parts
  pointwise
  refine Finset.sum_congr rfl fun j _ => congrArg (fun z : EReal => z * z) (congrArg (fun n => y (ix2 i1 n)) (Fin.ext ?_))
  show j.val * 128 + i2.val = i2.val + 128 * j.val
  omega

end Ref

/-- The reference runs, its arguments end unchanged and it leaves no semaphore raised: it has none. -/
theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run m ρ)

/-- The call's three results and the reference's are the same arrays. -/
theorem values_equal : Cert.algebraic_Kernel7Ideal_Reference7Ideal := by
  intro m g m' g' _ hagree
  refine ⟨fun c => whole (aK m c) (bK m c) (cK m c) (gbK m c) (gcK m c) (wK m c) (hK m c),
    fun c => rounded (aK m c) (bK m c) (cK m c) (gbK m c) (gcK m c) (wK m c) (hK m c),
    fun c => parts (whole (aK m c) (bK m c) (cK m c) (gbK m c) (gcK m c) (wK m c) (hK m c)), ?_, ?_⟩
  · exact (θ_run Cert.Kernel7Ideal.defs _ _).mono
      (fun r h c => ⟨(h c).1.trans (array m c), (h c).2.1.trans (arrayRounded m c), (h c).2.2.1.trans (arrayParts m c), (h c).2.2.2⟩)
      (Cert.Kernel7Ideal.Value.run_blocks m g)
  · refine (θ_run Cert.Reference7Ideal.defs _ _).mono
      (fun r h c => ⟨(h c).1.trans ?_, (h c).2.1.trans ?_, (h c).2.2.1.trans ?_, (h c).2.2.2⟩)
      (Cert.Reference7Ideal.Value.run m' g')
    all_goals obtain ⟨e0, e1, e2, e3, e4, e5, e6⟩ := hagree c
    · refine (Ref.whole_ref _ _ _ _ _ _ _).trans ?_
      rw [e0, e1, e2, e3, e4, e5, e6]
    · refine (Ref.rounded_ref _ _ _ _ _ _ _).trans ?_
      rw [e0, e1, e2, e3, e4, e5, e6]
    · refine (Ref.parts_ref _).trans (congrArg parts ((Ref.whole_ref _ _ _ _ _ _ _).trans ?_))
      rw [e0, e1, e2, e3, e4, e5, e6]

end Cert.MixOut

end
-- ==== Proof.Last.lean ====
/- The final norm: what the call's grid points store, the array it leaves, its reference, and the equality of the two. -/
module

public import proofs.«01_k».proof.Proof.FfnSpec
public import proofs.«01_k».proof.Proof.Flat
public import proofs.«01_k».proof.Proof.Gen.Kernel8Ideal.Value
public import proofs.«01_k».proof.Proof.Gen.Reference8Ideal.Run
public import proofs.«01_k».proof.Defs
public import Idealize.ShloMosaic.Lib.ValueIdx
public import Idealize.ShloMosaic.Lib.Pointwise
public import Idealize.ShloMosaic.Lib.Pipeline.ValueKit.Point
public import Idealize.ShloMosaic.Lib.Quiescent

@[expose] public section

set_option maxRecDepth 16384

noncomputable section

namespace Cert.Last

open Cert.Flat Cert.FfnIn Idealize.ShloMosaic Idealize.ShloMosaic.TcCoe Idealize.SL.Sem Idealize.ShloMosaic.StableHlo

section Kernel

open Cert.Kernel8Ideal Cert.Kernel8Ideal.Gen

/-- The corner of a matrix. -/
theorem corner : (![0, 0] : Fin 2 → Nat) = fun _ => 0 := by decide

/-- The corner of a stack of matrices. -/
theorem corner3 : (![0, 0, 0] : Fin 3 → Nat) = fun _ => 0 := by decide

/-- What one point stores: its rows, each times its scale and the gains. -/
theorem stored (x0 : Vec Ideal S512x4096 .f32) (x1 : Vec Ideal S4x512x128 .f32) (x2 : Vec Ideal S1x4096 .f32) (r : Fin 512) (n : Fin 4096) :
    (out0_3 x0 x1 x2 : FVec Ideal S512x4096 .f32) (ix2 r n) =
      x0 (ix2 r n) * rowScale (∑ l : Fin 128, ∑ p : Fin 4, x1 (ix3 p r l)) * x2 (ix2 0 n) := by
  unfold out0_3 rowScale
  rw [View.canon_unit_zero corner, View.ld_unit_zero (S := S512x4096) corner, View.ld_unit_zero (S := S4x512x128) corner3, View.ld_unit_zero (S := S1x4096) corner]
  pointwise [k0_pay1]

/-- Where the windows stand at point `t`. -/
theorem idx (t : Fin cfg0.N) : (win0_0.index t 0 = t.val ∧ win0_0.index t 1 = 0) ∧
    (win0_1.index t 0 = 0 ∧ win0_1.index t 1 = t.val ∧ win0_1.index t 2 = 0) ∧ (win0_2.index t 0 = 0 ∧ win0_2.index t 1 = 0) ∧
    (win0_3.index t 0 = t.val ∧ win0_3.index t 1 = 0) := by
  revert t; decide +kernel

variable (m : (ℓ : Loc nD τ sig) → Buf (Elt Ideal) ℓ) (c : Dev nD)

/-- The rows, as launched. -/
abbrev hK : Vec Ideal S8x2048x4096 .f32 := m ((c : Thread nD τ).loc main_arg0)

/-- The gains, as launched. -/
abbrev gK : Vec Ideal S4096 .f32 := m ((c : Thread nD τ).loc main_arg1)

/-- The block of rows. -/
theorem blk0 (t : Fin cfg0.N) (r : Fin 512) (k : Fin 4096) : (iblk m c 0 t : FVec Ideal S512x4096 .f32) (ix2 r k) =
    hK m c (ix3 (bat (512 * t.val + r.val) (by have := t.isLt; have e : cfg0.N = 32 := rfl; omega)) (tok (512 * t.val + r.val)) k) := by
  blk_simp [iblk, V, idx t]
  entry_read
  pointwise
  blk_ext [iblk, V, idx t]

/-- The partial sums of squares that the host prepares. -/
theorem sums (p : Fin 4) (n : Fin 16384) (l : Fin 128) : (V m c main_v4 : FVec Ideal S4x16384x128 .f32) (ix3 p n l) =
    ∑ j : Fin 8, (fun z : EReal => z * z) (hK m c (ix3 (bat n.val n.isLt) (tok n.val) ⟨p.val * 1024 + j.val * 128 + l.val, by omega⟩)) := by
  have e : V m c main_v4 = (transpose S4x16384x128 [1, 0, 2] (Host.reduceAdd (shapeCast S16384x4x8x128
      (mulf (shapeCast S16384x4096 (hK m c) shapeCasts_S8x2048x4096_S16384x4096) (shapeCast S16384x4096 (hK m c) shapeCasts_S8x2048x4096_S16384x4096))
      shapeCasts_S16384x4096_S16384x4x8x128) (constant S_ .f32 0x00000000#32) reducesTo_S16384x4x8x128_S16384x4x128_d2 h_S_) transposes_S16384x4x128_S4x16384x128_1_0_2 : FVec Ideal S4x16384x128 .f32) := by
    unfold V
    after_results
    rfl
  rw [e]
  pointwise

/-- The block of partial sums of squares. -/
theorem blk1 (t : Fin cfg0.N) (p : Fin 4) (r : Fin 512) (l : Fin 128) : (iblk m c 1 t : FVec Ideal S4x512x128 .f32) (ix3 p r l) =
    (V m c main_v4 : FVec Ideal S4x16384x128 .f32) (ix3 p ⟨512 * t.val + r.val, by have := t.isLt; have e : cfg0.N = 32 := rfl; omega⟩ l) := by
  unfold iblk
  generalize V m c = f
  blk_simp [idx t]
  blk_ext! [idx t]

/-- The block of gains: all of them. -/
theorem blk2 (t : Fin cfg0.N) (k : Fin 4096) : (iblk m c 2 t : FVec Ideal S1x4096 .f32) (ix2 0 k) = gK m c (ix1 k) := by
  blk_simp [iblk, V, idx t]
  entry_read
  pointwise
  blk_ext [iblk, V, idx t]

/-- The normalised rows. -/
def normed (h : Vec Ideal S8x2048x4096 .f32) (g : Vec Ideal S4096 .f32) : Vec Ideal S16384x4096 .f32 := fun i =>
  have hi : (i 0).val < 16384 := (i 0).isLt
  h (ix3 (bat (i 0).val hi) (tok (i 0).val) ⟨(i 1).val, (i 1).isLt⟩) *
    rowScale (∑ k : Fin 4096, (fun z : EReal => z * z) (h (ix3 (bat (i 0).val hi) (tok (i 0).val) k))) * g (ix1 ⟨(i 1).val, (i 1).isLt⟩)

/-- A point's stored entry, once its blocks are known as entries of the arguments. -/
theorem gather (x0 : Vec Ideal S512x4096 .f32) (x1 : Vec Ideal S4x512x128 .f32) (x2 : Vec Ideal S1x4096 .f32)
    (h : Vec Ideal S8x2048x4096 .f32) (g : Vec Ideal S4096 .f32) (r : Fin 512) (n : Fin 4096) (b : Fin 8) (s : Fin 2048)
    (h0 : ∀ k, x0 (ix2 r k) = h (ix3 b s k))
    (h1 : ∀ p l, x1 (ix3 p r l) = ∑ j : Fin 8, (fun z : EReal => z * z) (h (ix3 b s ⟨p.val * 1024 + j.val * 128 + l.val, by omega⟩)))
    (h2 : ∀ k, x2 (ix2 0 k) = g (ix1 k)) : (out0_3 x0 x1 x2 : FVec Ideal S512x4096 .f32) (ix2 r n) =
      h (ix3 b s n) * rowScale (∑ k : Fin 4096, (fun z : EReal => z * z) (h (ix3 b s k))) * g (ix1 n) := by
  rw [stored, h0, h2, ← lanes4]
  simp only [h1]

/-- The array the call leaves. -/
theorem array : (dats m 0 c).arrAt 3 cfg0.N = normed (hK m c) (gK m c) := by
  refine (dats m 0 c).arrAt_eq_of_covers 3 _ (by decide +kernel) fun t hf y => ?_
  blk_simp
  rw [after0_3]
  have h0 : (y 0).val < 512 := (y 0).isLt
  have h1 : (y 1).val < 4096 := (y 1).isLt
  have e : y = ix2 ⟨(y 0).val, h0⟩ ⟨(y 1).val, h1⟩ := by
    funext a
    match a with
    | ⟨0, _⟩ => rfl
    | ⟨1, _⟩ => rfl
  rw [e]
  have ht : t.val < 32 := t.isLt
  have hi : ((win0_3.blk t).view.emb (ix2 ⟨(y 0).val, h0⟩ ⟨(y 1).val, h1⟩)) =
      ix2 (⟨512 * t.val + (y 0).val, by omega⟩ : Fin 16384) (⟨(y 1).val, h1⟩ : Fin 4096) := by
    funext a
    apply Fin.ext
    match a with
    | ⟨0, _⟩ =>
      refine (win0_3.rect_emb_val t _ 0).trans ?_
      rw [(idx t).2.2.2.1]
      exact congrArg (· + _) (Nat.mul_comm _ _)
    | ⟨1, _⟩ =>
      refine (win0_3.rect_emb_val t _ 1).trans ?_
      rw [(idx t).2.2.2.2]
      exact Nat.zero_add _
  refine (gather _ _ _ (hK m c) (gK m c) _ _ _ _ (fun k => blk0 m c t _ k) (fun p l => (blk1 m c t p _ l).trans (sums m c p _ l)) fun k => blk2 m c t k).trans ?_
  exact (congrArg (normed (hK m c) (gK m c)) hi).symm

end Kernel

namespace Ref

open Cert.Reference8Ideal Cert.Reference8Ideal.Gen

/-- The reference's result: the normalised rows, its tokens flattened. -/
theorem normed_ref (h : Vec Ideal S8x2048x4096 .f32) (g : Vec Ideal S4096 .f32) :
    (shapeCast S16384x4096 (mulf (mulf h (broadcastInDim S8x2048x4096 ![0, 1, 2] bcast_S8x2048x1_S8x2048x4096_0_1_2 (Host.rsqrt (addf (Host.divf (broadcastInDim S8x2048x1 ![0, 1] bcast_S8x2048_S8x2048x1_0_1 (Host.reduceAdd (mulf h h) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))))) (broadcastInDim S8x2048x4096 ![0, 1, 2] bcast_S1x1x4096_S8x2048x4096_0_1_2 (broadcastInDim S1x1x4096 ![2] bcast_S4096_S1x1x4096_2 g))) shapeCasts_S8x2048x4096_S16384x4096 : FVec Ideal S16384x4096 .f32) =
      normed h g := by
  funext i
  idx_vars i
  unfold normed
  simp only [rowScale_eq]
  pointwise

end Ref

/-- The reference runs, its arguments end unchanged and it leaves no semaphore raised: it has none. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- The call's result and the reference's are the same array. -/
theorem values_equal : Cert.algebraic_Kernel8Ideal_Reference8Ideal := by
  intro m g m' g' _ hagree
  refine ⟨fun c => normed (hK m c) (gK m c), ?_, ?_⟩
  · exact (θ_run Cert.Kernel8Ideal.defs _ _).mono (fun r h c => ⟨(h c).1.trans (array m c), (h c).2⟩)
      (Cert.Kernel8Ideal.Value.run_blocks m g)
  · refine (θ_run Cert.Reference8Ideal.defs _ _).mono (fun r h c => ⟨(h c).1.trans ?_, (h c).2⟩)
      (Cert.Reference8Ideal.Value.run m' g')
    obtain ⟨e0, e1⟩ := hagree c
    refine (Ref.normed_ref _ _).trans ?_
    rw [e0, e1]

end Cert.Last

end
-- ==== Proof.ForgetTile.lean ====
/- The call that sums the forget gates over a sequence: a gate's log-sigmoid, the sums that doubling shifts make of a tile,
   and what one grid point stores. -/
module

public import proofs.«01_k».proof.Proof.FfnSpec
public import proofs.«01_k».proof.Proof.Gates
public import proofs.«01_k».proof.Proof.Gen.Kernel9Ideal.Value
public import Idealize.ShloMosaic.Lib.ValueIdx
public import Idealize.ShloMosaic.Lib.Pointwise
public import Idealize.ShloMosaic.Lib.Pipeline.ValueKit.Point
public import Idealize.ShloMosaic.Lib.Pipeline.ReadBack
public import Idealize.ShloMosaic.Lib.Claim

@[expose] public section

set_option maxRecDepth 16384

noncomputable section

namespace Cert.Forget

open Cert.FfnIn Cert.Lru Cert.Kernel9Ideal Cert.Kernel9Ideal.Gen Idealize.ShloMosaic Idealize.ShloMosaic.TcCoe Idealize.SL.Sem

/-- The logarithm of a gate's logistic: minus the softplus of minus the gate. -/
def logSig (z : EReal) : EReal := -softplus (-z)

/-- Minus the larger of a number's opposite and 0 is the smaller of the number and 0. -/
theorem neg_max_neg (z : EReal) : -(max (-z) 0) = min z 0 := by
  rcases le_total z 0 with h | h
  · rw [max_eq_left (by rwa [EReal.neg_nonneg]), min_eq_left h, neg_neg]
  · rw [max_eq_right (EReal.neg_le.mp (by rwa [neg_zero])), min_eq_right h, neg_zero]

/-- `log (1 + e^(-|z|))` is never negative. -/
theorem log_nonneg (z : EReal) : 0 ≤ Ideal.log1p (Ideal.exp (-(max z (-z)))) := by
  rcases le_total z 0 with h | h
  · have e := softplus_nonneg z
    unfold softplus at e
    rwa [max_eq_right h, zero_add] at e
  · have e := softplus_nonneg (-z)
    unfold softplus at e
    rwa [max_eq_right (EReal.neg_le.mp (by rwa [neg_zero])), zero_add, neg_neg, max_comm] at e

/-- The smaller of `z` and 0, less `log (1 + e^(-|z|))`, is the log-sigmoid of `z`. -/
theorem logSig_eq (z : EReal) : min z 0 - Ideal.log1p (Ideal.exp (0 - max z (-z))) = logSig z := by
  unfold logSig softplus
  have e : max (-z) (- -z) = max z (-z) := by rw [neg_neg, max_comm]
  rw [e, zero_sub, EReal.neg_add, neg_max_neg]
  · left
    exact ne_bot_of_le_ne_bot EReal.zero_ne_bot (le_max_right _ _)
  · exact Or.inr (ne_bot_of_le_ne_bot EReal.zero_ne_bot (log_nonneg z))

/-- A tile's rows. -/
def rowIds : IVec S512x128 32 := iota .tc S512x128 32 [0] iota_S512x128_d0_w32

/-- A tile moved down by `k` rows, with zeros in the rows freed. -/
def shift (k : BitVec 32) (X : FVec Ideal S512x128 .f32) : FVec Ideal S512x128 .f32 :=
  select (cmpi .sge rowIds (broadcast S512x128 k)) (dynamicRotate 0 k none X rotates_S512x128_d0)
    (broadcast S512x128 (Scalar.ofBits .f32 0x00000000#32))

/-- One of its entries. -/
theorem shift_at (k : BitVec 32) (hk : k.toNat < 512) (X : FVec Ideal S512x128 .f32) (r : Fin 512) (l : Fin 128) :
    shift k X (ix2 r l) = if h : k.toNat ≤ r.val then X (ix2 ⟨r.val - k.toNat, by omega⟩ l) else 0 := by
  unfold shift rowIds
  pointwise
  have hr : (BitVec.ofNat 32 r.val).toInt = r.val := by
    rw [BitVec.toInt_eq_toNat_of_lt (by rw [BitVec.toNat_ofNat]; omega), BitVec.toNat_ofNat]; omega
  have hkI : k.toInt = k.toNat := BitVec.toInt_eq_toNat_of_lt (by omega)
  unfold Scalar.select
  by_cases h : k.toNat ≤ r.val
  · rw [dif_pos h]
    refine (if_pos (show IntOp.cmpi .sge (BitVec.ofNat 32 r.val) k = 1 from
      IntOp.cmpi_sge.mpr (hkI.trans_le (le_of_le_of_eq (Int.ofNat_le.mpr h) hr.symm)))).trans ?_
    exact congrArg (fun u => X (ix2 u l)) (Fin.ext (by show (r.val + 512 - k.toNat % 512) % 512 = r.val - k.toNat; omega))
  · rw [dif_neg h]
    exact if_neg fun e => h (Int.ofNat_le.mp (hkI.symm.trans_le (le_of_le_of_eq (IntOp.cmpi_sge.mp e) hr)))

/-- Lane `l` of a tile holds in each row the sum of that row's and the `n - 1` rows before it of `g`. -/
def Sums (n : ℕ) (g : ℕ → EReal) (l : Fin 128) (X : FVec Ideal S512x128 .f32) : Prop :=
  ∀ r : Fin 512, X (ix2 r l) = ∑ j ∈ Finset.range n, if j ≤ r.val then g (r.val - j) else 0

/-- Adding to a tile of sums of `n` the same moved down by `n` makes sums of `2 n`. -/
theorem Sums.double {n : ℕ} {g : ℕ → EReal} {l : Fin 128} {X : FVec Ideal S512x128 .f32} (H : Sums n g l X) (k : BitVec 32)
    (hk : k.toNat = n) (hn : n < 512) : Sums (n + n) g l (addf X (shift k X)) := fun r => by
  have e : addf X (shift k X) (ix2 r l) = X (ix2 r l) + shift k X (ix2 r l) := by pointwise
  rw [e, shift_at k (by omega), Finset.sum_range_add, ← H r]
  refine congrArg (X (ix2 r l) + ·) ?_
  by_cases h : k.toNat ≤ r.val
  · rw [dif_pos h, H]
    refine Finset.sum_congr rfl fun j _ => ?_
    show (if j ≤ r.val - k.toNat then g (r.val - k.toNat - j) else 0) = _
    by_cases hj : n + j ≤ r.val
    · rw [if_pos (by omega), if_pos hj, hk, Nat.sub_sub]
    · rw [if_neg (by omega), if_neg hj]
  · rw [dif_neg h]
    exact (Finset.sum_eq_zero fun j _ => if_neg (by omega)).symm

/-- The nine doublings of a tile. -/
def scan (X : FVec Ideal S512x128 .f32) : FVec Ideal S512x128 .f32 :=
  have X1 := addf X (shift 1#32 X)
  have X2 := addf X1 (shift 2#32 X1)
  have X3 := addf X2 (shift 4#32 X2)
  have X4 := addf X3 (shift 8#32 X3)
  have X5 := addf X4 (shift 16#32 X4)
  have X6 := addf X5 (shift 32#32 X5)
  have X7 := addf X6 (shift 64#32 X6)
  have X8 := addf X7 (shift 128#32 X7)
  addf X8 (shift 256#32 X8)

/-- They leave in each row the sum of the tile's rows up to it. -/
theorem scan_at (X : FVec Ideal S512x128 .f32) (g : ℕ → EReal) (l : Fin 128) (H : ∀ r : Fin 512, X (ix2 r l) = g r.val) (r : Fin 512) :
    scan X (ix2 r l) = ∑ j ∈ Finset.range (r.val + 1), g j := by
  have H0 : Sums 1 g l X := fun r => by rw [Finset.sum_range_one, if_pos (Nat.zero_le _), H]; rfl
  have H9 := (((((((((H0.double 1#32 rfl (by omega)).double 2#32 rfl (by omega)).double 4#32 rfl (by omega)).double 8#32 rfl (by omega)).double
    16#32 rfl (by omega)).double 32#32 rfl (by omega)).double 64#32 rfl (by omega)).double 128#32 rfl (by omega)).double 256#32 rfl (by omega)) r
  refine Eq.trans H9 ?_
  rw [← Finset.sum_filter, ← Finset.sum_range_reflect]
  have e : (Finset.range 512).filter (fun j => j ≤ r.val) = Finset.range (r.val + 1) := by
    ext j
    rw [Finset.mem_filter, Finset.mem_range, Finset.mem_range]
    omega
  refine Finset.sum_congr e fun j hj => congrArg g ?_
  omega

/-- A tile of gates, each as its log-sigmoid, from the blocks of the sums of squares, the rows, the weights and the biases. -/
abbrev gates (x1 : Vec Ideal S4x512x128 .f32) (x0 : Vec Ideal S512x4096 .bf16) (x2 : Vec Ideal S1x128x4096 .bf16) (x3 : Vec Ideal S1x1x128 .f32) :
    FVec Ideal S512x128 .f32 := k0_pay5 x1 x0 x2 x3

/-- One gate. -/
theorem gates_at (x1 : Vec Ideal S4x512x128 .f32) (x0 : Vec Ideal S512x4096 .bf16) (x2 : Vec Ideal S1x128x4096 .bf16) (x3 : Vec Ideal S1x1x128 .f32)
    (r : Fin 512) (l : Fin 128) : gates x1 x0 x2 x3 (ix2 r l) =
      logSig ((∑ k : Fin 4096, x0 (ix2 r k) * x2 (ix3 0 l k)) * rowScale (∑ q : Fin 128, ∑ p : Fin 4, x1 (ix3 p r q)) + x3 (ix3 0 0 l)) := by
  rw [← logSig_eq]
  unfold gates rowScale
  pointwise [k0_pay5]
  rfl

/-- A tile's sums with what the tiles before it carry. -/
def summed (X : FVec Ideal S512x128 .f32) (y : Vec Ideal S1x128 .f32) : FVec Ideal S512x128 .f32 :=
  k0_pay1 rowIds (k0_pay7 X rowIds k0_pay6 1#32) 128#32 y

/-- One of its entries. -/
theorem summed_at (X : FVec Ideal S512x128 .f32) (y : Vec Ideal S1x128 .f32) (g : ℕ → EReal) (l : Fin 128)
    (H : ∀ r : Fin 512, X (ix2 r l) = g r.val) (r : Fin 512) :
    summed X y (ix2 r l) = y (ix2 0 l) + ∑ j ∈ Finset.range (r.val + 1), g j := by
  have e : summed X y = addf (scan X) (broadcastTo S512x128 y broadcasts_S1x128_S512x128) := rfl
  have hs := scan_at X g l H r
  rw [e]
  generalize scan X = Z at hs
  pointwise
  rw [hs, add_comm]

/-- The tile turned over, as stored. -/
theorem turned_at (X : FVec Ideal S512x128 .f32) (y : Vec Ideal S1x128 .f32) (r : Fin 512) (l : Fin 128) :
    (k0_pay2 rowIds (k0_pay7 X rowIds k0_pay6 1#32) 128#32 y : FVec Ideal S1x128x512 .f32) (ix3 0 l r) = summed X y (ix2 r l) := by
  unfold k0_pay2 summed
  generalize k0_pay1 rowIds (k0_pay7 X rowIds k0_pay6 1#32) 128#32 y = Z
  pointwise

/-- The tile's last row, which it carries to the next. -/
theorem carried_at (X : FVec Ideal S512x128 .f32) (y : Vec Ideal S1x128 .f32) (l : Fin 128) :
    (k0_pay3 rowIds (k0_pay7 X rowIds k0_pay6 1#32) 128#32 y : FVec Ideal S1x128 .f32) (ix2 0 l) = summed X y (ix2 511 l) := by
  unfold k0_pay3 summed
  generalize k0_pay1 rowIds (k0_pay7 X rowIds k0_pay6 1#32) 128#32 y = Z
  pointwise

/-- A sequence starts from zeros. -/
theorem zeros_at (l : Fin 128) : (k0_pay4 : FVec Ideal S1x128 .f32) (ix2 0 l) = 0 := by
  pointwise [k0_pay4]

/-- The corner of a matrix. -/
theorem corner : (![0, 0] : Fin 2 → Nat) = fun _ => 0 := by decide

/-- The corner of a stack of matrices. -/
theorem corner3 : (![0, 0, 0] : Fin 3 → Nat) = fun _ => 0 := by decide

variable (m : (ℓ : Loc nD τ sig) → Buf (Elt Ideal) ℓ) (c : Dev nD)

/-- The gates of the tile at point `t`. -/
abbrev gatesOf (t : Fin cfg0.N) : FVec Ideal S512x128 .f32 := gates (iblk m c 1 t) (iblk m c 0 t) (iblk m c 2 t) (iblk m c 3 t)

/-- The first tile of a sequence starts from zeros. -/
theorem first_point (t : Fin cfg0.N) (h0 : t.val % 4 = 0) :
    (outsAt0 m c t.val t.isLt).1 = summed (gatesOf m c t) (k0_pay4 (F := Ideal)) ∧
    (outsAt0 m c t.val t.isLt).2.1 = k0_pay2 rowIds (k0_pay7 (gatesOf m c t) rowIds k0_pay6 1#32) 128#32 (k0_pay4 (F := Ideal)) ∧
    (outsAt0 m c t.val t.isLt).2.2 = k0_pay3 rowIds (k0_pay7 (gatesOf m c t) rowIds k0_pay6 1#32) 128#32 (k0_pay4 (F := Ideal)) := by
  rw [outsAt0_A m c t h0]
  dsimp only
  unfold out0_A_4 out0_A_5 sout0_A_0
  simp only [View.read_writes_junk_eq_canon]
  unfold kernelRun0_A
  dsimp only
  sl_unfold_words
  simp only [View.canon_unit_zero (S := S512x128) corner, View.canon_unit_zero (S := S1x128x512) corner3, View.canon_unit_zero (S := S1x128) corner, View.readAt_eq_ld,
    (hs0_0 t).read_unread, (hs0_1 t).read_unread, (hs0_2 t).read_unread, (hs0_3 t).read_unread, View.ld_unit_zero (S := S512x4096) corner,
    View.ld_unit_zero (S := S4x512x128) corner3, View.ld_unit_zero (S := S1x128x4096) corner3, View.ld_unit_zero (S := S1x1x128) corner3,
    View.ld_unit_zero (S := S1x128) corner, View.readCov_eq_canon']
  have e : ∀ L : Vec Ideal S1x128 .f32, (fun j => L ((Rect.unit ![0, 0] ![1, 128] inb_S1x128_S1x128_0_0).idx j)) = L :=
    fun L => View.ld_unit_zero (Val := Elt Ideal) (S := S1x128) (e := .f32) corner inb_S1x128_S1x128_0_0 L
  rw [e, View.canon_cons_unit_zero (S := S1x128) corner]
  exact ⟨rfl, rfl, rfl⟩

/-- Every other tile starts from what the tile before it left. -/
theorem other_point (t : Fin cfg0.N) (h0 : ¬t.val % 4 = 0) (ht : t.val - 1 < cfg0.N) :
    (outsAt0 m c t.val t.isLt).1 = summed (gatesOf m c t) (outsAt0 m c (t.val - 1) ht).2.2 ∧
    (outsAt0 m c t.val t.isLt).2.1 = k0_pay2 rowIds (k0_pay7 (gatesOf m c t) rowIds k0_pay6 1#32) 128#32 (outsAt0 m c (t.val - 1) ht).2.2 ∧
    (outsAt0 m c t.val t.isLt).2.2 = k0_pay3 rowIds (k0_pay7 (gatesOf m c t) rowIds k0_pay6 1#32) 128#32 (outsAt0 m c (t.val - 1) ht).2.2 := by
  rw [outsAt0_B m c t h0]
  dsimp only
  unfold out0_B_4 out0_B_5 sout0_B_0
  simp only [View.read_writes_junk_eq_canon]
  unfold kernelRun0_B
  dsimp only
  sl_unfold_words
  simp only [View.canon_unit_zero (S := S512x128) corner, View.canon_unit_zero (S := S1x128x512) corner3, View.canon_unit_zero (S := S1x128) corner, View.readAt_eq_ld,
    (hs0_0 t).read_unread, (hs0_1 t).read_unread, (hs0_2 t).read_unread, (hs0_3 t).read_unread, View.ld_unit_zero (S := S512x4096) corner,
    View.ld_unit_zero (S := S4x512x128) corner3, View.ld_unit_zero (S := S1x128x4096) corner3, View.ld_unit_zero (S := S1x1x128) corner3,
    View.ld_unit_zero (S := S1x128) corner, read_unread_whole]
  exact ⟨rfl, rfl, rfl⟩

end Cert.Forget

end
-- ==== Proof.ForgetWhole.lean ====
/- The arrays that the call summing the forget gates leaves, in terms of the arrays it was launched with. -/
module

public import proofs.«01_k».proof.Proof.MixSpec
public import proofs.«01_k».proof.Proof.Ref
public import proofs.«01_k».proof.Proof.ForgetTile

@[expose] public section

set_option maxRecDepth 16384

noncomputable section

namespace Cert.Forget

open Cert.Flat Cert.FfnIn Cert.Lru Cert.Kernel9Ideal Cert.Kernel9Ideal.Gen Idealize.ShloMosaic Idealize.ShloMosaic.TcCoe Idealize.SL.Sem

section Sums

variable (h : Vec Ideal S8x2048x4096 .f32) (g : Vec Ideal S2x4096 .f32) (w : Vec Ideal S2x4096x11272 .f32) (bf : Vec Ideal S2x8 .f32)

/-- The bias of a lane: the first layer's bias of a gate in lanes 0 to 7, zero in the others. -/
def bias (l : Fin 128) : EReal := if h : l.val < 8 then bf (ix2 0 ⟨l.val, h⟩) else 0

/-- A token's gate, as its log-sigmoid: a channel of the mixer's opening plus its bias. -/
def gate (q : Fin 8) (s : Fin 2048) (l : Fin 128) : EReal := logSig (Mix.column h g w q s ⟨5120 + l.val, by omega⟩ + bias bf l)

/-- The sum of a sequence's first `n` gates. -/
def upTo (q : Fin 8) (n : ℕ) (l : Fin 128) : EReal := ∑ j ∈ Finset.range n, gate h g w bf q (tok j) l

/-- The running sums, its tokens flattened. -/
def sums : Vec Ideal S16384x128 .f32 := fun i =>
  have h0 : (i 0).val < 16384 := (i 0).isLt
  upTo h g w bf (bat (i 0).val h0) ((tok (i 0).val).val + 1) ⟨(i 1).val, (i 1).isLt⟩

/-- The running sums, tokens along the last axis. -/
def turned : Vec Ideal S8x128x2048 .f32 := fun i =>
  upTo h g w bf ⟨(i 0).val, (i 0).isLt⟩ ((i 2).val + 1) ⟨(i 1).val, (i 1).isLt⟩

end Sums

variable (m : (ℓ : Loc nD τ sig) → Buf (Elt Ideal) ℓ) (c : Dev nD)

/-- The residual stream, as launched. -/
abbrev hK : Vec Ideal S8x2048x4096 .f32 := m ((c : Thread nD τ).loc main_arg0)

/-- The gains, as launched. -/
abbrev gK : Vec Ideal S2x4096 .f32 := m ((c : Thread nD τ).loc main_arg1)

/-- The weights, as launched. -/
abbrev wK : Vec Ideal S2x4096x11272 .f32 := m ((c : Thread nD τ).loc main_arg2)

/-- The gates' biases, as launched. -/
abbrev bK : Vec Ideal S2x8 .f32 := m ((c : Thread nD τ).loc main_arg3)

/-- Where the windows stand at point `t`: the 4 tiles of a sequence run innermost, the 8 sequences outermost. -/
theorem idx (t : Fin cfg0.N) : (win0_0.index t 0 = t.val ∧ win0_0.index t 1 = 0) ∧
    (win0_1.index t 0 = 0 ∧ win0_1.index t 1 = t.val ∧ win0_1.index t 2 = 0) ∧
    (win0_2.index t 0 = 0 ∧ win0_2.index t 1 = 0 ∧ win0_2.index t 2 = 0) ∧
    (win0_3.index t 0 = 0 ∧ win0_3.index t 1 = 0 ∧ win0_3.index t 2 = 0) ∧
    (win0_4.index t 0 = t.val ∧ win0_4.index t 1 = 0) ∧
    (win0_5.index t 0 = t.val / 4 ∧ win0_5.index t 1 = 0 ∧ win0_5.index t 2 = t.val % 4) := by
  revert t; decide +kernel

/-- There are 32 points. -/
theorem points (t : Fin cfg0.N) : t.val < 32 := t.isLt

/-- The rounded rows that the host prepares: the tokens flattened. -/
theorem flat (n : Fin 16384) (k : Fin 4096) : (V m c main_v1 : FVec Ideal S16384x4096 .bf16) (ix2 n k) =
    hK m c (ix3 (bat n.val n.isLt) (tok n.val) k) := by
  have e : V m c main_v1 = (truncf .bf16 (shapeCast S16384x4096 (hK m c) shapeCasts_S8x2048x4096_S16384x4096 : FVec Ideal S16384x4096 .f32) bitsLt_bf16_f32 : FVec Ideal S16384x4096 .bf16) := by
    unfold V
    simp only [List.flatten_cons, List.flatten_nil, List.append_nil, List.cons_append, List.nil_append]
    after_results
    rfl
  rw [e]
  pointwise

/-- The block of rows. -/
theorem blk0 (t : Fin cfg0.N) (r : Fin 512) (k : Fin 4096) : (iblk m c 0 t : FVec Ideal S512x4096 .bf16) (ix2 r k) =
    (V m c main_v1 : FVec Ideal S16384x4096 .bf16) (ix2 ⟨512 * t.val + r.val, by have := points t; omega⟩ k) := by
  unfold iblk
  generalize V m c = f
  blk_simp [idx t]
  blk_ext! [idx t]

/-- The partial sums of squares that the host prepares. -/
theorem squares (p : Fin 4) (n : Fin 16384) (l : Fin 128) : (V m c main_v5 : FVec Ideal S4x16384x128 .f32) (ix3 p n l) =
    ∑ j : Fin 8, (fun z : EReal => z * z) (hK m c (ix3 (bat n.val n.isLt) (tok n.val) ⟨p.val * 1024 + j.val * 128 + l.val, by omega⟩)) := by
  have e : V m c main_v5 = (transpose S4x16384x128 [1, 0, 2] (Host.reduceAdd (shapeCast S16384x4x8x128
      (mulf (shapeCast S16384x4096 (hK m c) shapeCasts_S8x2048x4096_S16384x4096) (shapeCast S16384x4096 (hK m c) shapeCasts_S8x2048x4096_S16384x4096))
      shapeCasts_S16384x4096_S16384x4x8x128) (constant S_ .f32 0x00000000#32) reducesTo_S16384x4x8x128_S16384x4x128_d2 h_S_) transposes_S16384x4x128_S4x16384x128_1_0_2 : FVec Ideal S4x16384x128 .f32) := by
    unfold V
    simp only [List.flatten_cons, List.flatten_nil, List.append_nil, List.cons_append, List.nil_append]
    after_results
    rfl
  rw [e]
  pointwise

/-- The block of partial sums of squares. -/
theorem blk1 (t : Fin cfg0.N) (p : Fin 4) (r : Fin 512) (l : Fin 128) : (iblk m c 1 t : FVec Ideal S4x512x128 .f32) (ix3 p r l) =
    (V m c main_v5 : FVec Ideal S4x16384x128 .f32) (ix3 p ⟨512 * t.val + r.val, by have := points t; omega⟩ l) := by
  unfold iblk
  generalize V m c = f
  blk_simp [idx t]
  blk_ext! [idx t]

/-- The weights that the host prepares: the gates' columns, times their gains. -/
theorem weights (l : Fin 128) (k : Fin 4096) : (V m c main_v11 : FVec Ideal S2x128x4096 .bf16) (ix3 0 l k) =
    wK m c (ix3 0 k ⟨5120 + l.val, by omega⟩) * gK m c (ix2 0 k) := by
  have e : V m c main_v11 = (truncf .bf16 (mulf (extractStridedSlice S2x128x4096 ![0, 5120, 0] (transpose S2x11272x4096 [0, 2, 1] (wK m c) transposes_S2x4096x11272_S2x11272x4096_0_2_1) slices_S2x11272x4096_S2x128x4096_0_5120_0)
      (broadcastInDim S2x128x4096 ![0, 1, 2] bcast_S2x1x4096_S2x128x4096_0_1_2 (broadcastInDim S2x1x4096 ![0, 2] bcast_S2x4096_S2x1x4096_0_2 (gK m c))) : FVec Ideal S2x128x4096 .f32) bitsLt_bf16_f32 : FVec Ideal S2x128x4096 .bf16) := by
    unfold V
    simp only [List.flatten_cons, List.flatten_nil, List.append_nil, List.cons_append, List.nil_append]
    after_results
  rw [e]
  pointwise

/-- The block of weights: the first layer's. -/
theorem blk2 (t : Fin cfg0.N) (l : Fin 128) (k : Fin 4096) : (iblk m c 2 t : FVec Ideal S1x128x4096 .bf16) (ix3 0 l k) =
    (V m c main_v11 : FVec Ideal S2x128x4096 .bf16) (ix3 0 l k) := by
  unfold iblk
  generalize V m c = f
  blk_simp [idx t]
  blk_ext! [idx t]

/-- The biases that the host prepares. -/
theorem biases (l : Fin 128) : (V m c main_v13 : FVec Ideal S2x1x128 .f32) (ix3 0 0 l) = bias (bK m c) l := by
  have e : V m c main_v13 = (shapeCast S2x1x128 (pad S2x128 ![0, 0] ![0, 120] ![0, 0] (bK m c) (sitofp .f32 (constantI S_ 32 0#32) : FVec Ideal S_ .f32) pads_S2x8_S2x128_000_01200 h_S_ : FVec Ideal S2x128 .f32) shapeCasts_S2x128_S2x1x128 : FVec Ideal S2x1x128 .f32) := by
    unfold V
    simp only [List.flatten_cons, List.flatten_nil, List.append_nil, List.cons_append, List.nil_append]
    after_results
    rfl
  rw [e]
  unfold bias
  pointwise
  rw [Lru.Ref.sitofp_zero]

/-- The block of biases. -/
theorem blk3 (t : Fin cfg0.N) (l : Fin 128) : (iblk m c 3 t : FVec Ideal S1x1x128 .f32) (ix3 0 0 l) =
    (V m c main_v13 : FVec Ideal S2x1x128 .f32) (ix3 0 0 l) := by
  unfold iblk
  generalize V m c = f
  blk_simp [idx t]
  blk_ext! [idx t]

/-- A channel, from a row, the gates' weights and the row's partial sums of squares. -/
theorem gather (h : Vec Ideal S8x2048x4096 .f32) (g : Vec Ideal S2x4096 .f32) (w : Vec Ideal S2x4096x11272 .f32) (q : Fin 8) (s : Fin 2048)
    (n : Fin 11272) (x v : Fin 4096 → EReal) (u : Fin 4 → Fin 128 → EReal) (hx : ∀ k, x k = h (ix3 q s k))
    (hv : ∀ k, v k = w (ix3 0 k n) * g (ix2 0 k))
    (hu : ∀ p l, u p l = ∑ j : Fin 8, (fun z : EReal => z * z) (h (ix3 q s ⟨p.val * 1024 + j.val * 128 + l.val, by omega⟩))) :
    (∑ k, x k * v k) * rowScale (∑ l : Fin 128, ∑ p : Fin 4, u p l) = Mix.column h g w q s n := by
  simp only [hx, hv, hu]
  rw [lanes4 (fun k => (fun z : EReal => z * z) (h (ix3 q s k)))]
  exact folded (fun k => h (ix3 q s k)) (fun k => g (ix2 0 k)) fun k => w (ix3 0 k n)

/-- The gates of a tile, in terms of the arrays launched with. -/
theorem gatesOf_at (t : Fin cfg0.N) (l : Fin 128) (r : Fin 512) : gatesOf m c t (ix2 r l) =
    gate (hK m c) (gK m c) (wK m c) (bK m c) ⟨t.val / 4, by have := points t; omega⟩ (tok (512 * (t.val % 4) + r.val)) l := by
  have e0 : bat (512 * t.val + r.val) (by have := points t; omega) = ⟨t.val / 4, by have := points t; omega⟩ :=
    Fin.ext (by show (512 * t.val + r.val) / 2048 = t.val / 4; omega)
  have e1 : tok (512 * t.val + r.val) = tok (512 * (t.val % 4) + r.val) :=
    Fin.ext (by show (512 * t.val + r.val) % 2048 = (512 * (t.val % 4) + r.val) % 2048; omega)
  rw [← e0, ← e1]
  exact (gates_at _ _ _ _ r l).trans (congrArg logSig (congrArg₂ (· + ·) (gather (hK m c) (gK m c) (wK m c) _ _ _ _ _ _
    (fun k => (blk0 m c t r k).trans (flat m c _ k)) (fun k => (blk2 m c t l k).trans (weights m c l k))
    fun p q => (blk1 m c t p r q).trans (squares m c p _ q)) ((blk3 m c t l).trans (biases m c l))))

/-- A tile's sums, where the tiles before it carry the sequence's sum so far. -/
theorem tile_at (t : Fin cfg0.N) (y : Vec Ideal S1x128 .f32) (l : Fin 128)
    (hy : y (ix2 0 l) = upTo (hK m c) (gK m c) (wK m c) (bK m c) ⟨t.val / 4, by have := points t; omega⟩ (512 * (t.val % 4)) l) (r : Fin 512) :
    summed (gatesOf m c t) y (ix2 r l) =
      upTo (hK m c) (gK m c) (wK m c) (bK m c) ⟨t.val / 4, by have := points t; omega⟩ (512 * (t.val % 4) + r.val + 1) l := by
  rw [summed_at _ y (fun j => gate (hK m c) (gK m c) (wK m c) (bK m c) ⟨t.val / 4, by have := points t; omega⟩ (tok (512 * (t.val % 4) + j)) l) l (gatesOf_at m c t l) r, hy]
  unfold upTo
  rw [Nat.add_assoc, Finset.sum_range_add _ (512 * (t.val % 4))]

/-- What a tile carries to the next: the sequence's sum so far. -/
theorem carry (q : ℕ) (hq : q < 8) (l : Fin 128) : ∀ p, p < 4 → ∀ n (hn : n < cfg0.N), n = 4 * q + p →
    ((outsAt0 m c n hn).2.2 : FVec Ideal S1x128 .f32) (ix2 0 l) = upTo (hK m c) (gK m c) (wK m c) (bK m c) ⟨q, hq⟩ (512 * (p + 1)) l
  | 0, _, n, hn, e => by
    obtain rfl : q = n / 4 := by omega
    refine (congrFun (first_point m c ⟨n, hn⟩ (by show n % 4 = 0; omega)).2.2 (ix2 0 l)).trans ((carried_at _ _ l).trans ?_)
    refine (tile_at m c ⟨n, hn⟩ _ l ?_ 511).trans ?_
    · have h0 : n % 4 = 0 := by omega
      refine (zeros_at l).trans ?_
      show _ = upTo _ _ _ _ _ (512 * (n % 4)) l
      rw [h0]
      rfl
    · have h0 : 512 * (n % 4) + 511 + 1 = 512 * (0 + 1) := by omega
      exact congrArg (fun j => upTo _ _ _ _ _ j l) h0
  | p + 1, hp, n, hn, e => by
    obtain rfl : q = n / 4 := by omega
    refine (congrFun (other_point m c ⟨n, hn⟩ (by show ¬n % 4 = 0; omega) (by show n - 1 < cfg0.N; omega)).2.2 (ix2 0 l)).trans ((carried_at _ _ l).trans ?_)
    refine (tile_at m c ⟨n, hn⟩ _ l ?_ 511).trans ?_
    · refine (carry (n / 4) hq l p (by omega) (n - 1) (by omega) (by omega)).trans ?_
      have h0 : 512 * (p + 1) = 512 * (n % 4) := by omega
      exact congrArg (fun j => upTo _ _ _ _ _ j l) h0
    · have h0 : 512 * (n % 4) + 511 + 1 = 512 * (p + 1 + 1) := by omega
      exact congrArg (fun j => upTo _ _ _ _ _ j l) h0

/-- What point `t` leaves: its tile's sums on top of those of the sequence so far. -/
theorem stored (t : Fin cfg0.N) : ∃ y : Vec Ideal S1x128 .f32,
    (∀ l, y (ix2 0 l) = upTo (hK m c) (gK m c) (wK m c) (bK m c) ⟨t.val / 4, by have := points t; omega⟩ (512 * (t.val % 4)) l) ∧
    (outsAt0 m c t.val t.isLt).1 = summed (gatesOf m c t) y ∧
    (outsAt0 m c t.val t.isLt).2.1 = k0_pay2 rowIds (k0_pay7 (gatesOf m c t) rowIds k0_pay6 1#32) 128#32 y := by
  have hN := points t
  by_cases h0 : t.val % 4 = 0
  · obtain ⟨e1, e2, -⟩ := first_point m c t h0
    refine ⟨_, fun l => (zeros_at l).trans ?_, e1, e2⟩
    rw [h0]
    rfl
  · have ht : t.val - 1 < cfg0.N := by have := t.isLt; omega
    obtain ⟨e1, e2, -⟩ := other_point m c t h0 ht
    refine ⟨_, fun l => (carry m c (t.val / 4) (by omega) l (t.val % 4 - 1) (by omega) (t.val - 1) ht (by omega)).trans ?_, e1, e2⟩
    have e : 512 * (t.val % 4 - 1 + 1) = 512 * (t.val % 4) := by omega
    exact congrArg (fun j => upTo _ _ _ _ _ j l) e

/-- The array of running sums that the call leaves. -/
theorem array : (dats m 0 c).arrAt 4 cfg0.N = sums (hK m c) (gK m c) (wK m c) (bK m c) := by
  refine (dats m 0 c).arrAt_eq_of_covers 4 _ (by decide +kernel) fun t hf y => ?_
  blk_simp
  rw [after0_4]
  have h0 : (y 0).val < 512 := (y 0).isLt
  have h1 : (y 1).val < 128 := (y 1).isLt
  have e : y = ix2 ⟨(y 0).val, h0⟩ ⟨(y 1).val, h1⟩ := by
    funext a
    match a with
    | ⟨0, _⟩ => rfl
    | ⟨1, _⟩ => rfl
  rw [e]
  have ht := points t
  have hi : ((win0_4.blk t).view.emb (ix2 ⟨(y 0).val, h0⟩ ⟨(y 1).val, h1⟩)) =
      ix2 (⟨512 * t.val + (y 0).val, by omega⟩ : Fin 16384) (⟨(y 1).val, h1⟩ : Fin 128) := by
    funext a
    apply Fin.ext
    match a with
    | ⟨0, _⟩ =>
      refine (win0_4.rect_emb_val t _ 0).trans ?_
      rw [(idx t).2.2.2.2.1.1]
      exact congrArg (· + _) (Nat.mul_comm _ _)
    | ⟨1, _⟩ =>
      refine (win0_4.rect_emb_val t _ 1).trans ?_
      rw [(idx t).2.2.2.2.1.2]
      exact Nat.zero_add _
  obtain ⟨z, hz, e1, -⟩ := stored m c t
  rw [e1]
  refine (tile_at m c t z _ (hz _) _).trans (Eq.trans ?_ (congrArg (sums (hK m c) (gK m c) (wK m c) (bK m c)) hi).symm)
  unfold sums
  refine congrArg₂ (fun q j => upTo _ _ _ _ q j _) (Fin.ext ?_) ?_
  · show t.val / 4 = (512 * t.val + (y 0).val) / 2048
    omega
  · show 512 * (t.val % 4) + (y 0).val + 1 = (512 * t.val + (y 0).val) % 2048 + 1
    omega

/-- The array of running sums turned over that it leaves. -/
theorem arrayTurned : (dats m 0 c).arrAt 5 cfg0.N = turned (hK m c) (gK m c) (wK m c) (bK m c) := by
  refine (dats m 0 c).arrAt_eq_of_covers 5 _ (by decide +kernel) fun t hf y => ?_
  blk_simp
  rw [after0_5]
  have h0 : (y 0).val < 1 := (y 0).isLt
  have h1 : (y 1).val < 128 := (y 1).isLt
  have h2 : (y 2).val < 512 := (y 2).isLt
  have e : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  rw [e]
  have ht := points t
  have hi : ((win0_5.blk t).view.emb (ix3 0 ⟨(y 1).val, h1⟩ ⟨(y 2).val, h2⟩)) =
      ix3 (⟨t.val / 4, by omega⟩ : Fin 8) (⟨(y 1).val, h1⟩ : Fin 128) (⟨512 * (t.val % 4) + (y 2).val, by omega⟩ : Fin 2048) := by
    funext a
    apply Fin.ext
    match a with
    | ⟨0, _⟩ =>
      refine (win0_5.rect_emb_val t _ 0).trans ?_
      rw [(idx t).2.2.2.2.2.1]
      exact Nat.mul_one _
    | ⟨1, _⟩ =>
      refine (win0_5.rect_emb_val t _ 1).trans ?_
      rw [(idx t).2.2.2.2.2.2.1]
      exact Nat.zero_add _
    | ⟨2, _⟩ =>
      refine (win0_5.rect_emb_val t _ 2).trans ?_
      rw [(idx t).2.2.2.2.2.2.2]
      exact congrArg (· + _) (Nat.mul_comm _ _)
  obtain ⟨z, hz, -, e2⟩ := stored m c t
  rw [e2]
  refine (turned_at _ z _ _).trans ((tile_at m c t z _ (hz _) _).trans (Eq.trans ?_ (congrArg (turned (hK m c) (gK m c) (wK m c) (bK m c)) hi).symm))
  rfl

end Cert.Forget

end
-- ==== Proof.ForgetRef.lean ====
/- The reference of the call that sums the forget gates, and the equality of the two programs' results. -/
module

public import proofs.«01_k».proof.Proof.ForgetWhole
public import proofs.«01_k».proof.Proof.Gen.Reference9Ideal.Run
public import proofs.«01_k».proof.Defs
public import Idealize.ShloMosaic.Lib.Quiescent

@[expose] public section

set_option maxRecDepth 16384

noncomputable section

namespace Cert.Forget

open Cert.Flat Cert.FfnIn Cert.Lru Idealize.ShloMosaic Idealize.ShloMosaic.TcCoe Idealize.SL.Sem

namespace Ref

open Cert.Reference9Ideal Cert.Reference9Ideal.Gen

/-- Adding up numbered terms from the left is their sum. -/
theorem foldl_sum {N : ℕ} (F : EReal → Fin N → EReal) (f : ℕ → EReal) (v : EReal) (hF : ∀ r n, F r n = r + f n.val) :
    (List.finRange N).foldl F v = v + ∑ j ∈ Finset.range N, f j := by
  have e : ∀ (L : List (Fin N)) (v : EReal), L.foldl F v = v + (L.map fun n => f n.val).sum := fun L => by
    induction L with
    | nil => intro v; simp
    | cons a L ih => intro v; rw [List.foldl_cons, ih, hF, List.map_cons, List.sum_cons, add_assoc]
  rw [e, ← Fin.sum_univ_def, Fin.sum_univ_eq_sum_range f]

/-- Of 2048 terms counted from `2047 - s` before the first, those from the first on are the first `s + 1`. -/
theorem shifted (F : ℕ → EReal) {s N : ℕ} (hs : s < 2048) (hN : N = 2048) :
    (∑ j ∈ Finset.range N, if 2047 ≤ s + j then F (s + j - 2047) else 0) = ∑ j ∈ Finset.range (s + 1), F j := by
  obtain rfl : N = (2047 - s) + (s + 1) := by omega
  rw [Finset.sum_range_add, Finset.sum_eq_zero fun j hj => if_neg (by have := Finset.mem_range.mp hj; omega), zero_add]
  refine Finset.sum_congr rfl fun j _ => (if_pos (by omega)).trans (congrArg F (by omega))

/-- The window of a running sum along the tokens. -/
abbrev window : Shape := ⟨3, ![1, 2048, 1]⟩

/-- It has 2048 places. -/
theorem window_numel : window.numel = 2048 := by decide +kernel

/-- Its place number `n` is its token `n`. -/
theorem window_at (i : window.Idx) (n : ℕ) (e : (window.rowMajor i).val = n) : (i 0).val = 0 ∧ (i 1).val = n ∧ (i 2).val = 0 := by
  have a0 : (i 0).val < 1 := (i 0).isLt
  have a2 : (i 2).val < 1 := (i 2).isLt
  rw [Shape.rowMajor_val_three i] at e
  change ((i 0).val * 2048 + (i 1).val) * 1 + (i 2).val = n at e
  omega

/-- A place of the window at a token lies inside the array, not in its padding. -/
abbrev Inside (q : Fin 8) (s : Fin 2048) (l : Fin 128) (i : window.Idx) : Prop :=
  ∀ a : Fin 3, (![0, 2047, 0] : Fin 3 → ℕ) a ≤ ((ix3 q s l : S8x2048x128.Idx) a).val * (![1, 1, 1] : Fin 3 → ℕ) a + (i a).val ∧
    ((ix3 q s l : S8x2048x128.Idx) a).val * (![1, 1, 1] : Fin 3 → ℕ) a + (i a).val - (![0, 2047, 0] : Fin 3 → ℕ) a < S8x2048x128.size a

/-- What a place of the window at a token shows: a token no later than it, or the padding. -/
theorem shown (x : FVec Ideal S8x2048x128 .f32) (v : EReal) (h0 : v = 0) (q : Fin 8) (s : Fin 2048) (l : Fin 128) (i : window.Idx) (n : ℕ) (hn : n < 2048)
    (i0 : (i 0).val = 0) (i1 : (i 1).val = n) (i2 : (i 2).val = 0) (dec : Decidable (Inside q s l i)) :
    (@dite _ (Inside q s l i) dec
      (fun hin => x (fun a => ⟨((ix3 q s l : S8x2048x128.Idx) a).val * (![1, 1, 1] : Fin 3 → ℕ) a + (i a).val - (![0, 2047, 0] : Fin 3 → ℕ) a, (hin a).2⟩))
      (fun _ => v)) = if 2047 ≤ s.val + n then x (ix3 q (tok (s.val + n - 2047)) l) else 0 := by
  have hs := s.isLt
  by_cases c : 2047 ≤ s.val + n
  · rw [if_pos c]
    refine (dif_pos fun a => ?_).trans (congrArg x (funext fun a => Fin.ext ?_))
    · match a with
      | ⟨0, _⟩ =>
        show 0 ≤ q.val * 1 + (i 0).val ∧ q.val * 1 + (i 0).val - 0 < 8
        omega
      | ⟨1, _⟩ =>
        show 2047 ≤ s.val * 1 + (i 1).val ∧ s.val * 1 + (i 1).val - 2047 < 2048
        omega
      | ⟨2, _⟩ =>
        show 0 ≤ l.val * 1 + (i 2).val ∧ l.val * 1 + (i 2).val - 0 < 128
        omega
    · match a with
      | ⟨0, _⟩ =>
        show q.val * 1 + (i 0).val - 0 = q.val
        omega
      | ⟨1, _⟩ =>
        show s.val * 1 + (i 1).val - 2047 = (s.val + n - 2047) % 2048
        omega
      | ⟨2, _⟩ =>
        show l.val * 1 + (i 2).val - 0 = l.val
        omega
  · rw [if_neg c]
    refine (dif_neg fun hin => c ?_).trans h0
    have h1 := (hin 1).1
    change 2047 ≤ s.val * 1 + (i 1).val at h1
    omega

/-- A running sum along the tokens, as a window of 2048 tokens padded low by 2047: the sum of the tokens so far. -/
theorem running (x : FVec Ideal S8x2048x128 .f32) (init : FVec Ideal S_ .f32) (h0 : init (Shape.Idx.first h_S_) = (0 : EReal)) (q : Fin 8) (s : Fin 2048) (l : Fin 128) :
    Host.reduceWindowAdd ![1, 2048, 1] ![1, 1, 1] ![0, 2047, 0] ![0, 0, 0] x init
      reduceWindows_S8x2048x128_S8x2048x128_w1s1p0_0_w2048s1p2047_0_w1s1p0_0 h_S_ (ix3 q s l) =
        ∑ j ∈ Finset.range (s.val + 1), x (ix3 q (tok j) l) := by
  unfold Host.reduceWindowAdd
  rw [Ideal.hostReduceWindowAdd_def]
  unfold Ideal.hostReduceWindowAdd Host.reduceWindow
  refine Eq.trans (foldl_sum (N := window.numel) _ (fun j => if 2047 ≤ s.val + j then x (ix3 q (tok (s.val + j - 2047)) l) else (0 : EReal)) _ fun r n => congrArg (r + ·) ?_) ?_
  · obtain ⟨i0, i1, i2⟩ := window_at (window.rowMajor.symm n) n.val (congrArg Fin.val (Equiv.apply_symm_apply _ n))
    exact shown x _ h0 q s l _ n.val (lt_of_lt_of_eq n.isLt window_numel) i0 i1 i2 _
  · exact (congrArg₂ (· + ·) h0 (shifted (fun j => x (ix3 q (tok j) l)) s.isLt window_numel)).trans (zero_add _)

variable (h : Vec Ideal S8x2048x4096 .f32) (g : Vec Ideal S2x4096 .f32) (w : Vec Ideal S2x4096x11272 .f32) (bf : Vec Ideal S2x8 .f32)

/-- The reference's gates before their log-sigmoid. -/
def plain : FVec Ideal S8x2048x128 .f32 :=
  addf (Host.dotGeneral (φ₁ := .f32) (φ₂ := .f32) dot_S8x2048x4096_S4096x128_S8x2048x128_2_0_01_1_n_n none (mulf (mulf h (broadcastInDim S8x2048x4096 ![0, 1, 2] bcast_S8x2048x1_S8x2048x4096_0_1_2 (Host.rsqrt (addf (Host.divf (broadcastInDim S8x2048x1 ![0, 1] bcast_S8x2048_S8x2048x1_0_1 (Host.reduceAdd (mulf h h) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))))) (broadcastInDim S8x2048x4096 ![0, 1, 2] bcast_S1x1x4096_S8x2048x4096_0_1_2 (broadcastInDim S1x1x4096 ![2] bcast_S4096_S1x1x4096_2 (shapeCast S4096 (extractStridedSlice S1x4096 ![0, 0] g slices_S2x4096_S1x4096_0_0) shapeCasts_S1x4096_S4096)))) (extractStridedSlice S4096x128 ![0, 5120] (shapeCast S4096x11272 (extractStridedSlice S1x4096x11272 ![0, 0, 0] w slices_S2x4096x11272_S1x4096x11272_0_0_0) shapeCasts_S1x4096x11272_S4096x11272) slices_S4096x11272_S4096x128_0_5120)) (broadcastInDim S8x2048x128 ![0, 1, 2] bcast_S1x1x128_S8x2048x128_0_1_2 (broadcastInDim S1x1x128 ![2] bcast_S128_S1x1x128_2 (pad S128 ![0] ![120] ![0] (shapeCast S8 (extractStridedSlice S1x8 ![0, 0] bf slices_S2x8_S1x8_0_0) shapeCasts_S1x8_S8) (sitofp .f32 (constantI S_ 32 0#32) : FVec Ideal S_ .f32) pads_S8_S128_01200 h_S_)))

/-- One of them: a channel of the mixer's opening plus its bias. -/
theorem plain_apply (q : Fin 8) (s : Fin 2048) (l : Fin 128) :
    plain h g w bf (ix3 q s l) = Mix.column h g w q s ⟨5120 + l.val, by omega⟩ + bias bf l := by
  unfold plain Mix.column bias
  simp only [rowScale_eq]
  pointwise
  rw [Lru.Ref.sitofp_zero]

/-- The log-sigmoid of an array, as the reference spells it. -/
def logSigs (z : FVec Ideal S8x2048x128 .f32) : FVec Ideal S8x2048x128 .f32 :=
  Host.negf (select (cmpf .une (subf (Host.negf z) (broadcastInDim S8x2048x128 ![] bcast_S_S8x2048x128 (constant S_ .f32 0x00000000#32))) (subf (Host.negf z) (broadcastInDim S8x2048x128 ![] bcast_S_S8x2048x128 (constant S_ .f32 0x00000000#32)))) (addf (Host.negf z) (broadcastInDim S8x2048x128 ![] bcast_S_S8x2048x128 (constant S_ .f32 0x00000000#32)))
    (addf (maximumf (Host.negf z) (broadcastInDim S8x2048x128 ![] bcast_S_S8x2048x128 (constant S_ .f32 0x00000000#32))) (Host.log1p (Host.exp (Host.negf (Host.absf (subf (Host.negf z) (broadcastInDim S8x2048x128 ![] bcast_S_S8x2048x128 (constant S_ .f32 0x00000000#32)))))))))

/-- One of its entries. -/
theorem logSigs_apply (z : FVec Ideal S8x2048x128 .f32) (q : Fin 8) (s : Fin 2048) (l : Fin 128) : logSigs z (ix3 q s l) = logSig (z (ix3 q s l)) := by
  unfold logSigs logSig softplus
  pointwise
  rw [if_neg (by simp)]
  rfl

/-- The reference's running sums. -/
def runningSums : FVec Ideal S8x2048x128 .f32 :=
  Host.reduceWindowAdd ![1, 2048, 1] ![1, 1, 1] ![0, 2047, 0] ![0, 0, 0] (logSigs (plain h g w bf))
    (broadcastInDim S_ ![] bcast_S_S_ (constant S_ .f32 0x00000000#32))
    reduceWindows_S8x2048x128_S8x2048x128_w1s1p0_0_w2048s1p2047_0_w1s1p0_0 h_S_

/-- One of them. -/
theorem runningSums_apply (q : Fin 8) (s : Fin 2048) (l : Fin 128) : runningSums h g w bf (ix3 q s l) = upTo h g w bf q (s.val + 1) l := by
  refine (running _ _ ?_ q s l).trans (Finset.sum_congr rfl fun j _ => (logSigs_apply _ _ _ _).trans (congrArg logSig (plain_apply h g w bf _ _ _)))
  pointwise

/-- The reference's first result: the running sums, its tokens flattened. -/
theorem sums_ref : (shapeCast S16384x128 (runningSums h g w bf) shapeCasts_S8x2048x128_S16384x128 : FVec Ideal S16384x128 .f32) = sums h g w bf := by
  have hG := runningSums_apply h g w bf
  generalize runningSums h g w bf = G at hG
  funext i
  idx_vars i
  unfold sums
  pointwise
  rw [hG]

/-- The reference's second result: the running sums, tokens along the last axis. -/
theorem turned_ref : (transpose S8x128x2048 [0, 2, 1] (runningSums h g w bf) transposes_S8x2048x128_S8x128x2048_0_2_1 : FVec Ideal S8x128x2048 .f32) = turned h g w bf := by
  have hG := runningSums_apply h g w bf
  generalize runningSums h g w bf = G at hG
  funext i
  idx_vars i
  unfold turned
  pointwise
  rw [hG]

end Ref

/-- The reference runs, its arguments end unchanged and it leaves no semaphore raised: it has none. -/
theorem frame_reference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run m ρ)

/-- The call's two results and the reference's are the same arrays. -/
theorem values_equal : Cert.algebraic_Kernel9Ideal_Reference9Ideal := by
  intro m g m' g' _ hagree
  refine ⟨fun c => sums (hK m c) (gK m c) (wK m c) (bK m c), fun c => turned (hK m c) (gK m c) (wK m c) (bK m c), ?_, ?_⟩
  · exact (θ_run Cert.Kernel9Ideal.defs _ _).mono (fun r h c => ⟨(h c).1.trans (array m c), (h c).2.1.trans (arrayTurned m c), (h c).2.2⟩)
      (Cert.Kernel9Ideal.Value.run_blocks m g)
  · refine (θ_run Cert.Reference9Ideal.defs _ _).mono (fun r h c => ⟨(h c).1.trans ?_, (h c).2.1.trans ?_, (h c).2.2⟩)
      (Cert.Reference9Ideal.Value.run m' g')
    all_goals obtain ⟨e0, e1, e2, e3⟩ := hagree c
    · unfold Cert.Reference9Ideal.Value.res_main_v27
      refine (Ref.sums_ref _ _ _ _).trans ?_
      rw [e0, e1, e2, e3]
    · unfold Cert.Reference9Ideal.Value.res_main_v28
      refine (Ref.turned_ref _ _ _ _).trans ?_
      rw [e0, e1, e2, e3]

end Cert.Forget

end
-- ==== Proof.GatePrep.lean ====
/- The preparation of the forget gates' weights, turned, with their gains: what the call's grid points store, the array they
   leave, the reference, and the equality. -/
module

public import proofs.«01_k».proof.Proof.Prep
public import proofs.«01_k».proof.Proof.Gen.Kernel10Ideal.Value
public import proofs.«01_k».proof.Proof.Gen.Reference10Ideal.Run
public import proofs.«01_k».proof.Defs
public import Idealize.ShloMosaic.Lib.Quiescent

@[expose] public section

set_option maxRecDepth 16384

noncomputable section

namespace Cert.Mix.Gate

open Cert.Lru Idealize.ShloMosaic Idealize.ShloMosaic.TcCoe Idealize.SL.Sem Idealize.ShloMosaic.StableHlo

section Kernel

open Cert.Kernel10Ideal Cert.Kernel10Ideal.Gen

/-- Whether a grid point's columns are queries, as the kernel computes it. -/
def bit (i : grid0.Coords) : BitVec 1 :=
  Scalar.andi (Scalar.cmpi .sge (BitVec.ofNat 32 (i 1).val) 0#32) (Scalar.cmpi .slt (BitVec.ofNat 32 (i 1).val) 0#32)

/-- What one point stores: its weights, each times its gain and the point's scale. -/
theorem stored (i : grid0.Coords) (x0 : Vec Ideal S128x4096 .f32) (x1 : Vec Ideal S1x1x4096 .f32) (n : Fin 128) (k : Fin 4096) :
    (out0_2 i x0 x1 : FVec Ideal S1x128x4096 .bf16) (ix3 0 n k) = x0 (ix2 n k) * (x1 (ix3 0 0 k) * pick (bit i)) := by
  unfold out0_2 pick bit
  rw [View.canon_unit_zero corner3, View.ld_unit_zero (S := S128x4096) corner, View.ld_unit_zero (S := S1x1x4096) corner3]
  pointwise [k0_pay1]
  rfl

/-- Where the windows stand at point `t`: one point for each of the two layers. -/
theorem idx (t : Fin cfg0.N) : (win0_0.index t 0 = 11272 * t.val + 5120 ∧ win0_0.index t 1 = 0) ∧
    (win0_1.index t 0 = t.val ∧ win0_1.index t 1 = 0 ∧ win0_1.index t 2 = 0) ∧
    (win0_2.index t 0 = t.val ∧ win0_2.index t 1 = 0 ∧ win0_2.index t 2 = 0) := by
  revert t; decide +kernel

/-- No column is a query here. -/
theorem bit_eq (t : Fin cfg0.N) : bit (grid0.coords t) = 0#1 := by
  revert t; decide +kernel

/-- So the scale is one. -/
theorem pick_eq (t : Fin cfg0.N) : pick (bit (grid0.coords t)) = 1 := by
  rw [bit_eq]
  unfold pick
  rw [if_neg (by decide), word_one]

variable (m : (ℓ : Loc nD τ sig) → Buf (Elt Ideal) ℓ) (c : Dev nD)

/-- The gains, as launched. -/
abbrev gK : Vec Ideal S2x4096 .f32 := m ((c : Thread nD τ).loc main_arg0)

/-- The weights, as launched. -/
abbrev wK : Vec Ideal S2x4096x11272 .f32 := m ((c : Thread nD τ).loc main_arg1)

/-- The transposed weights of both layers, one under the other. -/
theorem stack (l : Fin 2) (n : Fin 11272) (k : Fin 4096) (R : Fin 22544) (hR : R.val = 11272 * l.val + n.val) :
    (V m c main_v1 : FVec Ideal S22544x4096 .f32) (ix2 R k) = wK m c (ix3 l k n) := by
  have e : V m c main_v1 = (shapeCast S22544x4096 (transpose S2x11272x4096 [0, 2, 1] (wK m c) transposes_S2x4096x11272_S2x11272x4096_0_2_1 : FVec Ideal S2x11272x4096 .f32) shapeCasts_S2x11272x4096_S22544x4096 : FVec Ideal S22544x4096 .f32) := by
    unfold V
    after_results
    rfl
  rw [e]
  pointwise
  have h1 : (⟨R.val / 11272, by omega⟩ : Fin 2) = l := Fin.ext (by show R.val / 11272 = l.val; omega)
  have h2 : (⟨R.val % 11272, by omega⟩ : Fin 11272) = n := Fin.ext (by show R.val % 11272 = n.val; omega)
  rw [h1, h2]

/-- The block of weights. -/
theorem blk0 (t : Fin cfg0.N) (n : Fin 128) (k : Fin 4096) : (iblk m c 0 t : FVec Ideal S128x4096 .f32) (ix2 n k) =
    (V m c main_v1 : FVec Ideal S22544x4096 .f32) (ix2 ⟨11272 * t.val + (5120 + n.val), by
      have := t.isLt; have e : cfg0.N = 2 := rfl; omega⟩ k) := by
  unfold iblk
  generalize V m c = f
  blk_simp [idx t]
  blk_ext! [idx t]
  · refine (win0_0.rect_emb_val_off t (ix2 n k) 0).trans ?_
    rw [(idx t).1.1]
    show 11272 * t.val + 5120 + n.val = _
    omega
  · refine (win0_0.rect_emb_val_off t (ix2 n k) 1).trans ?_
    rw [(idx t).1.2]
    exact Nat.zero_add _

/-- The block of gains: one layer's. -/
theorem blk1 (t : Fin cfg0.N) (k : Fin 4096) : (iblk m c 1 t : FVec Ideal S1x1x4096 .f32) (ix3 0 0 k) =
    gK m c (ix2 ⟨t.val, by have := t.isLt; have e : cfg0.N = 2 := rfl; omega⟩ k) := by
  blk_simp [iblk, V, idx t]
  entry_read
  pointwise
  blk_ext [iblk, V, idx t]

/-- The prepared weights of both layers, a gate to a row. -/
def weights (g : Vec Ideal S2x4096 .f32) (w : Vec Ideal S2x4096x11272 .f32) : Vec Ideal S2x128x4096 .bf16 := fun i =>
  have h1 : (i 1).val < 128 := (i 1).isLt
  (w (ix3 (⟨(i 0).val, (i 0).isLt⟩ : Fin 2) (⟨(i 2).val, (i 2).isLt⟩ : Fin 4096) (⟨5120 + (i 1).val, by omega⟩ : Fin 11272)) : EReal) *
    g (ix2 (⟨(i 0).val, (i 0).isLt⟩ : Fin 2) (⟨(i 2).val, (i 2).isLt⟩ : Fin 4096))

/-- The array the call leaves. -/
theorem array : (dats m 0 c).arrAt 2 cfg0.N = weights (gK m c) (wK m c) := by
  refine (dats m 0 c).arrAt_eq_of_covers 2 _ (by decide +kernel) fun t hf y => ?_
  blk_simp
  rw [after0_2]
  have h0 : (y 0).val < 1 := (y 0).isLt
  have h1 : (y 1).val < 128 := (y 1).isLt
  have h2 : (y 2).val < 4096 := (y 2).isLt
  have e : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  rw [e]
  have ht : t.val < 2 := t.isLt
  have hi : ((win0_2.blk t).view.emb (ix3 0 ⟨(y 1).val, h1⟩ ⟨(y 2).val, h2⟩)) =
      ix3 (⟨t.val, by omega⟩ : Fin 2) (⟨(y 1).val, h1⟩ : Fin 128) (⟨(y 2).val, h2⟩ : Fin 4096) := by
    funext a
    apply Fin.ext
    match a with
    | ⟨0, _⟩ =>
      refine (win0_2.rect_emb_val t _ 0).trans ?_
      rw [(idx t).2.2.1]
      exact Nat.mul_one _
    | ⟨1, _⟩ =>
      refine (win0_2.rect_emb_val t _ 1).trans ?_
      rw [(idx t).2.2.2.1]
      exact Nat.zero_add _
    | ⟨2, _⟩ =>
      refine (win0_2.rect_emb_val t _ 2).trans ?_
      rw [(idx t).2.2.2.2]
      exact Nat.zero_add _
  refine (stored _ _ _ _ _).trans ?_
  refine Eq.trans ?_ (congrArg (weights (gK m c) (wK m c)) hi).symm
  refine (congrArg₂ (fun a b : EReal => a * b) ((blk0 m c t _ _).trans (stack m c ⟨t.val, by omega⟩ ⟨5120 + (y 1).val, by omega⟩ _ _ rfl))
    (congrArg₂ (fun a b : EReal => a * b) (blk1 m c t _) (pick_eq t))).trans ?_
  exact congrArg (_ * ·) (mul_one _)

end Kernel

section Reference

open Cert.Reference10Ideal Cert.Reference10Ideal.Gen

/-- The reference's gate columns, with their gains and turned. -/
theorem weights_ref (g : Vec Ideal S2x4096 .f32) (w : Vec Ideal S2x4096x11272 .f32) (G : FVec Ideal S2x4096x11272 .f32)
    (hG : ∀ l k n, G (ix3 l k n) = w (ix3 l k n) * g (ix2 l k)) :
    (truncf .bf16 (transpose S2x128x4096 [0, 2, 1] (extractStridedSlice S2x4096x128 ![0, 0, 5120] G slices_S2x4096x11272_S2x4096x128_0_0_5120)
      transposes_S2x4096x128_S2x128x4096_0_2_1 : FVec Ideal S2x128x4096 .f32) bitsLt_bf16_f32 : FVec Ideal S2x128x4096 .bf16) = weights g w := by
  funext i
  idx_vars i
  unfold weights
  pointwise
  rw [hG]

end Reference

/-- The reference runs, its arguments end unchanged and it leaves no semaphore raised: it has none. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- The call's result and the reference's are the same array. -/
theorem values_equal : Cert.algebraic_Kernel10Ideal_Reference10Ideal := by
  intro m g m' g' _ hagree
  refine ⟨fun c => weights (gK m c) (wK m c), ?_, ?_⟩
  · exact (θ_run Cert.Kernel10Ideal.defs _ _).mono (fun r h c => ⟨(h c).1.trans (array m c), (h c).2⟩)
      (Cert.Kernel10Ideal.Value.run_blocks m g)
  · refine (θ_run Cert.Reference10Ideal.defs _ _).mono (fun r h c => ⟨(h c).1.trans ?_, (h c).2⟩)
      (Cert.Reference10Ideal.Value.run m' g')
    obtain ⟨e0, e1⟩ := hagree c
    refine Eq.trans (b := weights (gK m c) (wK m c)) ?_ rfl
    rw [e0, e1]
    exact weights_ref _ _ (gained _ _) (gained_apply _ _)

end Cert.Mix.Gate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Whole
public import proofs.«01_k».proof.Proof.Ref
public import proofs.«01_k».proof.Proof.FfnRef
public import proofs.«01_k».proof.Proof.OutRef
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.MixRef
public import proofs.«01_k».proof.Proof.Prep
public import proofs.«01_k».proof.Proof.MixOutRef
public import proofs.«01_k».proof.Proof.Last
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.ForgetRef
public import proofs.«01_k».proof.Proof.GatePrep
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import Idealize.ShloMosaic.Adequacy
public import Idealize.ShloMosaic.Init
public import Idealize.ShloMosaic.Lib.Quiescent

@[expose] public section

noncomputable section

namespace Cert.Proof

open Idealize.ShloMosaic Idealize.SL.Sem Cert.Lru

/-- The reference runs, its arguments end unchanged and it leaves no semaphore raised: it has none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The kernel's result and the reference's are the same array: the branch over the whole input. -/
theorem values_equal : Cert.algebraic_KernelIdeal_ReferenceIdeal := by
  intro m g m' g' _ hagree
  refine ⟨fun c => Cert.KernelIdeal.Value.G10 m c, Cert.KernelIdeal.Value.run m g, ?_⟩
  refine (θ_run Cert.ReferenceIdeal.defs _ _).mono (fun r h c => ⟨(h c).1.trans ?_, (h c).2⟩) (Ref.run m' g')
  obtain ⟨e0, e1, e2, e3, e4, e5, e6, e7, e8⟩ := hagree c
  have hs := Ref.states_ref (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (Ref.iter m' c) rfl (fun _ => rfl) 2048 le_rfl
  refine (Ref.whole_ref _ _ _ _ _ _ _ _ _ (Ref.iter m' c 2048) fun t b ch => hs.2.2.2 t b ch t.isLt).trans ?_
  refine Eq.trans ?_ (result_eq m c).symm
  rw [e0, e1, e2, e3, e4, e5, e6, e7, e8]
  rfl

/-- Every claim of the certificate: the frames of all programs, and for each kernel that its idealization preserves it and
    that its results equal its reference's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, Cert.FfnIn.frame_reference,
  fun m ρ _ => Cert.Kernel3.Gen.frame m ρ, fun m ρ _ => Cert.Kernel3Ideal.Gen.frame m ρ, Cert.FfnOut.frame_reference,
  fun m ρ _ => Cert.Kernel4.Gen.frame m ρ, fun m ρ _ => Cert.Kernel4Ideal.Gen.frame m ρ, Cert.Mix.frame_reference,
  fun m ρ _ => Cert.Kernel5.Gen.frame m ρ, fun m ρ _ => Cert.Kernel5Ideal.Gen.frame m ρ, Cert.Mix.Head.frame_reference,
  fun m ρ _ => Cert.Kernel6.Gen.frame m ρ, fun m ρ _ => Cert.Kernel6Ideal.Gen.frame m ρ, Cert.Mix.Tail.frame_reference,
  fun m ρ _ => Cert.Kernel7.Gen.frame m ρ, fun m ρ _ => Cert.Kernel7Ideal.Gen.frame m ρ, Cert.MixOut.frame_reference,
  fun m ρ _ => Cert.Kernel8.Gen.frame m ρ, fun m ρ _ => Cert.Kernel8Ideal.Gen.frame m ρ, Cert.Last.frame_reference,
  fun m ρ _ => Cert.Kernel9.Gen.frame m ρ, fun m ρ _ => Cert.Kernel9Ideal.Gen.frame m ρ, Cert.Forget.frame_reference,
  fun m ρ _ => Cert.Kernel10.Gen.frame m ρ, fun m ρ _ => Cert.Kernel10Ideal.Gen.frame m ρ, Cert.Mix.Gate.frame_reference,
  trivial, values_equal, trivial, Cert.FfnIn.values_equal, trivial, Cert.FfnOut.values_equal, trivial, Cert.Mix.values_equal,
  trivial, Cert.Mix.Head.values_equal, trivial, Cert.Mix.Tail.values_equal, trivial, Cert.MixOut.values_equal,
  trivial, Cert.Last.values_equal, trivial, Cert.Forget.values_equal, trivial, Cert.Mix.Gate.values_equal⟩

end Cert.Proof

end
